-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16384x2048 : Shape := ⟨3, ![4, 16384, 2048]⟩
abbrev S4x16384x16 : Shape := ⟨3, ![4, 16384, 16]⟩
abbrev S_ : Shape := ⟨0, ![]⟩

class Facts : Prop where
  bcast_S_S4x16384x16 : S_.BroadcastsInDim S4x16384x16 (![] : Fin 0 → Fin S4x16384x16.rank)
  reducesTo_S4x16384x16_S_d0_1_2 : S4x16384x16.ReducesTo [0, 1, 2] S_
  h_S_ : 0 < S_.numel
  bcast_S_S4x16384x2048 : S_.BroadcastsInDim S4x16384x2048 (![] : Fin 0 → Fin S4x16384x2048.rank)
  reducesTo_S4x16384x2048_S_d0_1_2 : S4x16384x2048.ReducesTo [0, 1, 2] S_

variable [Facts]

def fn_part1 {F : FTy → Type} [FloatOps F] (main_v12 : IVec S_ 1) (main_v15 : IVec S4x16384x16 1) (main_c_5 : IVec S_ 1) : IVec S_ 1 :=
  let main_v16 : IVec S_ 1 := (fun x v => Host.reduce IntOp.andi x v reducesTo_S4x16384x16_S_d0_1_2 h_S_) main_v15 main_c_5
  let main_v17 : IVec S_ 1 := andi main_v12 main_v16
  main_v17

def fn {F : FTy → Type} [FloatOps F] (main_arg0 : FVec F S4x16384x2048 .fp8e4m3) (main_arg1 : FVec F S4x16384x16 .f32) (main_arg2 : FVec F S4x16384x2048 .fp8e4m3) (main_arg3 : FVec F S4x16384x16 .f32) (main_arg4 : IVec S4x16384x2048 8) (main_arg5 : FVec F S4x16384x16 .f32) : IVec S_ 1 :=
  let main_cst : FVec F S_ .f32 := constant S_ .f32 0x00000000#32
  let main_v0 : FVec F S4x16384x16 .f32 := broadcastInDim S4x16384x16 ![] bcast_S_S4x16384x16 main_cst
  let main_v1 : IVec S4x16384x16 1 := cmpf .ogt main_arg1 main_v0
  let main_cst_0 : FVec F S_ .f32 := constant S_ .f32 0x7F800000#32
  let main_v2 : FVec F S4x16384x16 .f32 := broadcastInDim S4x16384x16 ![] bcast_S_S4x16384x16 main_cst_0
  let main_v3 : IVec S4x16384x16 1 := cmpf .olt main_arg1 main_v2
  let main_v4 : IVec S4x16384x16 1 := andi main_v1 main_v3
  let main_c : IVec S_ 1 := constantI S_ 1 1#1
  let main_v5 : IVec S_ 1 := (fun x v => Host.reduce IntOp.andi x v reducesTo_S4x16384x16_S_d0_1_2 h_S_) main_v4 main_c
  let main_c_1 : IVec S_ 8 := constantI S_ 8 127#8
  let main_v6 : IVec S4x16384x2048 8 := broadcastInDim S4x16384x2048 ![] bcast_S_S4x16384x2048 main_c_1
  let main_v7 : IVec S4x16384x2048 1 := cmpi .ne main_arg4 main_v6
  let main_c_2 : IVec S_ 8 := constantI S_ 8 255#8
  let main_v8 : IVec S4x16384x2048 8 := broadcastInDim S4x16384x2048 ![] bcast_S_S4x16384x2048 main_c_2
  let main_v9 : IVec S4x16384x2048 1 := cmpi .ne main_arg4 main_v8
  let main_v10 : IVec S4x16384x2048 1 := andi main_v7 main_v9
  let main_c_3 : IVec S_ 1 := constantI S_ 1 1#1
  let main_v11 : IVec S_ 1 := (fun x v => Host.reduce IntOp.andi x v reducesTo_S4x16384x2048_S_d0_1_2 h_S_) main_v10 main_c_3
  let main_v12 : IVec S_ 1 := andi main_v5 main_v11
  let main_v13 : FVec F S4x16384x16 .f32 := Host.absf main_arg5
  let main_cst_4 : FVec F S_ .f32 := constant S_ .f32 0x7E000000#32
  let main_v14 : FVec F S4x16384x16 .f32 := broadcastInDim S4x16384x16 ![] bcast_S_S4x16384x16 main_cst_4
  let main_v15 : IVec S4x16384x16 1 := cmpf .ole main_v13 main_v14
  let main_c_5 : IVec S_ 1 := constantI S_ 1 1#1
  fn_part1 (F := F) main_v12 main_v15 main_c_5
-- ==== Kernel.lean ====
abbrev S4x16384x2048 : Shape := ⟨3, ![4, 16384, 2048]⟩
abbrev S4x16384x16 : Shape := ⟨3, ![4, 16384, 16]⟩
abbrev S4x1x16384 : Shape := ⟨3, ![4, 1, 16384]⟩
abbrev S1x256x2048 : Shape := ⟨3, ![1, 256, 2048]⟩
abbrev S1x256x16 : Shape := ⟨3, ![1, 256, 16]⟩
abbrev S1x1x256 : Shape := ⟨3, ![1, 1, 256]⟩
abbrev S5x256x2048 : Shape := ⟨3, ![5, 256, 2048]⟩
abbrev S5x2048x256 : Shape := ⟨3, ![5, 2048, 256]⟩
abbrev S5x16x256x128 : Shape := ⟨4, ![5, 16, 256, 128]⟩
abbrev S5x256x256 : Shape := ⟨3, ![5, 256, 256]⟩
abbrev S2048x256 : Shape := ⟨2, ![2048, 256]⟩
abbrev S16x1x256 : Shape := ⟨3, ![16, 1, 256]⟩
abbrev S256x2048 : Shape := ⟨2, ![256, 2048]⟩
abbrev S256x16 : Shape := ⟨2, ![256, 16]⟩
abbrev S16x256 : Shape := ⟨2, ![16, 256]⟩
abbrev S1x256 : Shape := ⟨2, ![1, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x256x1 : Shape := ⟨3, ![1, 256, 1]⟩
abbrev S256x1 : Shape := ⟨2, ![256, 1]⟩
abbrev S1x1x256x128 : Shape := ⟨4, ![1, 1, 256, 128]⟩
abbrev S1x128 : Shape := ⟨2, ![1, 128]⟩
abbrev S256x256 : Shape := ⟨2, ![256, 256]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S1x1x128 : Shape := ⟨3, ![1, 1, 128]⟩
abbrev S256 : Shape := ⟨1, ![256]⟩

abbrev nBuf : Space → Nat
  | .hbm => 9
  | .vmem => 23
  | .smem => 0
  | _ => 0

abbrev bufTy : (tb : Table) → Fin (tcTables nBuf tb) → BufTy
  | .hbm, ⟨0, _⟩ => ⟨S4x16384x2048, .fp8e4m3⟩
  | .hbm, ⟨1, _⟩ => ⟨S4x16384x16, .f32⟩
  | .hbm, ⟨2, _⟩ => ⟨S4x16384x2048, .fp8e4m3⟩
  | .hbm, ⟨3, _⟩ => ⟨S4x16384x16, .f32⟩
  | .hbm, ⟨4, _⟩ => ⟨S4x16384x2048, .i8⟩
  | .hbm, ⟨5, _⟩ => ⟨S4x16384x16, .f32⟩
  | .hbm, ⟨6, _⟩ => ⟨S4x16384x2048, .fp8e4m3⟩
  | .hbm, ⟨7, _⟩ => ⟨S4x16384x2048, .fp8e4m3⟩
  | .hbm, ⟨8, _⟩ => ⟨S4x1x16384, .f32⟩
  | .local _ .vmem, ⟨0, _⟩ => ⟨S1x256x2048, .fp8e4m3⟩
  | .local _ .vmem, ⟨1, _⟩ => ⟨S1x256x2048, .fp8e4m3⟩
  | .local _ .vmem, ⟨2, _⟩ => ⟨S1x256x16, .f32⟩
  | .local _ .vmem, ⟨3, _⟩ => ⟨S1x256x16, .f32⟩
  | .local _ .vmem, ⟨4, _⟩ => ⟨S1x256x2048, .fp8e4m3⟩
  | .local _ .vmem, ⟨5, _⟩ => ⟨S1x256x2048, .fp8e4m3⟩
  | .local _ .vmem, ⟨6, _⟩ => ⟨S1x256x16, .f32⟩
  | .local _ .vmem, ⟨7, _⟩ => ⟨S1x256x16, .f32⟩
  | .local _ .vmem, ⟨8, _⟩ => ⟨S1x256x2048, .fp8e4m3⟩
  | .local _ .vmem, ⟨9, _⟩ => ⟨S1x256x2048, .fp8e4m3⟩
  | .local _ .vmem, ⟨10, _⟩ => ⟨S1x256x16, .f32⟩
  | .local _ .vmem, ⟨11, _⟩ => ⟨S1x256x16, .f32⟩
  | .local _ .vmem, ⟨12, _⟩ => ⟨S1x256x2048, .fp8e4m3⟩
  | .local _ .vmem, ⟨13, _⟩ => ⟨S1x256x2048, .fp8e4m3⟩
  | .local _ .vmem, ⟨14, _⟩ => ⟨S1x1x256, .f32⟩
  | .local _ .vmem, ⟨15, _⟩ => ⟨S1x1x256, .f32⟩
  | .local _ .vmem, ⟨16, _⟩ => ⟨S5x256x2048, .fp8e4m3⟩
  | .local _ .vmem, ⟨17, _⟩ => ⟨S5x2048x256, .bf16⟩
  | .local _ .vmem, ⟨18, _⟩ => ⟨S5x16x256x128, .f32⟩
  | .local _ .vmem, ⟨19, _⟩ => ⟨S5x256x256, .f32⟩
  | .local _ .vmem, ⟨20, _⟩ => ⟨S2048x256, .f32⟩
  | .local _ .vmem, ⟨21, _⟩ => ⟨S16x1x256, .f32⟩
  | .local _ .vmem, ⟨22, _⟩ => ⟨S16x1x256, .f32⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 64], ![false, false]⟩

def k0_off1 (i : grid0.Coords) : Fin 3 → Nat :=
  let arg1 : BitVec 32 := BitVec.ofNat 32 (i 1).val
  let c5_i32 : BitVec 32 := 5#32
  let v0 : BitVec 32 := Scalar.remsi arg1 c5_i32
  let v3 : Index := Scalar.indexCast v0
  let c0_2 : Index := 0#32
  let c0_3 : Index := 0#32
  ![v3.toNat, 0, 0]
def k0_off2 (i : grid0.Coords) : Fin 3 → Nat :=
  let arg1 : BitVec 32 := BitVec.ofNat 32 (i 1).val
  let c5_i32 : BitVec 32 := 5#32
  let v0 : BitVec 32 := Scalar.remsi arg1 c5_i32
  let v27 : Index := Scalar.indexCast v0
  let c0_16 : Index := 0#32
  let c0_17 : Index := 0#32
  ![v27.toNat, 0, 0]
def k0_off3 (i : grid0.Coords) : Fin 4 → Nat :=
  let arg1 : BitVec 32 := BitVec.ofNat 32 (i 1).val
  let c5_i32 : BitVec 32 := 5#32
  let v0 : BitVec 32 := Scalar.remsi arg1 c5_i32
  let v35 : Index := Scalar.indexCast v0
  let c0_21 : Index := 0#32
  let c0_22 : Index := 0#32
  let c0_23 : Index := 0#32
  ![v35.toNat, 0, 0, 0]
def k0_off4 (i : grid0.Coords) : Fin 3 → Nat :=
  let arg1 : BitVec 32 := BitVec.ofNat 32 (i 1).val
  let c5_i32 : BitVec 32 := 5#32
  let v0 : BitVec 32 := Scalar.remsi arg1 c5_i32
  let v50 : Index := Scalar.indexCast v0
  let c128_28 : Index := 128#32
  let c0_29 : Index := 0#32
  ![v50.toNat, 128, 0]
def k0_off5 (i : grid0.Coords) : Fin 4 → Nat :=
  let arg1 : BitVec 32 := BitVec.ofNat 32 (i 1).val
  let c5_i32 : BitVec 32 := 5#32
  let v0 : BitVec 32 := Scalar.remsi arg1 c5_i32
  let v58 : Index := Scalar.indexCast v0
  let c1_33 : Index := 1#32
  let c0_34 : Index := 0#32
  let c0_35 : Index := 0#32
  ![v58.toNat, 1, 0, 0]
def k0_off6 (i : grid0.Coords) : Fin 3 → Nat :=
  let arg1 : BitVec 32 := BitVec.ofNat 32 (i 1).val
  let c5_i32 : BitVec 32 := 5#32
  let v0 : BitVec 32 := Scalar.remsi arg1 c5_i32
  let v73 : Index := Scalar.indexCast v0
  let c256_40 : Index := 256#32
  let c0_41 : Index := 0#32
  ![v73.toNat, 256, 0]
def k0_off7 (i : grid0.Coords) : Fin 4 → Nat :=
  let arg1 : BitVec 32 := BitVec.ofNat 32 (i 1).val
  let c5_i32 : BitVec 32 := 5#32
  let v0 : BitVec 32 := Scalar.remsi arg1 c5_i32
  let v81 : Index := Scalar.indexCast v0
  let c2_45 : Index := 2#32
  let c0_46 : Index := 0#32
  let c0_47 : Index := 0#32
  ![v81.toNat, 2, 0, 0]
def k0_off8 (i : grid0.Coords) : Fin 3 → Nat :=
  let arg1 : BitVec 32 := BitVec.ofNat 32 (i 1).val
  let c5_i32 : BitVec 32 := 5#32
  let v0 : BitVec 32 := Scalar.remsi arg1 c5_i32
  let v96 : Index := Scalar.indexCast v0
  let c384_52 : Index := 384#32
  let c0_53 : Index := 0#32
  ![v96.toNat, 384, 0]
def k0_off9 (i : grid0.Coords) : Fin 4 → Nat :=
  let arg1 : BitVec 32 := BitVec.ofNat 32 (i 1).val
  let c5_i32 : BitVec 32 := 5#32
  let v0 : BitVec 32 := Scalar.remsi arg1 c5_i32
  let v104 : Index := Scalar.indexCast v0
  let c3_57 : Index := 3#32
  let c0_58 : Index := 0#32
  let c0_59 : Index := 0#32
  ![v104.toNat, 3, 0, 0]
def k0_off10 (i : grid0.Coords) : Fin 3 → Nat :=
  let arg1 : BitVec 32 := BitVec.ofNat 32 (i 1).val
  let c5_i32 : BitVec 32 := 5#32
  let v0 : BitVec 32 := Scalar.remsi arg1 c5_i32
  let v119 : Index := Scalar.indexCast v0
  let c512_64 : Index := 512#32
  let c0_65 : Index := 0#32
  ![v119.toNat, 512, 0]
def k0_off11 (i : grid0.Coords) : Fin 4 → Nat :=
  let arg1 : BitVec 32 := BitVec.ofNat 32 (i 1).val
  let c5_i32 : BitVec 32 := 5#32
  let v0 : BitVec 32 := Scalar.remsi arg1 c5_i32
  let v127 : Index := Scalar.indexCast v0
  let c4_69 : Index := 4#32
  let c0_70 : Index := 0#32
  let c0_71 : Index := 0#32
  ![v127.toNat, 4, 0, 0]
def k0_off12 (i : grid0.Coords) : Fin 3 → Nat :=
  let arg1 : BitVec 32 := BitVec.ofNat 32 (i 1).val
  let c5_i32 : BitVec 32 := 5#32
  let v0 : BitVec 32 := Scalar.remsi arg1 c5_i32
  let v142 : Index := Scalar.indexCast v0
  let c640_76 : Index := 640#32
  let c0_77 : Index := 0#32
  ![v142.toNat, 640, 0]
def k0_off13 (i : grid0.Coords) : Fin 4 → Nat :=
  let arg1 : BitVec 32 := BitVec.ofNat 32 (i 1).val
  let c5_i32 : BitVec 32 := 5#32
  let v0 : BitVec 32 := Scalar.remsi arg1 c5_i32
  let v150 : Index := Scalar.indexCast v0
  let c5_81 : Index := 5#32
  let c0_82 : Index := 0#32
  let c0_83 : Index := 0#32
  ![v150.toNat, 5, 0, 0]
def k0_off14 (i : grid0.Coords) : Fin 3 → Nat :=
  let arg1 : BitVec 32 := BitVec.ofNat 32 (i 1).val
  let c5_i32 : BitVec 32 := 5#32
  let v0 : BitVec 32 := Scalar.remsi arg1 c5_i32
  let v165 : Index := Scalar.indexCast v0
  let c768_88 : Index := 768#32
  let c0_89 : Index := 0#32
  ![v165.toNat, 768, 0]
def k0_off15 (i : grid0.Coords) : Fin 4 → Nat :=
  let arg1 : BitVec 32 := BitVec.ofNat 32 (i 1).val
  let c5_i32 : BitVec 32 := 5#32
  let v0 : BitVec 32 := Scalar.remsi arg1 c5_i32
  let v173 : Index := Scalar.indexCast v0
  let c6_93 : Index := 6#32
  let c0_94 : Index := 0#32
  let c0_95 : Index := 0#32
  ![v173.toNat, 6, 0, 0]
def k0_off16 (i : grid0.Coords) : Fin 3 → Nat :=
  let arg1 : BitVec 32 := BitVec.ofNat 32 (i 1).val
  let c5_i32 : BitVec 32 := 5#32
  let v0 : BitVec 32 := Scalar.remsi arg1 c5_i32
  let v188 : Index := Scalar.indexCast v0
  let c896_100 : Index := 896#32
  let c0_101 : Index := 0#32
  ![v188.toNat, 896, 0]
def k0_off17 (i : grid0.Coords) : Fin 4 → Nat :=
  let arg1 : BitVec 32 := BitVec.ofNat 32 (i 1).val
  let c5_i32 : BitVec 32 := 5#32
  let v0 : BitVec 32 := Scalar.remsi arg1 c5_i32
  let v196 : Index := Scalar.indexCast v0
  let c7_105 : Index := 7#32
  let c0_106 : Index := 0#32
  let c0_107 : Index := 0#32
  ![v196.toNat, 7, 0, 0]
def k0_off18 (i : grid0.Coords) : Fin 3 → Nat :=
  let arg1 : BitVec 32 := BitVec.ofNat 32 (i 1).val
  let c5_i32 : BitVec 32 := 5#32
  let v0 : BitVec 32 := Scalar.remsi arg1 c5_i32
  let v211 : Index := Scalar.indexCast v0
  let c1024_112 : Index := 1024#32
  let c0_113 : Index := 0#32
  ![v211.toNat, 1024, 0]
def k0_off19 (i : grid0.Coords) : Fin 4 → Nat :=
  let arg1 : BitVec 32 := BitVec.ofNat 32 (i 1).val
  let c5_i32 : BitVec 32 := 5#32
  let v0 : BitVec 32 := Scalar.remsi arg1 c5_i32
  let v219 : Index := Scalar.indexCast v0
  let c8_117 : Index := 8#32
  let c0_118 : Index := 0#32
  let c0_119 : Index := 0#32
  ![v219.toNat, 8, 0, 0]
def k0_off20 (i : grid0.Coords) : Fin 3 → Nat :=
  let arg1 : BitVec 32 := BitVec.ofNat 32 (i 1).val
  let c5_i32 : BitVec 32 := 5#32
  let v0 : BitVec 32 := Scalar.remsi arg1 c5_i32
  let v234 : Index := Scalar.indexCast v0
  let c1152_124 : Index := 1152#32
  let c0_125 : Index := 0#32
  ![v234.toNat, 1152, 0]
def k0_off21 (i : grid0.Coords) : Fin 4 → Nat :=
  let arg1 : BitVec 32 := BitVec.ofNat 32 (i 1).val
  let c5_i32 : BitVec 32 := 5#32
  let v0 : BitVec 32 := Scalar.remsi arg1 c5_i32
  let v242 : Index := Scalar.indexCast v0
  let c9_129 : Index := 9#32
  let c0_130 : Index := 0#32
  let c0_131 : Index := 0#32
  ![v242.toNat, 9, 0, 0]
def k0_off22 (i : grid0.Coords) : Fin 3 → Nat :=
  let arg1 : BitVec 32 := BitVec.ofNat 32 (i 1).val
  let c5_i32 : BitVec 32 := 5#32
  let v0 : BitVec 32 := Scalar.remsi arg1 c5_i32
  let v257 : Index := Scalar.indexCast v0
  let c1280_136 : Index := 1280#32
  let c0_137 : Index := 0#32
  ![v257.toNat, 1280, 0]
def k0_off23 (i : grid0.Coords) : Fin 4 → Nat :=
  let arg1 : BitVec 32 := BitVec.ofNat 32 (i 1).val
  let c5_i32 : BitVec 32 := 5#32
  let v0 : BitVec 32 := Scalar.remsi arg1 c5_i32
  let v265 : Index := Scalar.indexCast v0
  let c10_141 : Index := 10#32
  let c0_142 : Index := 0#32
  let c0_143 : Index := 0#32
  ![v265.toNat, 10, 0, 0]
def k0_off24 (i : grid0.Coords) : Fin 3 → Nat :=
  let arg1 : BitVec 32 := BitVec.ofNat 32 (i 1).val
  let c5_i32 : BitVec 32 := 5#32
  let v0 : BitVec 32 := Scalar.remsi arg1 c5_i32
  let v280 : Index := Scalar.indexCast v0
  let c1408_148 : Index := 1408#32
  let c0_149 : Index := 0#32
  ![v280.toNat, 1408, 0]
def k0_off25 (i : grid0.Coords) : Fin 4 → Nat :=
  let arg1 : BitVec 32 := BitVec.ofNat 32 (i 1).val
  let c5_i32 : BitVec 32 := 5#32
  let v0 : BitVec 32 := Scalar.remsi arg1 c5_i32
  let v288 : Index := Scalar.indexCast v0
  let c11_153 : Index := 11#32
  let c0_154 : Index := 0#32
  let c0_155 : Index := 0#32
  ![v288.toNat, 11, 0, 0]
def k0_off26 (i : grid0.Coords) : Fin 3 → Nat :=
  let arg1 : BitVec 32 := BitVec.ofNat 32 (i 1).val
  let c5_i32 : BitVec 32 := 5#32
  let v0 : BitVec 32 := Scalar.remsi arg1 c5_i32
  let v303 : Index := Scalar.indexCast v0
  let c1536_160 : Index := 1536#32
  let c0_161 : Index := 0#32
  ![v303.toNat, 1536, 0]
def k0_off27 (i : grid0.Coords) : Fin 4 → Nat :=
  let arg1 : BitVec 32 := BitVec.ofNat 32 (i 1).val
  let c5_i32 : BitVec 32 := 5#32
  let v0 : BitVec 32 := Scalar.remsi arg1 c5_i32
  let v311 : Index := Scalar.indexCast v0
  let c12_165 : Index := 12#32
  let c0_166 : Index := 0#32
  let c0_167 : Index := 0#32
  ![v311.toNat, 12, 0, 0]
def k0_off28 (i : grid0.Coords) : Fin 3 → Nat :=
  let arg1 : BitVec 32 := BitVec.ofNat 32 (i 1).val
  let c5_i32 : BitVec 32 := 5#32
  let v0 : BitVec 32 := Scalar.remsi arg1 c5_i32
  let v326 : Index := Scalar.indexCast v0
  let c1664_172 : Index := 1664#32
  let c0_173 : Index := 0#32
  ![v326.toNat, 1664, 0]
def k0_off29 (i : grid0.Coords) : Fin 4 → Nat :=
  let arg1 : BitVec 32 := BitVec.ofNat 32 (i 1).val
  let c5_i32 : BitVec 32 := 5#32
  let v0 : BitVec 32 := Scalar.remsi arg1 c5_i32
  let v334 : Index := Scalar.indexCast v0
  let c13_177 : Index := 13#32
  let c0_178 : Index := 0#32
  let c0_179 : Index := 0#32
  ![v334.toNat, 13, 0, 0]
def k0_off30 (i : grid0.Coords) : Fin 3 → Nat :=
  let arg1 : BitVec 32 := BitVec.ofNat 32 (i 1).val
  let c5_i32 : BitVec 32 := 5#32
  let v0 : BitVec 32 := Scalar.remsi arg1 c5_i32
  let v349 : Index := Scalar.indexCast v0
  let c1792_184 : Index := 1792#32
  let c0_185 : Index := 0#32
  ![v349.toNat, 1792, 0]
def k0_off31 (i : grid0.Coords) : Fin 4 → Nat :=
  let arg1 : BitVec 32 := BitVec.ofNat 32 (i 1).val
  let c5_i32 : BitVec 32 := 5#32
  let v0 : BitVec 32 := Scalar.remsi arg1 c5_i32
  let v357 : Index := Scalar.indexCast v0
  let c14_189 : Index := 14#32
  let c0_190 : Index := 0#32
  let c0_191 : Index := 0#32
  ![v357.toNat, 14, 0, 0]
def k0_off32 (i : grid0.Coords) : Fin 3 → Nat :=
  let arg1 : BitVec 32 := BitVec.ofNat 32 (i 1).val
  let c5_i32 : BitVec 32 := 5#32
  let v0 : BitVec 32 := Scalar.remsi arg1 c5_i32
  let v372 : Index := Scalar.indexCast v0
  let c1920_196 : Index := 1920#32
  let c0_197 : Index := 0#32
  ![v372.toNat, 1920, 0]
def k0_off33 (i : grid0.Coords) : Fin 4 → Nat :=
  let arg1 : BitVec 32 := BitVec.ofNat 32 (i 1).val
  let c5_i32 : BitVec 32 := 5#32
  let v0 : BitVec 32 := Scalar.remsi arg1 c5_i32
  let v380 : Index := Scalar.indexCast v0
  let c15_201 : Index := 15#32
  let c0_202 : Index := 0#32
  let c0_203 : Index := 0#32
  ![v380.toNat, 15, 0, 0]
def k0_cond1 (i : grid0.Coords) : BitVec 1 :=
  let arg1 : BitVec 32 := BitVec.ofNat 32 (i 1).val
  let c0_i32 : BitVec 32 := 0#32
  let v384 : BitVec 1 := Scalar.cmpi .eq arg1 c0_i32
  let v385 : BitVec 32 := Scalar.extui v384
  let c0_i32_204 : BitVec 32 := 0#32
  let v386 : BitVec 1 := Scalar.cmpi .ne v385 c0_i32_204
  v386

@[reducible] def k0_t1_loop : Scf.Loop 32 :=
  let c0_i32_349 : BitVec 32 := 0#32
  let c16_i32_350 : BitVec 32 := 16#32
  let v676 : BitVec 32 := Scalar.addi c0_i32_349 c16_i32_350
  let c1_i32_351 : BitVec 32 := 1#32
  ⟨c0_i32_349, v676, c1_i32_351⟩
def k0_mult1 (k0_t1 : Fin k0_t1_loop.trips) : BitVec 32 :=
  let c0_i32_349 : BitVec 32 := 0#32
  let c1_i32_351 : BitVec 32 := 1#32
  let arg17 : BitVec 32 := Scf.iv c0_i32_349 c1_i32_351 k0_t1
  let c128_i32_353 : BitVec 32 := 128#32
  let v677 : BitVec 32 := Scalar.muli arg17 c128_i32_353
  v677
def k0_off34 (k0_t1 : Fin k0_t1_loop.trips) : Fin 3 → Nat :=
  let c0_354 : Index := 0#32
  let c0_355 : Index := 0#32
  let c0_i32_349 : BitVec 32 := 0#32
  let c1_i32_351 : BitVec 32 := 1#32
  let arg17 : BitVec 32 := Scf.iv c0_i32_349 c1_i32_351 k0_t1
  let c128_i32_353 : BitVec 32 := 128#32
  let v677 : BitVec 32 := Scalar.muli arg17 c128_i32_353
  let v678 : BitVec 32 := v677
  let v679 : Index := Scalar.indexCast v678
  ![0, 0, v679.toNat]
def k0_off35 (i : grid0.Coords) (k0_t1 : Fin k0_t1_loop.trips) : Fin 3 → Nat :=
  let arg1 : BitVec 32 := BitVec.ofNat 32 (i 1).val
  let c0_i32_346 : BitVec 32 := 0#32
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v684 : Index := Scalar.indexCast v675
  let c0_358 : Index := 0#32
  let c0_i32_349 : BitVec 32 := 0#32
  let c1_i32_351 : BitVec 32 := 1#32
  let arg17 : BitVec 32 := Scf.iv c0_i32_349 c1_i32_351 k0_t1
  let c128_i32_353 : BitVec 32 := 128#32
  let v677 : BitVec 32 := Scalar.muli arg17 c128_i32_353
  let v678 : BitVec 32 := v677
  let v685 : Index := Scalar.indexCast v678
  ![v684.toNat, 0, v685.toNat]
def k0_off36 (i : grid0.Coords) (k0_t1 : Fin k0_t1_loop.trips) : Fin 4 → Nat :=
  let arg1 : BitVec 32 := BitVec.ofNat 32 (i 1).val
  let c0_i32_346 : BitVec 32 := 0#32
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v689 : Index := Scalar.indexCast v675
  let c0_i32_349 : BitVec 32 := 0#32
  let c1_i32_351 : BitVec 32 := 1#32
  let arg17 : BitVec 32 := Scf.iv c0_i32_349 c1_i32_351 k0_t1
  let v690 : Index := Scalar.indexCast arg17
  let c0_360 : Index := 0#32
  let c0_361 : Index := 0#32
  ![v689.toNat, v690.toNat, 0, 0]
def k0_off37 (i : grid0.Coords) (k0_t1 : Fin k0_t1_loop.trips) : Fin 4 → Nat :=
  let arg1 : BitVec 32 := BitVec.ofNat 32 (i 1).val
  let c0_i32_346 : BitVec 32 := 0#32
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v721 : Index := Scalar.indexCast v675
  let c0_i32_349 : BitVec 32 := 0#32
  let c1_i32_351 : BitVec 32 := 1#32
  let arg17 : BitVec 32 := Scf.iv c0_i32_349 c1_i32_351 k0_t1
  let v722 : Index := Scalar.indexCast arg17
  let c128_373 : Index := 128#32
  let c0_374 : Index := 0#32
  ![v721.toNat, v722.toNat, 128, 0]
def k0_off38 (k0_t1 : Fin k0_t1_loop.trips) : Fin 3 → Nat :=
  let c0_i32_349 : BitVec 32 := 0#32
  let c1_i32_351 : BitVec 32 := 1#32
  let arg17 : BitVec 32 := Scf.iv c0_i32_349 c1_i32_351 k0_t1
  let v748 : Index := Scalar.indexCast arg17
  let c0_386 : Index := 0#32
  let c0_387 : Index := 0#32
  ![v748.toNat, 0, 0]
def k0_off39 (k0_t1 : Fin k0_t1_loop.trips) : Fin 3 → Nat :=
  let c0_i32_349 : BitVec 32 := 0#32
  let c1_i32_351 : BitVec 32 := 1#32
  let arg17 : BitVec 32 := Scf.iv c0_i32_349 c1_i32_351 k0_t1
  let v751 : Index := Scalar.indexCast arg17
  let c0_388 : Index := 0#32
  let c128_389 : Index := 128#32
  ![v751.toNat, 0, 128]
def k0_off40 (i : grid0.Coords) (k0_t1 : Fin k0_t1_loop.trips) : Fin 3 → Nat :=
  let arg1 : BitVec 32 := BitVec.ofNat 32 (i 1).val
  let c0_i32_346 : BitVec 32 := 0#32
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v816 : Index := Scalar.indexCast v675
  let c0_i32_349 : BitVec 32 := 0#32
  let c1_i32_351 : BitVec 32 := 1#32
  let arg17 : BitVec 32 := Scf.iv c0_i32_349 c1_i32_351 k0_t1
  let c128_i32_353 : BitVec 32 := 128#32
  let v677 : BitVec 32 := Scalar.muli arg17 c128_i32_353
  let v678 : BitVec 32 := v677
  let v817 : Index := Scalar.indexCast v678
  let c0_423 : Index := 0#32
  ![v816.toNat, v817.toNat, 0]
def k0_off41 (k0_t1 : Fin k0_t1_loop.trips) : Fin 2 → Nat :=
  let c0_i32_349 : BitVec 32 := 0#32
  let c1_i32_351 : BitVec 32 := 1#32
  let arg17 : BitVec 32 := Scf.iv c0_i32_349 c1_i32_351 k0_t1
  let c128_i32_353 : BitVec 32 := 128#32
  let v677 : BitVec 32 := Scalar.muli arg17 c128_i32_353
  let v678 : BitVec 32 := v677
  let v822 : Index := Scalar.indexCast v678
  let c0_425 : Index := 0#32
  ![v822.toNat, 0]
def k0_off42 (k0_t1 : Fin k0_t1_loop.trips) : Fin 3 → Nat :=
  let c0_i32_349 : BitVec 32 := 0#32
  let c1_i32_351 : BitVec 32 := 1#32
  let arg17 : BitVec 32 := Scf.iv c0_i32_349 c1_i32_351 k0_t1
  let v829 : Index := Scalar.indexCast arg17
  let c0_427 : Index := 0#32
  let c0_428 : Index := 0#32
  ![v829.toNat, 0, 0]
def k0_cond2 (i : grid0.Coords) : BitVec 1 :=
  let arg1 : BitVec 32 := BitVec.ofNat 32 (i 1).val
  let c1_i32 : BitVec 32 := 1#32
  let v387 : BitVec 1 := Scalar.cmpi .eq arg1 c1_i32
  let v388 : BitVec 32 := Scalar.extui v387
  let c0_i32_205 : BitVec 32 := 0#32
  let v389 : BitVec 1 := Scalar.cmpi .ne v388 c0_i32_205
  v389

@[reducible] def k0_t2_loop : Scf.Loop 32 :=
  let c0_i32_352 : BitVec 32 := 0#32
  let c16_i32_353 : BitVec 32 := 16#32
  let v679 : BitVec 32 := Scalar.addi c0_i32_352 c16_i32_353
  let c1_i32_354 : BitVec 32 := 1#32
  ⟨c0_i32_352, v679, c1_i32_354⟩
def k0_mult2 (k0_t2 : Fin k0_t2_loop.trips) : BitVec 32 :=
  let c0_i32_352 : BitVec 32 := 0#32
  let c1_i32_354 : BitVec 32 := 1#32
  let arg17 : BitVec 32 := Scf.iv c0_i32_352 c1_i32_354 k0_t2
  let c128_i32_356 : BitVec 32 := 128#32
  let v680 : BitVec 32 := Scalar.muli arg17 c128_i32_356
  v680
def k0_off43 (k0_t2 : Fin k0_t2_loop.trips) : Fin 3 → Nat :=
  let c0_357 : Index := 0#32
  let c0_358 : Index := 0#32
  let c0_i32_352 : BitVec 32 := 0#32
  let c1_i32_354 : BitVec 32 := 1#32
  let arg17 : BitVec 32 := Scf.iv c0_i32_352 c1_i32_354 k0_t2
  let c128_i32_356 : BitVec 32 := 128#32
  let v680 : BitVec 32 := Scalar.muli arg17 c128_i32_356
  let v681 : BitVec 32 := v680
  let v682 : Index := Scalar.indexCast v681
  ![0, 0, v682.toNat]
def k0_off44 (i : grid0.Coords) (k0_t2 : Fin k0_t2_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v687 : Index := Scalar.indexCast v675
  let c0_361 : Index := 0#32
  let c0_i32_352 : BitVec 32 := 0#32
  let c1_i32_354 : BitVec 32 := 1#32
  let arg17 : BitVec 32 := Scf.iv c0_i32_352 c1_i32_354 k0_t2
  let c128_i32_356 : BitVec 32 := 128#32
  let v680 : BitVec 32 := Scalar.muli arg17 c128_i32_356
  let v681 : BitVec 32 := v680
  let v688 : Index := Scalar.indexCast v681
  ![v687.toNat, 0, v688.toNat]
def k0_off45 (i : grid0.Coords) (k0_t2 : Fin k0_t2_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v692 : Index := Scalar.indexCast v675
  let c0_i32_352 : BitVec 32 := 0#32
  let c1_i32_354 : BitVec 32 := 1#32
  let arg17 : BitVec 32 := Scf.iv c0_i32_352 c1_i32_354 k0_t2
  let v693 : Index := Scalar.indexCast arg17
  let c0_363 : Index := 0#32
  let c0_364 : Index := 0#32
  ![v692.toNat, v693.toNat, 0, 0]
def k0_off46 (i : grid0.Coords) (k0_t2 : Fin k0_t2_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v724 : Index := Scalar.indexCast v675
  let c0_i32_352 : BitVec 32 := 0#32
  let c1_i32_354 : BitVec 32 := 1#32
  let arg17 : BitVec 32 := Scf.iv c0_i32_352 c1_i32_354 k0_t2
  let v725 : Index := Scalar.indexCast arg17
  let c128_376 : Index := 128#32
  let c0_377 : Index := 0#32
  ![v724.toNat, v725.toNat, 128, 0]
def k0_off47 (k0_t2 : Fin k0_t2_loop.trips) : Fin 3 → Nat :=
  let c0_i32_352 : BitVec 32 := 0#32
  let c1_i32_354 : BitVec 32 := 1#32
  let arg17 : BitVec 32 := Scf.iv c0_i32_352 c1_i32_354 k0_t2
  let v796 : Index := Scalar.indexCast arg17
  let c0_411 : Index := 0#32
  let c0_412 : Index := 0#32
  ![v796.toNat, 0, 0]
def k0_off48 (k0_t2 : Fin k0_t2_loop.trips) : Fin 3 → Nat :=
  let c0_i32_352 : BitVec 32 := 0#32
  let c1_i32_354 : BitVec 32 := 1#32
  let arg17 : BitVec 32 := Scf.iv c0_i32_352 c1_i32_354 k0_t2
  let v799 : Index := Scalar.indexCast arg17
  let c0_413 : Index := 0#32
  let c128_414 : Index := 128#32
  ![v799.toNat, 0, 128]
def k0_off49 (i : grid0.Coords) (k0_t2 : Fin k0_t2_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v916 : Index := Scalar.indexCast v675
  let c0_i32_352 : BitVec 32 := 0#32
  let c1_i32_354 : BitVec 32 := 1#32
  let arg17 : BitVec 32 := Scf.iv c0_i32_352 c1_i32_354 k0_t2
  let c128_i32_356 : BitVec 32 := 128#32
  let v680 : BitVec 32 := Scalar.muli arg17 c128_i32_356
  let v681 : BitVec 32 := v680
  let v917 : Index := Scalar.indexCast v681
  let c0_476 : Index := 0#32
  ![v916.toNat, v917.toNat, 0]
def k0_off50 (k0_t2 : Fin k0_t2_loop.trips) : Fin 2 → Nat :=
  let c0_i32_352 : BitVec 32 := 0#32
  let c1_i32_354 : BitVec 32 := 1#32
  let arg17 : BitVec 32 := Scf.iv c0_i32_352 c1_i32_354 k0_t2
  let c128_i32_356 : BitVec 32 := 128#32
  let v680 : BitVec 32 := Scalar.muli arg17 c128_i32_356
  let v681 : BitVec 32 := v680
  let v951 : Index := Scalar.indexCast v681
  let c0_492 : Index := 0#32
  ![v951.toNat, 0]
def k0_off51 (k0_t2 : Fin k0_t2_loop.trips) : Fin 3 → Nat :=
  let c0_i32_352 : BitVec 32 := 0#32
  let c1_i32_354 : BitVec 32 := 1#32
  let arg17 : BitVec 32 := Scf.iv c0_i32_352 c1_i32_354 k0_t2
  let v958 : Index := Scalar.indexCast arg17
  let c0_494 : Index := 0#32
  let c0_495 : Index := 0#32
  ![v958.toNat, 0, 0]
def k0_cond3 (i : grid0.Coords) : BitVec 1 :=
  let arg1 : BitVec 32 := BitVec.ofNat 32 (i 1).val
  let c2_i32 : BitVec 32 := 2#32
  let v390 : BitVec 1 := Scalar.cmpi .eq arg1 c2_i32
  let v391 : BitVec 32 := Scalar.extui v390
  let c0_i32_206 : BitVec 32 := 0#32
  let v392 : BitVec 1 := Scalar.cmpi .ne v391 c0_i32_206
  v392

@[reducible] def k0_t3_loop : Scf.Loop 32 :=
  let c0_i32_355 : BitVec 32 := 0#32
  let c16_i32_356 : BitVec 32 := 16#32
  let v682 : BitVec 32 := Scalar.addi c0_i32_355 c16_i32_356
  let c1_i32_357 : BitVec 32 := 1#32
  ⟨c0_i32_355, v682, c1_i32_357⟩
def k0_mult3 (k0_t3 : Fin k0_t3_loop.trips) : BitVec 32 :=
  let c0_i32_355 : BitVec 32 := 0#32
  let c1_i32_357 : BitVec 32 := 1#32
  let arg17 : BitVec 32 := Scf.iv c0_i32_355 c1_i32_357 k0_t3
  let c128_i32_359 : BitVec 32 := 128#32
  let v683 : BitVec 32 := Scalar.muli arg17 c128_i32_359
  v683
def k0_off52 (k0_t3 : Fin k0_t3_loop.trips) : Fin 3 → Nat :=
  let c0_360 : Index := 0#32
  let c0_361 : Index := 0#32
  let c0_i32_355 : BitVec 32 := 0#32
  let c1_i32_357 : BitVec 32 := 1#32
  let arg17 : BitVec 32 := Scf.iv c0_i32_355 c1_i32_357 k0_t3
  let c128_i32_359 : BitVec 32 := 128#32
  let v683 : BitVec 32 := Scalar.muli arg17 c128_i32_359
  let v684 : BitVec 32 := v683
  let v685 : Index := Scalar.indexCast v684
  ![0, 0, v685.toNat]
def k0_off53 (i : grid0.Coords) (k0_t3 : Fin k0_t3_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v690 : Index := Scalar.indexCast v675
  let c0_364 : Index := 0#32
  let c0_i32_355 : BitVec 32 := 0#32
  let c1_i32_357 : BitVec 32 := 1#32
  let arg17 : BitVec 32 := Scf.iv c0_i32_355 c1_i32_357 k0_t3
  let c128_i32_359 : BitVec 32 := 128#32
  let v683 : BitVec 32 := Scalar.muli arg17 c128_i32_359
  let v684 : BitVec 32 := v683
  let v691 : Index := Scalar.indexCast v684
  ![v690.toNat, 0, v691.toNat]
def k0_off54 (i : grid0.Coords) (k0_t3 : Fin k0_t3_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v695 : Index := Scalar.indexCast v675
  let c0_i32_355 : BitVec 32 := 0#32
  let c1_i32_357 : BitVec 32 := 1#32
  let arg17 : BitVec 32 := Scf.iv c0_i32_355 c1_i32_357 k0_t3
  let v696 : Index := Scalar.indexCast arg17
  let c0_366 : Index := 0#32
  let c0_367 : Index := 0#32
  ![v695.toNat, v696.toNat, 0, 0]
def k0_off55 (i : grid0.Coords) (k0_t3 : Fin k0_t3_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v727 : Index := Scalar.indexCast v675
  let c0_i32_355 : BitVec 32 := 0#32
  let c1_i32_357 : BitVec 32 := 1#32
  let arg17 : BitVec 32 := Scf.iv c0_i32_355 c1_i32_357 k0_t3
  let v728 : Index := Scalar.indexCast arg17
  let c128_379 : Index := 128#32
  let c0_380 : Index := 0#32
  ![v727.toNat, v728.toNat, 128, 0]
def k0_off56 (k0_t3 : Fin k0_t3_loop.trips) : Fin 3 → Nat :=
  let c0_i32_355 : BitVec 32 := 0#32
  let c1_i32_357 : BitVec 32 := 1#32
  let arg17 : BitVec 32 := Scf.iv c0_i32_355 c1_i32_357 k0_t3
  let v844 : Index := Scalar.indexCast arg17
  let c0_436 : Index := 0#32
  let c0_437 : Index := 0#32
  ![v844.toNat, 0, 0]
def k0_off57 (k0_t3 : Fin k0_t3_loop.trips) : Fin 3 → Nat :=
  let c0_i32_355 : BitVec 32 := 0#32
  let c1_i32_357 : BitVec 32 := 1#32
  let arg17 : BitVec 32 := Scf.iv c0_i32_355 c1_i32_357 k0_t3
  let v847 : Index := Scalar.indexCast arg17
  let c0_438 : Index := 0#32
  let c128_439 : Index := 128#32
  ![v847.toNat, 0, 128]
def k0_off58 (i : grid0.Coords) (k0_t3 : Fin k0_t3_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v1016 : Index := Scalar.indexCast v675
  let c0_i32_355 : BitVec 32 := 0#32
  let c1_i32_357 : BitVec 32 := 1#32
  let arg17 : BitVec 32 := Scf.iv c0_i32_355 c1_i32_357 k0_t3
  let c128_i32_359 : BitVec 32 := 128#32
  let v683 : BitVec 32 := Scalar.muli arg17 c128_i32_359
  let v684 : BitVec 32 := v683
  let v1017 : Index := Scalar.indexCast v684
  let c0_529 : Index := 0#32
  ![v1016.toNat, v1017.toNat, 0]
def k0_off59 (k0_t3 : Fin k0_t3_loop.trips) : Fin 2 → Nat :=
  let c0_i32_355 : BitVec 32 := 0#32
  let c1_i32_357 : BitVec 32 := 1#32
  let arg17 : BitVec 32 := Scf.iv c0_i32_355 c1_i32_357 k0_t3
  let c128_i32_359 : BitVec 32 := 128#32
  let v683 : BitVec 32 := Scalar.muli arg17 c128_i32_359
  let v684 : BitVec 32 := v683
  let v1080 : Index := Scalar.indexCast v684
  let c0_559 : Index := 0#32
  ![v1080.toNat, 0]
def k0_off60 (k0_t3 : Fin k0_t3_loop.trips) : Fin 3 → Nat :=
  let c0_i32_355 : BitVec 32 := 0#32
  let c1_i32_357 : BitVec 32 := 1#32
  let arg17 : BitVec 32 := Scf.iv c0_i32_355 c1_i32_357 k0_t3
  let v1087 : Index := Scalar.indexCast arg17
  let c0_561 : Index := 0#32
  let c0_562 : Index := 0#32
  ![v1087.toNat, 0, 0]
def k0_cond4 (i : grid0.Coords) : BitVec 1 :=
  let arg1 : BitVec 32 := BitVec.ofNat 32 (i 1).val
  let c3_i32 : BitVec 32 := 3#32
  let v393 : BitVec 1 := Scalar.cmpi .eq arg1 c3_i32
  let v394 : BitVec 32 := Scalar.extui v393
  let c0_i32_207 : BitVec 32 := 0#32
  let v395 : BitVec 1 := Scalar.cmpi .ne v394 c0_i32_207
  v395

@[reducible] def k0_t4_loop : Scf.Loop 32 :=
  let c0_i32_358 : BitVec 32 := 0#32
  let c16_i32_359 : BitVec 32 := 16#32
  let v685 : BitVec 32 := Scalar.addi c0_i32_358 c16_i32_359
  let c1_i32_360 : BitVec 32 := 1#32
  ⟨c0_i32_358, v685, c1_i32_360⟩
def k0_mult4 (k0_t4 : Fin k0_t4_loop.trips) : BitVec 32 :=
  let c0_i32_358 : BitVec 32 := 0#32
  let c1_i32_360 : BitVec 32 := 1#32
  let arg17 : BitVec 32 := Scf.iv c0_i32_358 c1_i32_360 k0_t4
  let c128_i32_362 : BitVec 32 := 128#32
  let v686 : BitVec 32 := Scalar.muli arg17 c128_i32_362
  v686
def k0_off61 (k0_t4 : Fin k0_t4_loop.trips) : Fin 3 → Nat :=
  let c0_363 : Index := 0#32
  let c0_364 : Index := 0#32
  let c0_i32_358 : BitVec 32 := 0#32
  let c1_i32_360 : BitVec 32 := 1#32
  let arg17 : BitVec 32 := Scf.iv c0_i32_358 c1_i32_360 k0_t4
  let c128_i32_362 : BitVec 32 := 128#32
  let v686 : BitVec 32 := Scalar.muli arg17 c128_i32_362
  let v687 : BitVec 32 := v686
  let v688 : Index := Scalar.indexCast v687
  ![0, 0, v688.toNat]
def k0_off62 (i : grid0.Coords) (k0_t4 : Fin k0_t4_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v693 : Index := Scalar.indexCast v675
  let c0_367 : Index := 0#32
  let c0_i32_358 : BitVec 32 := 0#32
  let c1_i32_360 : BitVec 32 := 1#32
  let arg17 : BitVec 32 := Scf.iv c0_i32_358 c1_i32_360 k0_t4
  let c128_i32_362 : BitVec 32 := 128#32
  let v686 : BitVec 32 := Scalar.muli arg17 c128_i32_362
  let v687 : BitVec 32 := v686
  let v694 : Index := Scalar.indexCast v687
  ![v693.toNat, 0, v694.toNat]
def k0_off63 (i : grid0.Coords) (k0_t4 : Fin k0_t4_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v698 : Index := Scalar.indexCast v675
  let c0_i32_358 : BitVec 32 := 0#32
  let c1_i32_360 : BitVec 32 := 1#32
  let arg17 : BitVec 32 := Scf.iv c0_i32_358 c1_i32_360 k0_t4
  let v699 : Index := Scalar.indexCast arg17
  let c0_369 : Index := 0#32
  let c0_370 : Index := 0#32
  ![v698.toNat, v699.toNat, 0, 0]
def k0_off64 (i : grid0.Coords) (k0_t4 : Fin k0_t4_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v730 : Index := Scalar.indexCast v675
  let c0_i32_358 : BitVec 32 := 0#32
  let c1_i32_360 : BitVec 32 := 1#32
  let arg17 : BitVec 32 := Scf.iv c0_i32_358 c1_i32_360 k0_t4
  let v731 : Index := Scalar.indexCast arg17
  let c128_382 : Index := 128#32
  let c0_383 : Index := 0#32
  ![v730.toNat, v731.toNat, 128, 0]
def k0_off65 (k0_t4 : Fin k0_t4_loop.trips) : Fin 3 → Nat :=
  let c0_i32_358 : BitVec 32 := 0#32
  let c1_i32_360 : BitVec 32 := 1#32
  let arg17 : BitVec 32 := Scf.iv c0_i32_358 c1_i32_360 k0_t4
  let v904 : Index := Scalar.indexCast arg17
  let c0_464 : Index := 0#32
  let c0_465 : Index := 0#32
  ![v904.toNat, 0, 0]
def k0_off66 (k0_t4 : Fin k0_t4_loop.trips) : Fin 3 → Nat :=
  let c0_i32_358 : BitVec 32 := 0#32
  let c1_i32_360 : BitVec 32 := 1#32
  let arg17 : BitVec 32 := Scf.iv c0_i32_358 c1_i32_360 k0_t4
  let v907 : Index := Scalar.indexCast arg17
  let c0_466 : Index := 0#32
  let c128_467 : Index := 128#32
  ![v907.toNat, 0, 128]
def k0_off67 (i : grid0.Coords) (k0_t4 : Fin k0_t4_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v1128 : Index := Scalar.indexCast v675
  let c0_i32_358 : BitVec 32 := 0#32
  let c1_i32_360 : BitVec 32 := 1#32
  let arg17 : BitVec 32 := Scf.iv c0_i32_358 c1_i32_360 k0_t4
  let c128_i32_362 : BitVec 32 := 128#32
  let v686 : BitVec 32 := Scalar.muli arg17 c128_i32_362
  let v687 : BitVec 32 := v686
  let v1129 : Index := Scalar.indexCast v687
  let c0_585 : Index := 0#32
  ![v1128.toNat, v1129.toNat, 0]
def k0_off68 (k0_t4 : Fin k0_t4_loop.trips) : Fin 2 → Nat :=
  let c0_i32_358 : BitVec 32 := 0#32
  let c1_i32_360 : BitVec 32 := 1#32
  let arg17 : BitVec 32 := Scf.iv c0_i32_358 c1_i32_360 k0_t4
  let c128_i32_362 : BitVec 32 := 128#32
  let v686 : BitVec 32 := Scalar.muli arg17 c128_i32_362
  let v687 : BitVec 32 := v686
  let v1221 : Index := Scalar.indexCast v687
  let c0_629 : Index := 0#32
  ![v1221.toNat, 0]
def k0_off69 (k0_t4 : Fin k0_t4_loop.trips) : Fin 3 → Nat :=
  let c0_i32_358 : BitVec 32 := 0#32
  let c1_i32_360 : BitVec 32 := 1#32
  let arg17 : BitVec 32 := Scf.iv c0_i32_358 c1_i32_360 k0_t4
  let v1228 : Index := Scalar.indexCast arg17
  let c0_631 : Index := 0#32
  let c0_632 : Index := 0#32
  ![v1228.toNat, 0, 0]
def k0_cond5 (i : grid0.Coords) : BitVec 1 :=
  let arg1 : BitVec 32 := BitVec.ofNat 32 (i 1).val
  let c4_i32 : BitVec 32 := 4#32
  let v396 : BitVec 1 := Scalar.cmpi .sge arg1 c4_i32
  let v397 : BitVec 32 := Scalar.extui v396
  let c0_i32_208 : BitVec 32 := 0#32
  let v398 : BitVec 1 := Scalar.cmpi .ne v397 c0_i32_208
  v398

@[reducible] def k0_t5_loop : Scf.Loop 32 :=
  let c0_i32_361 : BitVec 32 := 0#32
  let c16_i32_362 : BitVec 32 := 16#32
  let v688 : BitVec 32 := Scalar.addi c0_i32_361 c16_i32_362
  let c1_i32_363 : BitVec 32 := 1#32
  ⟨c0_i32_361, v688, c1_i32_363⟩
def k0_mult5 (k0_t5 : Fin k0_t5_loop.trips) : BitVec 32 :=
  let c0_i32_361 : BitVec 32 := 0#32
  let c1_i32_363 : BitVec 32 := 1#32
  let arg17 : BitVec 32 := Scf.iv c0_i32_361 c1_i32_363 k0_t5
  let c128_i32_365 : BitVec 32 := 128#32
  let v689 : BitVec 32 := Scalar.muli arg17 c128_i32_365
  v689
def k0_off70 (k0_t5 : Fin k0_t5_loop.trips) : Fin 3 → Nat :=
  let c0_366 : Index := 0#32
  let c0_367 : Index := 0#32
  let c0_i32_361 : BitVec 32 := 0#32
  let c1_i32_363 : BitVec 32 := 1#32
  let arg17 : BitVec 32 := Scf.iv c0_i32_361 c1_i32_363 k0_t5
  let c128_i32_365 : BitVec 32 := 128#32
  let v689 : BitVec 32 := Scalar.muli arg17 c128_i32_365
  let v690 : BitVec 32 := v689
  let v691 : Index := Scalar.indexCast v690
  ![0, 0, v691.toNat]
def k0_off71 (i : grid0.Coords) (k0_t5 : Fin k0_t5_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v696 : Index := Scalar.indexCast v675
  let c0_370 : Index := 0#32
  let c0_i32_361 : BitVec 32 := 0#32
  let c1_i32_363 : BitVec 32 := 1#32
  let arg17 : BitVec 32 := Scf.iv c0_i32_361 c1_i32_363 k0_t5
  let c128_i32_365 : BitVec 32 := 128#32
  let v689 : BitVec 32 := Scalar.muli arg17 c128_i32_365
  let v690 : BitVec 32 := v689
  let v697 : Index := Scalar.indexCast v690
  ![v696.toNat, 0, v697.toNat]
def k0_off72 (i : grid0.Coords) (k0_t5 : Fin k0_t5_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v701 : Index := Scalar.indexCast v675
  let c0_i32_361 : BitVec 32 := 0#32
  let c1_i32_363 : BitVec 32 := 1#32
  let arg17 : BitVec 32 := Scf.iv c0_i32_361 c1_i32_363 k0_t5
  let v702 : Index := Scalar.indexCast arg17
  let c0_372 : Index := 0#32
  let c0_373 : Index := 0#32
  ![v701.toNat, v702.toNat, 0, 0]
def k0_off73 (i : grid0.Coords) (k0_t5 : Fin k0_t5_loop.trips) (c0_i32_346 : BitVec 32) : Fin 4 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v733 : Index := Scalar.indexCast v675
  let c0_i32_361 : BitVec 32 := 0#32
  let c1_i32_363 : BitVec 32 := 1#32
  let arg17 : BitVec 32 := Scf.iv c0_i32_361 c1_i32_363 k0_t5
  let v734 : Index := Scalar.indexCast arg17
  let c128_385 : Index := 128#32
  let c0_386 : Index := 0#32
  ![v733.toNat, v734.toNat, 128, 0]
def k0_off74 (k0_t5 : Fin k0_t5_loop.trips) : Fin 3 → Nat :=
  let c0_i32_361 : BitVec 32 := 0#32
  let c1_i32_363 : BitVec 32 := 1#32
  let arg17 : BitVec 32 := Scf.iv c0_i32_361 c1_i32_363 k0_t5
  let v980 : Index := Scalar.indexCast arg17
  let c0_496 : Index := 0#32
  let c0_497 : Index := 0#32
  ![v980.toNat, 0, 0]
def k0_off75 (k0_t5 : Fin k0_t5_loop.trips) : Fin 3 → Nat :=
  let c0_i32_361 : BitVec 32 := 0#32
  let c1_i32_363 : BitVec 32 := 1#32
  let arg17 : BitVec 32 := Scf.iv c0_i32_361 c1_i32_363 k0_t5
  let v983 : Index := Scalar.indexCast arg17
  let c0_498 : Index := 0#32
  let c128_499 : Index := 128#32
  ![v983.toNat, 0, 128]
def k0_off76 (i : grid0.Coords) (k0_t5 : Fin k0_t5_loop.trips) (c0_i32_346 : BitVec 32) : Fin 3 → Nat :=
  let arg1 : BitVec 32 := BitVec.ofNat 32 (i 1).val
  let v673 : BitVec 32 := Scalar.subi arg1 c0_i32_346
  let c5_i32_347 : BitVec 32 := 5#32
  let v674 : BitVec 32 := Scalar.addi v673 c5_i32_347
  let c5_i32_348 : BitVec 32 := 5#32
  let v675 : BitVec 32 := Scalar.remsi v674 c5_i32_348
  let v1243 : Index := Scalar.indexCast v675
  let c0_i32_361 : BitVec 32 := 0#32
  let c1_i32_363 : BitVec 32 := 1#32
  let arg17 : BitVec 32 := Scf.iv c0_i32_361 c1_i32_363 k0_t5
  let c128_i32_365 : BitVec 32 := 128#32
  let v689 : BitVec 32 := Scalar.muli arg17 c128_i32_365
  let v690 : BitVec 32 := v689
  let v1244 : Index := Scalar.indexCast v690
  let c0_638 : Index := 0#32
  ![v1243.toNat, v1244.toNat, 0]
def k0_off77 (k0_t5 : Fin k0_t5_loop.trips) : Fin 2 → Nat :=
  let c0_i32_361 : BitVec 32 := 0#32
  let c1_i32_363 : BitVec 32 := 1#32
  let arg17 : BitVec 32 := Scf.iv c0_i32_361 c1_i32_363 k0_t5
  let c128_i32_365 : BitVec 32 := 128#32
  let v689 : BitVec 32 := Scalar.muli arg17 c128_i32_365
  let v690 : BitVec 32 := v689
  let v1361 : Index := Scalar.indexCast v690
  let c0_694 : Index := 0#32
  ![v1361.toNat, 0]
def k0_off78 (k0_t5 : Fin k0_t5_loop.trips) : Fin 3 → Nat :=
  let c0_i32_361 : BitVec 32 := 0#32
  let c1_i32_363 : BitVec 32 := 1#32
  let arg17 : BitVec 32 := Scf.iv c0_i32_361 c1_i32_363 k0_t5
  let v1368 : Index := Scalar.indexCast arg17
  let c0_696 : Index := 0#32
  let c0_697 : Index := 0#32
  ![v1368.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
abbrev S4x16384x2048 : Shape := ⟨3, ![4, 16384, 2048]⟩
abbrev S4x16384x16 : Shape := ⟨3, ![4, 16384, 16]⟩
abbrev S4x1x16384 : Shape := ⟨3, ![4, 1, 16384]⟩
abbrev S4x16384x16x128 : Shape := ⟨4, ![4, 16384, 16, 128]⟩
abbrev S4x16x16384x128 : Shape := ⟨4, ![4, 16, 16384, 128]⟩
abbrev S64x16384x128 : Shape := ⟨3, ![64, 16384, 128]⟩
abbrev S4x16x16384 : Shape := ⟨3, ![4, 16, 16384]⟩
abbrev S64x16384 : Shape := ⟨2, ![64, 16384]⟩
abbrev S64x16384x16384 : Shape := ⟨3, ![64, 16384, 16384]⟩
abbrev S64x16384x1 : Shape := ⟨3, ![64, 16384, 1]⟩
abbrev S64x1x16384 : Shape := ⟨3, ![64, 1, 16384]⟩
abbrev S4x16384 : Shape := ⟨2, ![4, 16384]⟩
abbrev S4x16384x1 : Shape := ⟨3, ![4, 16384, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x16384x2048, .fp8e4m3⟩
  | .hbm, ⟨1, _⟩ => ⟨S4x16384x16, .f32⟩
  | .hbm, ⟨2, _⟩ => ⟨S4x16384x2048, .fp8e4m3⟩
  | .hbm, ⟨3, _⟩ => ⟨S4x16384x16, .f32⟩
  | .hbm, ⟨4, _⟩ => ⟨S4x16384x2048, .i8⟩
  | .hbm, ⟨5, _⟩ => ⟨S4x16384x16, .f32⟩
  | .hbm, ⟨6, _⟩ => ⟨S4x16384x2048, .fp8e4m3⟩
  | .hbm, ⟨7, _⟩ => ⟨S4x16384x2048, .fp8e4m3⟩
  | .hbm, ⟨8, _⟩ => ⟨S4x1x16384, .f32⟩
  | .local _ .vmem, ⟨0, _⟩ => ⟨S4x16384x2048, .fp8e4m3⟩
  | .local _ .vmem, ⟨1, _⟩ => ⟨S4x16384x16, .f32⟩
  | .local _ .vmem, ⟨2, _⟩ => ⟨S4x16384x2048, .fp8e4m3⟩
  | .local _ .vmem, ⟨3, _⟩ => ⟨S4x16384x16, .f32⟩
  | .local _ .vmem, ⟨4, _⟩ => ⟨S4x16384x2048, .fp8e4m3⟩
  | .local _ .vmem, ⟨5, _⟩ => ⟨S4x16384x16, .f32⟩
  | .local _ .vmem, ⟨6, _⟩ => ⟨S4x16384x2048, .fp8e4m3⟩
  | .local _ .vmem, ⟨7, _⟩ => ⟨S4x1x16384, .f32⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_sqrt_d" => some (((Real.sqrt 128)⁻¹ : ℝ) : EReal)
  | "ln2" => some ((Real.log 2 : ℝ) : EReal)
  | _ => none

abbrev grid0 : Pipeline.Grid := .none

abbrev stage0_0 : Fin 1 → Memref sig .tc .vmem S4x16384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16384x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16384x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16384x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16384x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Res.lean ====
/- The buffers a grid point of the kernel works on, as one assertion. -/
module

public import proofs.«01_k».proof.Proof.Gen.Kernel.Frame
public import proofs.«01_k».proof.Proof.Gen.Kernel.Loops
public import Idealize.ShloMosaic.Lib.Exec
public import Idealize.ShloMosaic.Lib.Tactic

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers of one grid point, each held whole at the given contents: the six inputs' blocks, the two outputs'
    blocks, the three rings, the tile scratch and the three row scratches. -/
abbrev Res (c : Dev nD)
  (a2 : Memref sig .tc .vmem S1x256x2048 .fp8e4m3) (a3 : Memref sig .tc .vmem S1x256x16 .f32)
  (a4 : Memref sig .tc .vmem S1x256x2048 .fp8e4m3) (a5 : Memref sig .tc .vmem S1x256x16 .f32)
  (a6 : Memref sig .tc .vmem S1x256x2048 .fp8e4m3) (a7 : Memref sig .tc .vmem S1x256x16 .f32)
  (a8 : Memref sig .tc .vmem S1x256x2048 .fp8e4m3) (a9 : Memref sig .tc .vmem S1x1x256 .f32)
  (a10 : Memref sig .tc .vmem S5x256x2048 .fp8e4m3) (a11 : Memref sig .tc .vmem S5x2048x256 .bf16)
  (a12 : Memref sig .tc .vmem S5x16x256x128 .f32) (a13 : Memref sig .tc .vmem S5x256x256 .f32)
  (a14 : Memref sig .tc .vmem S2048x256 .f32) (a15 : Memref sig .tc .vmem S16x1x256 .f32)
  (a16 : Memref sig .tc .vmem S16x1x256 .f32)
  (Y2 : BufTy.Contents (Elt F) a2.view.ty) (Y3 : BufTy.Contents (Elt F) a3.view.ty)
  (Y4 : BufTy.Contents (Elt F) a4.view.ty) (Y5 : BufTy.Contents (Elt F) a5.view.ty)
  (Y6 : BufTy.Contents (Elt F) a6.view.ty) (Y7 : BufTy.Contents (Elt F) a7.view.ty)
  (Y8 : BufTy.Contents (Elt F) a8.view.ty) (Y9 : BufTy.Contents (Elt F) a9.view.ty)
  (Y10 : BufTy.Contents (Elt F) a10.view.ty) (Y11 : BufTy.Contents (Elt F) a11.view.ty)
  (Y12 : BufTy.Contents (Elt F) a12.view.ty) (Y13 : BufTy.Contents (Elt F) a13.view.ty)
  (Y14 : BufTy.Contents (Elt F) a14.view.ty) (Y15 : BufTy.Contents (Elt F) a15.view.ty)
  (Y16 : BufTy.Contents (Elt F) a16.view.ty) : sProp 𝕄 :=
  iprop((a2.view.loc (c : Thread nD τ) ↦[a2.view.set]{fullShare} Y2) ∗
    (a3.view.loc (c : Thread nD τ) ↦[a3.view.set]{fullShare} Y3) ∗
    (a4.view.loc (c : Thread nD τ) ↦[a4.view.set]{fullShare} Y4) ∗
    (a5.view.loc (c : Thread nD τ) ↦[a5.view.set]{fullShare} Y5) ∗
    (a6.view.loc (c : Thread nD τ) ↦[a6.view.set]{fullShare} Y6) ∗
    (a7.view.loc (c : Thread nD τ) ↦[a7.view.set]{fullShare} Y7) ∗
    (a8.view.loc (c : Thread nD τ) ↦[a8.view.set]{fullShare} Y8) ∗
    (a9.view.loc (c : Thread nD τ) ↦[a9.view.set]{fullShare} Y9) ∗
    (a10.view.loc (c : Thread nD τ) ↦[a10.view.set]{fullShare} Y10) ∗
    (a11.view.loc (c : Thread nD τ) ↦[a11.view.set]{fullShare} Y11) ∗
    (a12.view.loc (c : Thread nD τ) ↦[a12.view.set]{fullShare} Y12) ∗
    (a13.view.loc (c : Thread nD τ) ↦[a13.view.set]{fullShare} Y13) ∗
    (a14.view.loc (c : Thread nD τ) ↦[a14.view.set]{fullShare} Y14) ∗
    (a15.view.loc (c : Thread nD τ) ↦[a15.view.set]{fullShare} Y15) ∗
    (a16.view.loc (c : Thread nD τ) ↦[a16.view.set]{fullShare} Y16))

end Cert.Kernel.Proof

end
-- ==== Proof.K.Run1.lean ====
/- The kernel's body run at a grid point that takes branch 1: from any contents of its buffers, the contents it leaves. -/
module

public import proofs.«01_k».proof.Proof.K.Res

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The loop over the heads in branch 1: its generated invariant, at the two grid words its body does not read. -/
@[sl_loop] def loop1 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond1 i = 1#1) (v675 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t1 𝒱 c bd E i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15

/-- A point at which branch 1 is taken. -/
@[irreducible] def run1 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : k0_cond1 i = 1#1) (hc2 : ¬ k0_cond2 i = 1#1) (hc3 : ¬ k0_cond3 i = 1#1) (hc4 : ¬ k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Proof

end
-- ==== Proof.K.Run2.lean ====
/- The kernel's body run at a grid point that takes branch 2: from any contents of its buffers, the contents it leaves. -/
module

public import proofs.«01_k».proof.Proof.K.Res

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The loop over the heads in branch 2: its generated invariant, at the two grid words its body does not read. -/
@[sl_loop] def loop2 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond2 i = 1#1) (v675 v678 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t2 𝒱 c bd E i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15

/-- A point at which branch 2 is taken. -/
@[irreducible] def run2 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : k0_cond2 i = 1#1) (hc3 : ¬ k0_cond3 i = 1#1) (hc4 : ¬ k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Proof

end
-- ==== Proof.K.Run3.lean ====
/- The kernel's body run at a grid point that takes branch 3: from any contents of its buffers, the contents it leaves. -/
module

public import proofs.«01_k».proof.Proof.K.Res

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The loop over the heads in branch 3: its generated invariant, at the two grid words its body does not read. -/
@[sl_loop] def loop3 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond3 i = 1#1) (v675 v678 v681 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t3 𝒱 c bd E i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15

/-- A point at which branch 3 is taken. -/
@[irreducible] def run3 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : k0_cond3 i = 1#1) (hc4 : ¬ k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Proof

end
-- ==== Proof.K.Run4.lean ====
/- The kernel's body run at a grid point that takes branch 4: from any contents of its buffers, the contents it leaves. -/
module

public import proofs.«01_k».proof.Proof.K.Res

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The loop over the heads in branch 4: its generated invariant, at the two grid words its body does not read. -/
@[sl_loop] def loop4 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond4 i = 1#1) (v675 v678 v681 v684 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t4 𝒱 c bd E i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15

/-- A point at which branch 4 is taken. -/
@[irreducible] def run4 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : ¬ k0_cond3 i = 1#1) (hc4 : k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Proof

end
-- ==== Proof.K.Run5.lean ====
/- The kernel's body run at a grid point that takes branch 5: from any contents of its buffers, the contents it leaves. -/
module

public import proofs.«01_k».proof.Proof.K.Res

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The loop over the heads in branch 5: its generated invariant, at the two grid words its body does not read. -/
@[sl_loop] def loop5 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond5 i = 1#1) (v675 v678 v681 v684 v687 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t5 𝒱 c bd E i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15

/-- A point at which branch 5 is taken. -/
@[irreducible] def run5 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : ¬ k0_cond3 i = 1#1) (hc4 : ¬ k0_cond4 i = 1#1)
  (hc5 : k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.Kernel.Proof

end
-- ==== Proof.K.Frame.lean ====
/- The kernel's memory safety: the run of its grid over any floats, the arguments unchanged. -/
module

public import proofs.«01_k».proof.Proof.K.Run1
public import proofs.«01_k».proof.Proof.K.Run2
public import proofs.«01_k».proof.Proof.K.Run3
public import proofs.«01_k».proof.Proof.K.Run4
public import proofs.«01_k».proof.Proof.K.Run5

@[expose] public section

set_option maxRecDepth 16384
set_option maxHeartbeats 0

noncomputable section

namespace Cert.Kernel.Proof

open Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation ΦA)
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- At each point exactly one of the five branches is taken: the first four at the first four blocks of a batch, the
    fifth from the fifth on. -/
theorem cond_cases (i : grid0.Coords) :
    ((i 1).val = 0 ∧ k0_cond1 i = 1#1 ∧ ¬ k0_cond2 i = 1#1 ∧ ¬ k0_cond3 i = 1#1 ∧ ¬ k0_cond4 i = 1#1 ∧ ¬ k0_cond5 i = 1#1)
    ∨ ((i 1).val = 1 ∧ ¬ k0_cond1 i = 1#1 ∧ k0_cond2 i = 1#1 ∧ ¬ k0_cond3 i = 1#1 ∧ ¬ k0_cond4 i = 1#1 ∧ ¬ k0_cond5 i = 1#1)
    ∨ ((i 1).val = 2 ∧ ¬ k0_cond1 i = 1#1 ∧ ¬ k0_cond2 i = 1#1 ∧ k0_cond3 i = 1#1 ∧ ¬ k0_cond4 i = 1#1 ∧ ¬ k0_cond5 i = 1#1)
    ∨ ((i 1).val = 3 ∧ ¬ k0_cond1 i = 1#1 ∧ ¬ k0_cond2 i = 1#1 ∧ ¬ k0_cond3 i = 1#1 ∧ k0_cond4 i = 1#1 ∧ ¬ k0_cond5 i = 1#1)
    ∨ (4 ≤ (i 1).val ∧ ¬ k0_cond1 i = 1#1 ∧ ¬ k0_cond2 i = 1#1 ∧ ¬ k0_cond3 i = 1#1 ∧ ¬ k0_cond4 i = 1#1 ∧ k0_cond5 i = 1#1) := by
  unfold k0_cond1 k0_cond2 k0_cond3 k0_cond4 k0_cond5
  generalize i 1 = j
  revert j
  decide +kernel

/-- One grid point from any contents: the body runs and leaves some contents. -/
theorem step (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    ∃ (Y8 : BufTy.Contents (Elt F) a8.view.ty) (Y9 : BufTy.Contents (Elt F) a9.view.ty) (Y10 : BufTy.Contents (Elt F) a10.view.ty) (Y11 : BufTy.Contents (Elt F) a11.view.ty) (Y12 : BufTy.Contents (Elt F) a12.view.ty) (Y13 : BufTy.Contents (Elt F) a13.view.ty) (Y14 : BufTy.Contents (Elt F) a14.view.ty) (Y15 : BufTy.Contents (Elt F) a15.view.ty) (Y16 : BufTy.Contents (Elt F) a16.view.ty),
      ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K := by
  rcases cond_cases i with ⟨-, q1, q2, q3, q4, q5⟩ | ⟨-, q1, q2, q3, q4, q5⟩ | ⟨-, q1, q2, q3, q4, q5⟩ | ⟨-, q1, q2, q3, q4, q5⟩ |
    ⟨-, q1, q2, q3, q4, q5⟩
  · let r := run1 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run2 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run3 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run4 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run5 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩

/-- The scratch buffers at given contents. -/
abbrev Scr (c : Dev nD) (G10 : Buf (Elt F) ((c : Thread nD τ).loc cc0_scratch0)) (G11 : Buf (Elt F) ((c : Thread nD τ).loc cc0_scratch1)) (G12 : Buf (Elt F) ((c : Thread nD τ).loc cc0_scratch2)) (G13 : Buf (Elt F) ((c : Thread nD τ).loc cc0_scratch3)) (G14 : Buf (Elt F) ((c : Thread nD τ).loc cc0_scratch4)) (G15 : Buf (Elt F) ((c : Thread nD τ).loc cc0_scratch5)) (G16 : Buf (Elt F) ((c : Thread nD τ).loc cc0_scratch6)) : sProp 𝕄 :=
  iprop(((Memref.whole cc0_scratch0).view.loc (c : Thread nD τ) ↦[(Memref.whole cc0_scratch0).view.set]{fullShare} G10) ∗ ((Memref.whole cc0_scratch1).view.loc (c : Thread nD τ) ↦[(Memref.whole cc0_scratch1).view.set]{fullShare} G11) ∗ ((Memref.whole cc0_scratch2).view.loc (c : Thread nD τ) ↦[(Memref.whole cc0_scratch2).view.set]{fullShare} G12) ∗ ((Memref.whole cc0_scratch3).view.loc (c : Thread nD τ) ↦[(Memref.whole cc0_scratch3).view.set]{fullShare} G13) ∗ ((Memref.whole cc0_scratch4).view.loc (c : Thread nD τ) ↦[(Memref.whole cc0_scratch4).view.set]{fullShare} G14) ∗ ((Memref.whole cc0_scratch5).view.loc (c : Thread nD τ) ↦[(Memref.whole cc0_scratch5).view.set]{fullShare} G15) ∗ ((Memref.whole cc0_scratch6).view.loc (c : Thread nD τ) ↦[(Memref.whole cc0_scratch6).view.set]{fullShare} G16))

theorem open_rest (c : Dev nD) :
    (ΦA spec0 c : sProp 𝕄) ⊢ iprop((∃ G10 G11 G12 G13 G14 G15 G16, Scr (F := F) c G10 G11 G12 G13 G14 G15 G16) ∗ ∃ r, prngReg c r) := by
  unfold ΦA
  rw [scopedRest0_eq]
  unfold Scr
  simp only [Memref.view_whole, View.set_whole]
  iintro ⟨⟨⟨%G10, H10⟩, ⟨%G11, H11⟩, ⟨%G12, H12⟩, ⟨%G13, H13⟩, ⟨%G14, H14⟩, ⟨%G15, H15⟩, ⟨%G16, H16⟩⟩, Hr⟩
  isplitr [Hr]
  · iexists G10, G11, G12, G13, G14, G15, G16
    isplitl [H10]; · iexact H10
    isplitl [H11]; · iexact H11
    isplitl [H12]; · iexact H12
    isplitl [H13]; · iexact H13
    isplitl [H14]; · iexact H14
    isplitl [H15]; · iexact H15
    iexact H16
  iexact Hr

theorem close_rest (c : Dev nD) (G10 : Buf (Elt F) ((c : Thread nD τ).loc cc0_scratch0)) (G11 : Buf (Elt F) ((c : Thread nD τ).loc cc0_scratch1)) (G12 : Buf (Elt F) ((c : Thread nD τ).loc cc0_scratch2)) (G13 : Buf (Elt F) ((c : Thread nD τ).loc cc0_scratch3)) (G14 : Buf (Elt F) ((c : Thread nD τ).loc cc0_scratch4)) (G15 : Buf (Elt F) ((c : Thread nD τ).loc cc0_scratch5)) (G16 : Buf (Elt F) ((c : Thread nD τ).loc cc0_scratch6)) :
    iprop(Scr (F := F) c G10 G11 G12 G13 G14 G15 G16 ∗ ∃ r, prngReg c r) ⊢ (ΦA spec0 c : sProp 𝕄) := by
  unfold ΦA
  rw [scopedRest0_eq]
  unfold Scr
  simp only [Memref.view_whole, View.set_whole]
  iintro ⟨⟨H10, H11, H12, H13, H14, H15, H16⟩, Hr⟩
  isplitr [Hr]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iexact Hr

variable (m : (ℓ : Loc nD τ sig) → Buf (Elt F) ℓ) (ρ : Dev nD → PrngReg)

/-- The two results, of which memory safety says nothing. -/
def forgets : Fin 8 → Bool
  | ⟨0, _⟩ | ⟨1, _⟩ | ⟨2, _⟩ | ⟨3, _⟩ | ⟨4, _⟩ | ⟨5, _⟩ => false
  | ⟨6, _⟩ | ⟨7, _⟩ => true

/-- The proof data of memory safety: every input's block where the grid fetched it, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body at each grid point, the results at anything. -/
theorem body_obligation (c : Dev nD) :
    BodyObligation (dats (F := F) m 0 c) (defs₀ (F := F)) 𝒱₀ () Set.univ forgets := fun t => by
  rw [bigSep_W0, bigSep_W0]
  sl_whnfR [defs₀, Defs.onTc]
  simp only [before0_0, before0_1, before0_2, before0_3, before0_4, before0_5, forgets]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, after0_2, after0_3, after0_4, after0_5]
  unfold owns
  iintro ⟨HΦ, Ho, ⟨%d0, %f0, %hf0, H2⟩, ⟨%d1, %f1, %hf1, H3⟩, ⟨%d2, %f2, %hf2, H4⟩, ⟨%d3, %f3, %hf3, H5⟩, ⟨%d4, %f4, %hf4, H6⟩, ⟨%d5, %f5, %hf5, H7⟩, ⟨%d6, %f6, -, H8⟩, ⟨%d7, %f7, -, H9⟩⟩
  ihave HΦ := open_rest c $$ HΦ
  icases HΦ with ⟨⟨%G10, %G11, %G12, %G13, %G14, %G15, %G16, H10, H11, H12, H13, H14, H15, H16⟩, Hr⟩
  obtain ⟨Y8, Y9, Y10, Y11, Y12, Y13, Y14, Y15, Y16, run⟩ := step (F := F) 𝒱₀ c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 f5 f6 f7 G10 G11 G12 G13 G14 G15 G16
  iapply (run Set.univ _)
  isplitr [Ho Hr]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro ⟨H2, H3, H4, H5, H6, H7, H8, H9, H10, H11, H12, H13, H14, H15, H16⟩
  isplitr [Ho H2 H3 H4 H5 H6 H7 H8 H9]
  · iapply (close_rest c Y10 Y11 Y12 Y13 Y14 Y15 Y16)
    isplitr [Hr]
    · isplitl [H10]; · iexact H10
      isplitl [H11]; · iexact H11
      isplitl [H12]; · iexact H12
      isplitl [H13]; · iexact H13
      isplitl [H14]; · iexact H14
      isplitl [H15]; · iexact H15
      iexact H16
    iexact Hr
  isplitl [Ho]; · iexact Ho
  isplitl [H2]; · (iexists f0; isplitr; · (ipureintro; exact hf0)); iexact H2
  isplitl [H3]; · (iexists f1; isplitr; · (ipureintro; exact hf1)); iexact H3
  isplitl [H4]; · (iexists f2; isplitr; · (ipureintro; exact hf2)); iexact H4
  isplitl [H5]; · (iexists f3; isplitr; · (ipureintro; exact hf3)); iexact H5
  isplitl [H6]; · (iexists f4; isplitr; · (ipureintro; exact hf4)); iexact H6
  isplitl [H7]; · (iexists f5; isplitr; · (ipureintro; exact hf5)); iexact H7
  isplitl [H8]; · (iexists _, Y8; isplitr; · (ipureintro; rfl)); iexact H8
  iexists _, Y9; isplitr; · (ipureintro; rfl)
  iexact H9

set_option backward.isDefEq.respectTransparency.types false in
/-- From any memory with zero counters every fair execution ends, the pipeline's inputs and every other argument as they
    were and every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- Memory safety: every fair execution ends with the arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hs⟩ => ⟨fun c =>
    ⟨(h.arr_in c 0 rfl).trans (V_main_arg0 m c), (h.arr_in c 1 rfl).trans (V_main_arg1 m c),
      (h.arr_in c 2 rfl).trans (V_main_arg2 m c), (h.arr_in c 3 rfl).trans (V_main_arg3 m c),
      ((h c).2 main_arg4 (Pipeline.mem_restRefs_of main_arg4 (by decide) (by decide))).trans (V_main_arg4 m c),
      (h.arr_in c 5 rfl).trans (V_main_arg5 m c)⟩, hs⟩)
    (run_main m ρ)

end Cert.Kernel.Proof

end
-- ==== Proof.KI.Res.lean ====
/- The buffers a grid point of the kernel works on, as one assertion. -/
module

public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers of one grid point, each held whole at the given contents: the six inputs' blocks, the two outputs'
    blocks, the three rings, the tile scratch and the three row scratches. -/
abbrev Res (c : Dev nD)
  (a2 : Memref sig .tc .vmem S1x256x2048 .fp8e4m3) (a3 : Memref sig .tc .vmem S1x256x16 .f32)
  (a4 : Memref sig .tc .vmem S1x256x2048 .fp8e4m3) (a5 : Memref sig .tc .vmem S1x256x16 .f32)
  (a6 : Memref sig .tc .vmem S1x256x2048 .fp8e4m3) (a7 : Memref sig .tc .vmem S1x256x16 .f32)
  (a8 : Memref sig .tc .vmem S1x256x2048 .fp8e4m3) (a9 : Memref sig .tc .vmem S1x1x256 .f32)
  (a10 : Memref sig .tc .vmem S5x256x2048 .fp8e4m3) (a11 : Memref sig .tc .vmem S5x2048x256 .bf16)
  (a12 : Memref sig .tc .vmem S5x16x256x128 .f32) (a13 : Memref sig .tc .vmem S5x256x256 .f32)
  (a14 : Memref sig .tc .vmem S2048x256 .f32) (a15 : Memref sig .tc .vmem S16x1x256 .f32)
  (a16 : Memref sig .tc .vmem S16x1x256 .f32)
  (Y2 : BufTy.Contents (Elt F) a2.view.ty) (Y3 : BufTy.Contents (Elt F) a3.view.ty)
  (Y4 : BufTy.Contents (Elt F) a4.view.ty) (Y5 : BufTy.Contents (Elt F) a5.view.ty)
  (Y6 : BufTy.Contents (Elt F) a6.view.ty) (Y7 : BufTy.Contents (Elt F) a7.view.ty)
  (Y8 : BufTy.Contents (Elt F) a8.view.ty) (Y9 : BufTy.Contents (Elt F) a9.view.ty)
  (Y10 : BufTy.Contents (Elt F) a10.view.ty) (Y11 : BufTy.Contents (Elt F) a11.view.ty)
  (Y12 : BufTy.Contents (Elt F) a12.view.ty) (Y13 : BufTy.Contents (Elt F) a13.view.ty)
  (Y14 : BufTy.Contents (Elt F) a14.view.ty) (Y15 : BufTy.Contents (Elt F) a15.view.ty)
  (Y16 : BufTy.Contents (Elt F) a16.view.ty) : sProp 𝕄 :=
  iprop((a2.view.loc (c : Thread nD τ) ↦[a2.view.set]{fullShare} Y2) ∗
    (a3.view.loc (c : Thread nD τ) ↦[a3.view.set]{fullShare} Y3) ∗
    (a4.view.loc (c : Thread nD τ) ↦[a4.view.set]{fullShare} Y4) ∗
    (a5.view.loc (c : Thread nD τ) ↦[a5.view.set]{fullShare} Y5) ∗
    (a6.view.loc (c : Thread nD τ) ↦[a6.view.set]{fullShare} Y6) ∗
    (a7.view.loc (c : Thread nD τ) ↦[a7.view.set]{fullShare} Y7) ∗
    (a8.view.loc (c : Thread nD τ) ↦[a8.view.set]{fullShare} Y8) ∗
    (a9.view.loc (c : Thread nD τ) ↦[a9.view.set]{fullShare} Y9) ∗
    (a10.view.loc (c : Thread nD τ) ↦[a10.view.set]{fullShare} Y10) ∗
    (a11.view.loc (c : Thread nD τ) ↦[a11.view.set]{fullShare} Y11) ∗
    (a12.view.loc (c : Thread nD τ) ↦[a12.view.set]{fullShare} Y12) ∗
    (a13.view.loc (c : Thread nD τ) ↦[a13.view.set]{fullShare} Y13) ∗
    (a14.view.loc (c : Thread nD τ) ↦[a14.view.set]{fullShare} Y14) ∗
    (a15.view.loc (c : Thread nD τ) ↦[a15.view.set]{fullShare} Y15) ∗
    (a16.view.loc (c : Thread nD τ) ↦[a16.view.set]{fullShare} Y16))

end Cert.KernelIdeal.Proof

end
-- ==== Proof.KI.Run1.lean ====
/- The kernel's body run at a grid point that takes branch 1: from any contents of its buffers, the contents it leaves. -/
module

public import proofs.«01_k».proof.Proof.KI.Res

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop over the heads in branch 1: its generated invariant, at the two grid words its body does not read. -/
@[sl_loop] def loop1 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond1 i = 1#1) (v675 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t1 𝒱 c bd E i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15

/-- A point at which branch 1 is taken. -/
@[irreducible] def run1 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : k0_cond1 i = 1#1) (hc2 : ¬ k0_cond2 i = 1#1) (hc3 : ¬ k0_cond3 i = 1#1) (hc4 : ¬ k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Proof

end
-- ==== Proof.KI.Run2.lean ====
/- The kernel's body run at a grid point that takes branch 2: from any contents of its buffers, the contents it leaves. -/
module

public import proofs.«01_k».proof.Proof.KI.Res

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop over the heads in branch 2: its generated invariant, at the two grid words its body does not read. -/
@[sl_loop] def loop2 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond2 i = 1#1) (v675 v678 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t2 𝒱 c bd E i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15

/-- A point at which branch 2 is taken. -/
@[irreducible] def run2 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : k0_cond2 i = 1#1) (hc3 : ¬ k0_cond3 i = 1#1) (hc4 : ¬ k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Proof

end
-- ==== Proof.KI.Run3.lean ====
/- The kernel's body run at a grid point that takes branch 3: from any contents of its buffers, the contents it leaves. -/
module

public import proofs.«01_k».proof.Proof.KI.Res

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop over the heads in branch 3: its generated invariant, at the two grid words its body does not read. -/
@[sl_loop] def loop3 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond3 i = 1#1) (v675 v678 v681 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t3 𝒱 c bd E i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15

/-- A point at which branch 3 is taken. -/
@[irreducible] def run3 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : k0_cond3 i = 1#1) (hc4 : ¬ k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Proof

end
-- ==== Proof.KI.Run4.lean ====
/- The kernel's body run at a grid point that takes branch 4: from any contents of its buffers, the contents it leaves. -/
module

public import proofs.«01_k».proof.Proof.KI.Res

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop over the heads in branch 4: its generated invariant, at the two grid words its body does not read. -/
@[sl_loop] def loop4 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond4 i = 1#1) (v675 v678 v681 v684 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t4 𝒱 c bd E i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15

/-- A point at which branch 4 is taken. -/
@[irreducible] def run4 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : ¬ k0_cond3 i = 1#1) (hc4 : k0_cond4 i = 1#1)
  (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Proof

end
-- ==== Proof.KI.Run5.lean ====
/- The kernel's body run at a grid point that takes branch 5: from any contents of its buffers, the contents it leaves. -/
module

public import proofs.«01_k».proof.Proof.KI.Res

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option warn.classDefReducibility false in
/-- The loop over the heads in branch 5: its generated invariant, at the two grid words its body does not read. -/
@[sl_loop] def loop5 (𝒱 : Variants) (c : Dev nD) (bd : Option 𝒱.V) (E : Set ℕ) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond5 i = 1#1) (v675 v678 v681 v684 v687 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :=
  loopInv_k0_t5 𝒱 c bd E i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15

/-- A point at which branch 5 is taken. -/
@[irreducible] def run5 (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : ¬ k0_cond3 i = 1#1) (hc4 : ¬ k0_cond4 i = 1#1)
  (hc5 : k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    Σ' (Y8 : BufTy.Contents (Elt F) a8.view.ty), Σ' (Y9 : BufTy.Contents (Elt F) a9.view.ty), Σ' (Y10 : BufTy.Contents (Elt F) a10.view.ty), Σ' (Y11 : BufTy.Contents (Elt F) a11.view.ty), Σ' (Y12 : BufTy.Contents (Elt F) a12.view.ty), Σ' (Y13 : BufTy.Contents (Elt F) a13.view.ty), Σ' (Y14 : BufTy.Contents (Elt F) a14.view.ty), Σ' (Y15 : BufTy.Contents (Elt F) a15.view.ty), { Y16 : BufTy.Contents (Elt F) a16.view.ty // ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K } := by
  refine ⟨?_, ?_, ?_, ?_, ?_, ?_, ?_, ?_, ?_, fun E K => ?run⟩
  case run =>
    rw [cc0_swa_fp8_eq_skeleton]
    unfold cc0_swa_fp8_skel
    iintro ⟨⟨H2, H3, H4, H5, H6, H7, H8, H9, H10, H11, H12, H13, H14, H15, H16⟩, Hk⟩
    sl_exec
    sl_execs
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

end Cert.KernelIdeal.Proof

end
-- ==== Proof.KI.Frame.lean ====
/- The kernel's memory safety: the run of its grid over any floats, the arguments unchanged. -/
module

public import proofs.«01_k».proof.Proof.KI.Run1
public import proofs.«01_k».proof.Proof.KI.Run2
public import proofs.«01_k».proof.Proof.KI.Run3
public import proofs.«01_k».proof.Proof.KI.Run4
public import proofs.«01_k».proof.Proof.KI.Run5

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation ΦA)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- At each point exactly one of the five branches is taken: the first four at the first four blocks of a batch, the
    fifth from the fifth on. -/
theorem cond_cases (i : grid0.Coords) :
    ((i 1).val = 0 ∧ k0_cond1 i = 1#1 ∧ ¬ k0_cond2 i = 1#1 ∧ ¬ k0_cond3 i = 1#1 ∧ ¬ k0_cond4 i = 1#1 ∧ ¬ k0_cond5 i = 1#1)
    ∨ ((i 1).val = 1 ∧ ¬ k0_cond1 i = 1#1 ∧ k0_cond2 i = 1#1 ∧ ¬ k0_cond3 i = 1#1 ∧ ¬ k0_cond4 i = 1#1 ∧ ¬ k0_cond5 i = 1#1)
    ∨ ((i 1).val = 2 ∧ ¬ k0_cond1 i = 1#1 ∧ ¬ k0_cond2 i = 1#1 ∧ k0_cond3 i = 1#1 ∧ ¬ k0_cond4 i = 1#1 ∧ ¬ k0_cond5 i = 1#1)
    ∨ ((i 1).val = 3 ∧ ¬ k0_cond1 i = 1#1 ∧ ¬ k0_cond2 i = 1#1 ∧ ¬ k0_cond3 i = 1#1 ∧ k0_cond4 i = 1#1 ∧ ¬ k0_cond5 i = 1#1)
    ∨ (4 ≤ (i 1).val ∧ ¬ k0_cond1 i = 1#1 ∧ ¬ k0_cond2 i = 1#1 ∧ ¬ k0_cond3 i = 1#1 ∧ ¬ k0_cond4 i = 1#1 ∧ k0_cond5 i = 1#1) := by
  unfold k0_cond1 k0_cond2 k0_cond3 k0_cond4 k0_cond5
  generalize i 1 = j
  revert j
  decide +kernel

/-- One grid point from any contents: the body runs and leaves some contents. -/
theorem step (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    ∃ (Y8 : BufTy.Contents (Elt F) a8.view.ty) (Y9 : BufTy.Contents (Elt F) a9.view.ty) (Y10 : BufTy.Contents (Elt F) a10.view.ty) (Y11 : BufTy.Contents (Elt F) a11.view.ty) (Y12 : BufTy.Contents (Elt F) a12.view.ty) (Y13 : BufTy.Contents (Elt F) a13.view.ty) (Y14 : BufTy.Contents (Elt F) a14.view.ty) (Y15 : BufTy.Contents (Elt F) a15.view.ty) (Y16 : BufTy.Contents (Elt F) a16.view.ty),
      ∀ (E : Set ℕ) (K : PUnit → sProp 𝕄),
      iprop(Res (F := F) c a2 a3 a4 a5 a6 a7 a8 a9 a10 a11 a12 a13 a14 a15 a16 X2 X3 X4 X5 X6 X7 G8 G9 G10 G11 G12 G13 G14 G15 G16 ∗
        (Res (F := F) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := F)) 𝒱 (c : Thread nD τ) bd) E (cc0_swa_fp8 (F := F) i a2 h2 a3 h3 a4 h4 a5 h5 a6 h6 a7 h7 a8 h8 a9 h9 a10 h10 a11 h11 a12 h12 a13 h13 a14 h14 a15 h15 a16 h16) K := by
  rcases cond_cases i with ⟨-, q1, q2, q3, q4, q5⟩ | ⟨-, q1, q2, q3, q4, q5⟩ | ⟨-, q1, q2, q3, q4, q5⟩ | ⟨-, q1, q2, q3, q4, q5⟩ |
    ⟨-, q1, q2, q3, q4, q5⟩
  · let r := run1 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run2 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run3 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run4 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩
  · let r := run5 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    exact ⟨r.1, r.2.1, r.2.2.1, r.2.2.2.1, r.2.2.2.2.1, r.2.2.2.2.2.1, r.2.2.2.2.2.2.1, r.2.2.2.2.2.2.2.1, r.2.2.2.2.2.2.2.2.1, r.2.2.2.2.2.2.2.2.2⟩

/-- The scratch buffers at given contents. -/
abbrev Scr (c : Dev nD) (G10 : Buf (Elt F) ((c : Thread nD τ).loc cc0_scratch0)) (G11 : Buf (Elt F) ((c : Thread nD τ).loc cc0_scratch1)) (G12 : Buf (Elt F) ((c : Thread nD τ).loc cc0_scratch2)) (G13 : Buf (Elt F) ((c : Thread nD τ).loc cc0_scratch3)) (G14 : Buf (Elt F) ((c : Thread nD τ).loc cc0_scratch4)) (G15 : Buf (Elt F) ((c : Thread nD τ).loc cc0_scratch5)) (G16 : Buf (Elt F) ((c : Thread nD τ).loc cc0_scratch6)) : sProp 𝕄 :=
  iprop(((Memref.whole cc0_scratch0).view.loc (c : Thread nD τ) ↦[(Memref.whole cc0_scratch0).view.set]{fullShare} G10) ∗ ((Memref.whole cc0_scratch1).view.loc (c : Thread nD τ) ↦[(Memref.whole cc0_scratch1).view.set]{fullShare} G11) ∗ ((Memref.whole cc0_scratch2).view.loc (c : Thread nD τ) ↦[(Memref.whole cc0_scratch2).view.set]{fullShare} G12) ∗ ((Memref.whole cc0_scratch3).view.loc (c : Thread nD τ) ↦[(Memref.whole cc0_scratch3).view.set]{fullShare} G13) ∗ ((Memref.whole cc0_scratch4).view.loc (c : Thread nD τ) ↦[(Memref.whole cc0_scratch4).view.set]{fullShare} G14) ∗ ((Memref.whole cc0_scratch5).view.loc (c : Thread nD τ) ↦[(Memref.whole cc0_scratch5).view.set]{fullShare} G15) ∗ ((Memref.whole cc0_scratch6).view.loc (c : Thread nD τ) ↦[(Memref.whole cc0_scratch6).view.set]{fullShare} G16))

theorem open_rest (c : Dev nD) :
    (ΦA spec0 c : sProp 𝕄) ⊢ iprop((∃ G10 G11 G12 G13 G14 G15 G16, Scr (F := F) c G10 G11 G12 G13 G14 G15 G16) ∗ ∃ r, prngReg c r) := by
  unfold ΦA
  rw [scopedRest0_eq]
  unfold Scr
  simp only [Memref.view_whole, View.set_whole]
  iintro ⟨⟨⟨%G10, H10⟩, ⟨%G11, H11⟩, ⟨%G12, H12⟩, ⟨%G13, H13⟩, ⟨%G14, H14⟩, ⟨%G15, H15⟩, ⟨%G16, H16⟩⟩, Hr⟩
  isplitr [Hr]
  · iexists G10, G11, G12, G13, G14, G15, G16
    isplitl [H10]; · iexact H10
    isplitl [H11]; · iexact H11
    isplitl [H12]; · iexact H12
    isplitl [H13]; · iexact H13
    isplitl [H14]; · iexact H14
    isplitl [H15]; · iexact H15
    iexact H16
  iexact Hr

theorem close_rest (c : Dev nD) (G10 : Buf (Elt F) ((c : Thread nD τ).loc cc0_scratch0)) (G11 : Buf (Elt F) ((c : Thread nD τ).loc cc0_scratch1)) (G12 : Buf (Elt F) ((c : Thread nD τ).loc cc0_scratch2)) (G13 : Buf (Elt F) ((c : Thread nD τ).loc cc0_scratch3)) (G14 : Buf (Elt F) ((c : Thread nD τ).loc cc0_scratch4)) (G15 : Buf (Elt F) ((c : Thread nD τ).loc cc0_scratch5)) (G16 : Buf (Elt F) ((c : Thread nD τ).loc cc0_scratch6)) :
    iprop(Scr (F := F) c G10 G11 G12 G13 G14 G15 G16 ∗ ∃ r, prngReg c r) ⊢ (ΦA spec0 c : sProp 𝕄) := by
  unfold ΦA
  rw [scopedRest0_eq]
  unfold Scr
  simp only [Memref.view_whole, View.set_whole]
  iintro ⟨⟨H10, H11, H12, H13, H14, H15, H16⟩, Hr⟩
  isplitr [Hr]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16
  iexact Hr

variable (m : (ℓ : Loc nD τ sig) → Buf (Elt F) ℓ) (ρ : Dev nD → PrngReg)

/-- The two results, of which memory safety says nothing. -/
def forgets : Fin 8 → Bool
  | ⟨0, _⟩ | ⟨1, _⟩ | ⟨2, _⟩ | ⟨3, _⟩ | ⟨4, _⟩ | ⟨5, _⟩ => false
  | ⟨6, _⟩ | ⟨7, _⟩ => true

/-- The proof data of memory safety: every input's block where the grid fetched it, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body at each grid point, the results at anything. -/
theorem body_obligation (c : Dev nD) :
    BodyObligation (dats (F := F) m 0 c) (defs₀ (F := F)) 𝒱₀ () Set.univ forgets := fun t => by
  rw [bigSep_W0, bigSep_W0]
  sl_whnfR [defs₀, Defs.onTc]
  simp only [before0_0, before0_1, before0_2, before0_3, before0_4, before0_5, forgets]
  rw [show (dats m 0 c).Φ t.succ = ΦA spec0 c from rfl, show (dats m 0 c).Φ t.castSucc = ΦA spec0 c from rfl,
    show (dats m 0 c).owesAt () t.succ = (dats m 0 c).owesAt () t.castSucc from rfl, after0_0, after0_1, after0_2, after0_3, after0_4, after0_5]
  unfold owns
  iintro ⟨HΦ, Ho, ⟨%d0, %f0, %hf0, H2⟩, ⟨%d1, %f1, %hf1, H3⟩, ⟨%d2, %f2, %hf2, H4⟩, ⟨%d3, %f3, %hf3, H5⟩, ⟨%d4, %f4, %hf4, H6⟩, ⟨%d5, %f5, %hf5, H7⟩, ⟨%d6, %f6, -, H8⟩, ⟨%d7, %f7, -, H9⟩⟩
  ihave HΦ := open_rest c $$ HΦ
  icases HΦ with ⟨⟨%G10, %G11, %G12, %G13, %G14, %G15, %G16, H10, H11, H12, H13, H14, H15, H16⟩, Hr⟩
  obtain ⟨Y8, Y9, Y10, Y11, Y12, Y13, Y14, Y15, Y16, run⟩ := step (F := F) 𝒱₀ c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 f5 f6 f7 G10 G11 G12 G13 G14 G15 G16
  iapply (run Set.univ _)
  isplitr [Ho Hr]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro ⟨H2, H3, H4, H5, H6, H7, H8, H9, H10, H11, H12, H13, H14, H15, H16⟩
  isplitr [Ho H2 H3 H4 H5 H6 H7 H8 H9]
  · iapply (close_rest c Y10 Y11 Y12 Y13 Y14 Y15 Y16)
    isplitr [Hr]
    · isplitl [H10]; · iexact H10
      isplitl [H11]; · iexact H11
      isplitl [H12]; · iexact H12
      isplitl [H13]; · iexact H13
      isplitl [H14]; · iexact H14
      isplitl [H15]; · iexact H15
      iexact H16
    iexact Hr
  isplitl [Ho]; · iexact Ho
  isplitl [H2]; · (iexists f0; isplitr; · (ipureintro; exact hf0)); iexact H2
  isplitl [H3]; · (iexists f1; isplitr; · (ipureintro; exact hf1)); iexact H3
  isplitl [H4]; · (iexists f2; isplitr; · (ipureintro; exact hf2)); iexact H4
  isplitl [H5]; · (iexists f3; isplitr; · (ipureintro; exact hf3)); iexact H5
  isplitl [H6]; · (iexists f4; isplitr; · (ipureintro; exact hf4)); iexact H6
  isplitl [H7]; · (iexists f5; isplitr; · (ipureintro; exact hf5)); iexact H7
  isplitl [H8]; · (iexists _, Y8; isplitr; · (ipureintro; rfl)); iexact H8
  iexists _, Y9; isplitr; · (ipureintro; rfl)
  iexact H9

set_option backward.isDefEq.respectTransparency.types false in
/-- From any memory with zero counters every fair execution ends, the pipeline's inputs and every other argument as they
    were and every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- Memory safety: every fair execution ends with the arguments unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hs⟩ => ⟨fun c =>
    ⟨(h.arr_in c 0 rfl).trans (V_main_arg0 m c), (h.arr_in c 1 rfl).trans (V_main_arg1 m c),
      (h.arr_in c 2 rfl).trans (V_main_arg2 m c), (h.arr_in c 3 rfl).trans (V_main_arg3 m c),
      ((h c).2 main_arg4 (Pipeline.mem_restRefs_of main_arg4 (by decide) (by decide))).trans (V_main_arg4 m c),
      (h.arr_in c 5 rfl).trans (V_main_arg5 m c)⟩, hs⟩)
    (run_main m ρ)

end Cert.KernelIdeal.Proof

end
-- ==== Proof.V.Model.lean ====
/- One trip of the loop over the heads, written as a function of the arrays that it loads: the scores of the key tiles,
   their running maximum, the weights, their sum, and the weighted sum of the values. -/
module

public import proofs.«01_k».proof.Proof.Gen.KernelIdeal.Frame
public import Idealize.ShloMosaic.Lib.Exec
public import Idealize.ShloMosaic.Lib.Tactic

@[expose] public section

noncomputable section

namespace Cert.KernelIdeal.Proof

open Cert.KernelIdeal.Gen
open Idealize.ShloMosaic Idealize.ShloMosaic.TcCoe

variable {F : FTy → Type} [FloatOps F] [Named F]

/-- What a trip loads: the queries of one head; the keys, the key scales and the scaled values of tile `d`; and the
    query scales of each half of the block. -/
structure Loads (F : FTy → Type) where
  q : Vec F S1x256x128 .fp8e4m3
  k : ℕ → Vec F S1x256x128 .fp8e4m3
  ks : ℕ → Fin 2 → Vec F S1x1x128x128 .f32
  v : ℕ → Vec F S1x128x256 .bf16
  a : Fin 2 → Vec F S1x1x128 .f32

theorem slices_half (r s : Fin 2) : S256x256.Slices ![128 * r.val, 128 * s.val] S128x128 := by
  revert r s; decide

/-- The sub-tiles (tile, half of the keys, half of the queries) of which the window keeps nothing. -/
def none' (d : ℕ) (r s : Fin 2) : Bool := (d == 0 && r.val == 1 && s.val == 0) || (d == 4 && r.val == 0 && s.val == 1)

/-- The sub-tiles that the window cuts. -/
def cut' (d : ℕ) (r s : Fin 2) : Bool :=
  (d == 0 && r.val == s.val) || (d == 3 && r.val == 0 && s.val == 1) || (d == 4 && !(r.val == 0 && s.val == 1))

variable (I : Loads F)

/-- The products of the keys of tile `d` with the queries. -/
def prods (d : ℕ) : FVec F S256x256 .f32 :=
  matmul dot_S256x128_S256x128_S256x256_1_1_0_0_n_n none (shapeCast S256x128 (I.k d) shapeCasts_S1x256x128_S256x128)
    (shapeCast S256x128 I.q shapeCasts_S1x256x128_S256x128) (constant S256x256 .f32 0x00000000#32)

/-- The scores of a sub-tile before the mask. -/
def raw (d : ℕ) (r s : Fin 2) : FVec F S128x128 .f32 :=
  mulf (extractStridedSlice S128x128 ![128 * r.val, 128 * s.val] (prods I d) (slices_half r s))
    (shapeCast S128x128 (I.ks d r) shapeCasts_S1x1x128x128_S128x128)

/-- How far the query lies after the key, in a sub-tile whose corners lie `base` apart. -/
def delta (base : BitVec 32) : IVec S128x128 32 :=
  subi (addi (broadcast S128x128 base) (iota .tc S128x128 32 [1] iota_S128x128_d1_w32)) (iota .tc S128x128 32 [0] iota_S128x128_d0_w32)

/-- The scores kept where the query sees the key, minus infinity elsewhere. -/
def masked (base : BitVec 32) (t : FVec F S128x128 .f32) : FVec F S128x128 .f32 :=
  select (andi (cmpi .sge (delta base) (broadcast S128x128 0#32)) (cmpi .slt (delta base) (broadcast S128x128 1000#32))) t
    (broadcast S128x128 (Scalar.ofBits .f32 0xFF800000#32))

/-- The scores of a sub-tile. -/
def score (d : ℕ) (r s : Fin 2) : FVec F S128x128 .f32 :=
  bif cut' d r s then masked (BitVec.ofNat 32 (256 * d + 128 * s.val - 128 * r.val)) (raw I d r s) else raw I d r s

/-- The sub-tiles that the first `n` tiles give a half of the queries, in the order in which they are taken. -/
def subs (s : Fin 2) : ℕ → List (ℕ × Fin 2)
  | 0 => []
  | n + 1 => subs s n ++ ((bif none' n 0 s then [] else [(n, 0)]) ++ (bif none' n 1 s then [] else [(n, 1)]))

/-- The running maximum of the scores. -/
def maxes (n : ℕ) (s : Fin 2) : FVec F S1x128 .f32 :=
  (subs s n).foldl (fun m x => maximumf m (shapeCast S1x128
    (multiReduction .maximumf [0] S128 (score I x.1 x.2 s) 0xFF800000#32 reduces_S128x128_S128 (.inl rfl) rfl) shapeCasts_S128_S1x128))
    (broadcast S1x128 (Scalar.ofBits .f32 0xFF800000#32))

/-- The weights of a sub-tile. -/
def weight (n d : ℕ) (r s : Fin 2) : FVec F S128x128 .f32 :=
  exp2 (mulf (subf (shapeCast S128x128 (shapeCast S1x128x128 (score I d r s) shapeCasts_S128x128_S1x128x128) shapeCasts_S1x128x128_S128x128)
    (broadcastTo S128x128 (maxes I n s) broadcasts_S1x128_S128x128))
    (broadcastTo S128x128 (shapeCast S1x128 (I.a s) shapeCasts_S1x1x128_S1x128) broadcasts_S1x128_S128x128))

/-- The running sum of the weights. -/
def sums (n : ℕ) (s : Fin 2) : FVec F S1x128 .f32 :=
  (subs s n).foldl (fun l x => addf l (shapeCast S1x128
    (multiReduction .add [0] S128 (weight I n x.1 x.2 s) 0x00000000#32 reduces_S128x128_S128 (.inl rfl) rfl) shapeCasts_S128_S1x128))
    (broadcast S1x128 (Scalar.ofBits .f32 0x00000000#32))

/-- The weights of a sub-tile over their sum, nothing where the window keeps nothing. -/
def share (n d : ℕ) (r s : Fin 2) : FVec F S128x128 .bf16 :=
  bif none' d r s then broadcast S128x128 (Scalar.ofBits .bf16 0x0000#16)
  else truncf .bf16 (mulf (shapeCast S128x128 (shapeCast S1x128x128 (weight I n d r s) shapeCasts_S128x128_S1x128x128) shapeCasts_S1x128x128_S128x128)
    (broadcastTo S128x128 (divf (broadcast S1x128 (Scalar.ofBits .f32 0x3F800000#32)) (sums I n s)) broadcasts_S1x128_S128x128)) bitsLt_bf16_f32

/-- Four sub-tiles side by side. -/
def quad {e : FTy} (a b c d : FVec F S128x128 e) : FVec F S256x256 e :=
  concatenate S256x256 0 [⟨S128x256, concatenate S128x256 1 [⟨S128x128, a⟩, ⟨S128x128, b⟩] concatenates_S128x128_S128x128_S128x256_d1⟩,
    ⟨S128x256, concatenate S128x256 1 [⟨S128x128, c⟩, ⟨S128x128, d⟩] concatenates_S128x128_S128x128_S128x256_d1⟩]
    concatenates_S128x256_S128x256_S256x256_d0

theorem quad_eq {e : FTy} (a b c d : FVec F S128x128 e) (h1 h2 h3) :
    concatenate S256x256 0 [⟨S128x256, concatenate S128x256 1 [⟨S128x128, a⟩, ⟨S128x128, b⟩] h1⟩,
      ⟨S128x256, concatenate S128x256 1 [⟨S128x128, c⟩, ⟨S128x128, d⟩] h2⟩] h3 = quad a b c d := rfl

/-- The weighted sum of the values of the first `d` tiles. -/
def outs (n : ℕ) : ℕ → FVec F S128x256 .f32
  | 0 => broadcast S128x256 (Scalar.ofBits .f32 0x00000000#32)
  | d + 1 => addf (outs n d) (matmul dot_S128x256_S256x256_S128x256_1_0_0_1_n_n none (shapeCast S128x256 (I.v d) shapeCasts_S1x128x256_S128x256)
      (quad (share I n d 0 0) (share I n d 0 1) (share I n d 1 0) (share I n d 1 1)) (constant S128x256 .f32 0x00000000#32))

/-- What a trip over `n` tiles stores of a head. -/
def out (n : ℕ) : FVec F S128x256 .f32 := shapeCast S128x256 (outs I n n) shapeCasts_S128x256_S128x256

/-- The largest magnitudes that it stores. -/
def peak (n : ℕ) : FVec F S1x1x256 .f32 :=
  shapeCast S1x1x256 (shapeCast S1x256 (multiReduction .maximumf [0] S256 (absf (outs I n n)) 0xFF800000#32 reduces_S128x256_S256 (.inl rfl) rfl)
    shapeCasts_S256_S1x256) shapeCasts_S1x256_S1x1x256

/-- A block of an array at given offsets. -/
abbrev win {α : Type} {s : Shape} (f : s.Idx → α) (off size : Fin s.rank → ℕ) (h : ∀ a, off a + size a ≤ s.size a) : (⟨s.rank, size⟩ : Shape).Idx → α :=
  fun j => f ((Rect.unit off size h).toLoadRect.idx j)

theorem win_apply {α : Type} {s : Shape} (f : s.Idx → α) (off size : Fin s.rank → ℕ)
    (h : ∀ a, off a + size a ≤ s.size a) (j : (⟨s.rank, size⟩ : Shape).Idx) (x : s.Idx) (hx : ∀ a, (x a).val = off a + (j a).val) :
    win f off size h j = f x :=
  congrArg f (funext fun a => Fin.ext (by
    rw [hx a]
    show off a + 1 * (j a).val = _
    omega))

/-- The first column of head `k`. -/
def headW (k : ℕ) : ℕ := BitVec.toNat (Scalar.indexCast (Scalar.muli (Scf.iv 0#32 1#32 k) 128#32))

/-- Head `k`. -/
def headN (k : ℕ) : ℕ := BitVec.toNat (Scalar.indexCast (Scf.iv 0#32 1#32 k))

/-- The slot of the rings in which block `i - d` lies. -/
def slotW (i : grid0.Coords) (d : ℕ) : ℕ :=
  BitVec.toNat (Scalar.indexCast (Scalar.remsi (Scalar.addi (Scalar.subi (BitVec.ofNat 32 (i 1).val) (BitVec.ofNat 32 (d % 5))) 5#32) 5#32))

theorem headW_eq (k : ℕ) (hk : k < 16) : headW k = 128 * k := by
  interval_cases k <;> rfl

theorem headN_eq (k : ℕ) (hk : k < 16) : headN k = k := by
  interval_cases k <;> rfl

theorem slotW_eq (i : grid0.Coords) (d : ℕ) : slotW i d = ((i 1).val + 5 - d % 5) % 5 := by
  have key : ∀ (n : Fin 64) (d : Fin 5), BitVec.toNat (Scalar.indexCast (Scalar.remsi (Scalar.addi (Scalar.subi (BitVec.ofNat 32 n.val) (BitVec.ofNat 32 d.val)) 5#32) 5#32)) = (n.val + 5 - d.val) % 5 := by
    decide +kernel
  exact key (i 1) ⟨d % 5, Nat.mod_lt _ (by norm_num)⟩

theorem slotW_lt (i : grid0.Coords) (d : ℕ) : slotW i d < 5 := by
  rw [slotW_eq]
  exact Nat.mod_lt _ (by norm_num)

theorem fits2 {x y p q P Q : ℕ} (h0 : x + p ≤ P) (h1 : y + q ≤ Q) :
    ∀ a, (![x, y] : Fin 2 → ℕ) a + (![p, q] : Fin 2 → ℕ) a ≤ (![P, Q] : Fin 2 → ℕ) a := by
  intro a
  fin_cases a
  exacts [h0, h1]

theorem fits3 {x y z p q r P Q R : ℕ} (h0 : x + p ≤ P) (h1 : y + q ≤ Q) (h2 : z + r ≤ R) :
    ∀ a, (![x, y, z] : Fin 3 → ℕ) a + (![p, q, r] : Fin 3 → ℕ) a ≤ (![P, Q, R] : Fin 3 → ℕ) a := by
  intro a
  fin_cases a
  exacts [h0, h1, h2]

theorem fits4 {x y z w p q r s P Q R S : ℕ} (h0 : x + p ≤ P) (h1 : y + q ≤ Q) (h2 : z + r ≤ R) (h3 : w + s ≤ S) :
    ∀ a, (![x, y, z, w] : Fin 4 → ℕ) a + (![p, q, r, s] : Fin 4 → ℕ) a ≤ (![P, Q, R, S] : Fin 4 → ℕ) a := by
  intro a
  fin_cases a
  exacts [h0, h1, h2, h3]

/-- What trip `k` at grid point `i` loads, from the contents of the buffers. -/
def loads (i : grid0.Coords) (k : ℕ) (hk : k < 16) (x2 : S1x256x2048.Idx → Elt F .fp8e4m3) (x10 : S5x256x2048.Idx → Elt F .fp8e4m3)
    (x11 : S5x2048x256.Idx → Elt F .bf16) (x12 : S5x16x256x128.Idx → Elt F .f32) (x16 : S16x1x256.Idx → Elt F .f32) : Loads F where
  q := win x2 ![0, 0, headW k] ![1, 256, 128] (fits3 (by norm_num) (by norm_num) (by rw [headW_eq k hk]; omega))
  k d := win x10 ![slotW i d, 0, headW k] ![1, 256, 128] (fits3 (slotW_lt i d) (by norm_num) (by rw [headW_eq k hk]; omega))
  ks d r := win x12 ![slotW i d, headN k, 128 * r.val, 0] ![1, 1, 128, 128]
    (fits4 (slotW_lt i d) (by rw [headN_eq k hk]; exact hk) (by omega) (by norm_num))
  v d := win x11 ![slotW i d, headW k, 0] ![1, 128, 256] (fits3 (slotW_lt i d) (by rw [headW_eq k hk]; omega) (by norm_num))
  a s := win x16 ![headN k, 0, 128 * s.val] ![1, 1, 128] (fits3 (by rw [headN_eq k hk]; exact hk) (by norm_num) (by omega))

/-- Where a trip stores the head. -/
abbrev headR (k : ℕ) (hk : k < 16) : Rect S2048x256 :=
  Rect.unit (s := S2048x256) ![headW k, 0] S128x256.size (fits2 (by rw [headW_eq k hk]; omega) (by norm_num))

/-- Where it stores the largest magnitudes. -/
abbrev peakR (k : ℕ) (hk : k < 16) : Rect S16x1x256 :=
  Rect.unit (s := S16x1x256) ![headN k, 0, 0] S1x1x256.size (fits3 (by rw [headN_eq k hk]; exact hk) (by norm_num) (by norm_num))

end Cert.KernelIdeal.Proof

end
-- ==== Proof.V.Body.lean ====
/- What a grid point stores outside the loop over the heads: the rings and the scaled query scales before it, the codes and the scales after it. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Model
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- One item per head, the last head first. -/
def heads {α : Type} (f : (h : ℕ) → h < 16 → α) : List α :=
  [f 15 (by norm_num), f 14 (by norm_num), f 13 (by norm_num), f 12 (by norm_num), f 11 (by norm_num), f 10 (by norm_num),
   f 9 (by norm_num), f 8 (by norm_num), f 7 (by norm_num), f 6 (by norm_num), f 5 (by norm_num), f 4 (by norm_num),
   f 3 (by norm_num), f 2 (by norm_num), f 1 (by norm_num), f 0 (by norm_num)]

theorem mem_heads {α : Type} (f : (h : ℕ) → h < 16 → α) (p : α) : p ∈ heads f ↔ ∃ h hh, p = f h hh := by
  constructor
  · intro hp
    simp only [heads, List.mem_cons, List.not_mem_nil, or_false] at hp
    rcases hp with hp | hp | hp | hp | hp | hp | hp | hp | hp | hp | hp | hp | hp | hp | hp | hp
    all_goals exact ⟨_, _, hp⟩
  · rintro ⟨h, hh, rfl⟩
    interval_cases h <;> simp [heads]

/-- The slot of the rings into which the point stores its own block. -/
def slot (i : grid0.Coords) : ℕ := BitVec.toNat (Scalar.indexCast (Scalar.remsi (BitVec.ofNat 32 (i 1).val) 5#32))

theorem slot_eq (i : grid0.Coords) : slot i = (i 1).val % 5 := by
  have key : ∀ n : Fin 64, BitVec.toNat (Scalar.indexCast (Scalar.remsi (BitVec.ofNat 32 n.val) 5#32)) = n.val % 5 := by
    decide +kernel
  exact key (i 1)

theorem slot_lt (i : grid0.Coords) : slot i < 5 := by
  rw [slot_eq]
  exact Nat.mod_lt _ (by norm_num)

/-- The keys of the block. -/
def keyP (i : grid0.Coords) (x4 : S1x256x2048.Idx → Elt F .fp8e4m3) : View.Piece (Elt F) S5x256x2048 .fp8e4m3 :=
  ⟨Rect.unit (s := S5x256x2048) ![slot i, 0, 0] S1x256x2048.size (fits3 (slot_lt i) (by norm_num) (by norm_num)),
    k0_pay415 (F := F) (win x4 ![0, 0, 0] ![1, 256, 2048] (fits3 (by norm_num) (by norm_num) (by norm_num)))⟩

/-- The values of head `h` of the block, times their scales. -/
def valV (x6 : S1x256x2048.Idx → Elt F .fp8e4m3) (x7 : S1x256x16.Idx → Elt F .f32) (h : ℕ) (hh : h < 16) : FVec F S1x128x256 .bf16 :=
  shapeCast S1x128x256 (mulf (transpose S128x256 [1, 0] (extf .bf16 (shapeCast S256x128
      (win x6 ![0, 0, 128 * h] ![1, 256, 128] (fits3 (by norm_num) (by norm_num) (by omega))) shapeCasts_S1x256x128_S256x128) bitsLt_fp8e4m3_bf16)
      transposes_S256x128_p1_0_S128x256)
    (broadcastTo S128x256 (extractStridedSlice S1x256 ![h, 0] (k0_pay416 (F := F) (win x7 ![0, 0, 0] ![1, 256, 16] (fits3 (by norm_num) (by norm_num) (by norm_num))))
      (by exact (by interval_cases h <;> decide))) broadcasts_S1x256_S128x256)) shapeCasts_S128x256_S1x128x256

/-- Where they are stored. -/
def valP (i : grid0.Coords) (x6 : S1x256x2048.Idx → Elt F .fp8e4m3) (x7 : S1x256x16.Idx → Elt F .f32) (h : ℕ) (hh : h < 16) :
    View.Piece (Elt F) S5x2048x256 .bf16 :=
  ⟨Rect.unit (s := S5x2048x256) ![slot i, 128 * h, 0] S1x128x256.size (fits3 (slot_lt i) (by omega) (by norm_num)), valV x6 x7 h hh⟩

/-- The scales of the keys of head `h` of the block. -/
def sclV (x5 : S1x256x16.Idx → Elt F .f32) (h : ℕ) (hh : h < 16) : FVec F S1x1x256x128 .f32 :=
  shapeCast S1x1x256x128 (broadcastTo S256x128 (shapeCast S256x1 (shapeCast S256x1
      (win x5 ![0, 0, h] ![1, 256, 1] (fits3 (by norm_num) (by norm_num) hh)) shapeCasts_S1x256x1_S256x1) shapeCasts_S256x1_S256x1)
    broadcasts_S256x1_S256x128) shapeCasts_S256x128_S1x1x256x128

/-- Where they are stored. -/
def sclP (i : grid0.Coords) (x5 : S1x256x16.Idx → Elt F .f32) (h : ℕ) (hh : h < 16) : View.Piece (Elt F) S5x16x256x128 .f32 :=
  ⟨Rect.unit (s := S5x16x256x128) ![slot i, h, 0, 0] S1x1x256x128.size (fits4 (slot_lt i) hh (by norm_num) (by norm_num)), sclV x5 h hh⟩

/-- The scaled query scales of head `h`. -/
def queV (x3 : S1x256x16.Idx → Elt F .f32) (h : ℕ) (hh : h < 16) : FVec F S1x1x256 .f32 :=
  shapeCast S1x1x256 (extractStridedSlice S1x256 ![h, 0] (k0_pay417 (F := F) (win x3 ![0, 0, 0] ![1, 256, 16] (fits3 (by norm_num) (by norm_num) (by norm_num))))
    (by exact (by interval_cases h <;> decide))) shapeCasts_S1x256_S1x1x256

/-- Where they are stored. -/
def queP (x3 : S1x256x16.Idx → Elt F .f32) (h : ℕ) (hh : h < 16) : View.Piece (Elt F) S16x1x256 .f32 :=
  ⟨Rect.unit (s := S16x1x256) ![h, 0, 0] S1x1x256.size (fits3 hh (by norm_num) (by norm_num)), queV x3 h hh⟩

/-- The largest magnitude of each query, over 448. -/
def ratio (z15 : S16x1x256.Idx → Elt F .f32) : FVec F S1x256 .f32 :=
  k0_pay477 (F := F) (win z15 ![0, 0, 0] ![16, 1, 256] (fits3 (by norm_num) (by norm_num) (by norm_num)))

/-- The scale of each query. -/
def scaleV (r : FVec F S1x256 .f32) : FVec F S1x1x256 .f32 :=
  k0_pay484 r (k0_pay481 r k0_pay478 k0_pay479 (k0_pay480 (F := F))) (k0_pay482 r k0_pay478 k0_pay479 (k0_pay480 (F := F))) 23#32

/-- Its reciprocal. -/
def downV (r : FVec F S1x256 .f32) : FVec F S1x256 .f32 :=
  k0_pay485 r (k0_pay481 r k0_pay478 k0_pay479 (k0_pay480 (F := F))) (k0_pay482 r k0_pay478 k0_pay479 (k0_pay480 (F := F))) 23#32

/-- The scales that the point stores. -/
def scaleP (z15 : S16x1x256.Idx → Elt F .f32) : View.Piece (Elt F) S1x1x256 .f32 :=
  ⟨Rect.unit (s := S1x1x256) ![0, 0, 0] S1x1x256.size (fits3 (by norm_num) (by norm_num) (by norm_num)), scaleV (ratio z15)⟩

/-- The codes of head `h`. -/
def codeV (z14 : S2048x256.Idx → Elt F .f32) (z15 : S16x1x256.Idx → Elt F .f32) (h : ℕ) (hh : h < 16) : FVec F S1x256x128 .fp8e4m3 :=
  k0_pay499 (downV (ratio z15)) (win z14 ![128 * h, 0] ![128, 256] (fits2 (by omega) (by norm_num)))

/-- Where they are stored. -/
def codeP (z14 : S2048x256.Idx → Elt F .f32) (z15 : S16x1x256.Idx → Elt F .f32) (h : ℕ) (hh : h < 16) : View.Piece (Elt F) S1x256x2048 .fp8e4m3 :=
  ⟨Rect.unit (s := S1x256x2048) ![0, 0, 128 * h] S1x256x128.size (fits3 (by norm_num) (by norm_num) (by omega)), codeV z14 z15 h hh⟩

/-- What the trips before `k` of the loop leave of the heads, the last first. -/
def outL (i : grid0.Coords) (n : ℕ) (x2 : S1x256x2048.Idx → Elt F .fp8e4m3) (x10 : S5x256x2048.Idx → Elt F .fp8e4m3)
    (x11 : S5x2048x256.Idx → Elt F .bf16) (x12 : S5x16x256x128.Idx → Elt F .f32) (x16 : S16x1x256.Idx → Elt F .f32) :
    ℕ → List (View.Piece (Elt F) S2048x256 .f32)
  | 0 => []
  | k + 1 => if hk : k < 16 then ⟨headR k hk, out (loads i k hk x2 x10 x11 x12 x16) n⟩ :: outL i n x2 x10 x11 x12 x16 k else outL i n x2 x10 x11 x12 x16 k

/-- What they leave of the largest magnitudes. -/
def peakL (i : grid0.Coords) (n : ℕ) (x2 : S1x256x2048.Idx → Elt F .fp8e4m3) (x10 : S5x256x2048.Idx → Elt F .fp8e4m3)
    (x11 : S5x2048x256.Idx → Elt F .bf16) (x12 : S5x16x256x128.Idx → Elt F .f32) (x16 : S16x1x256.Idx → Elt F .f32) :
    ℕ → List (View.Piece (Elt F) S16x1x256 .f32)
  | 0 => []
  | k + 1 => if hk : k < 16 then ⟨peakR k hk, peak (loads i k hk x2 x10 x11 x12 x16) n⟩ :: peakL i n x2 x10 x11 x12 x16 k else peakL i n x2 x10 x11 x12 x16 k

end Cert.KernelIdeal.Proof

end
-- ==== Proof.V.Trip1.lean ====
/- One trip of the loop over the heads at a grid point that sees 1 key tile: what it stores, as a function of what it loads. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Model
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips1_eq : k0_t1_loop.trips = 16 := by decide

/-- The head that trip `k` stores and the largest magnitudes that it stores beside it. -/
theorem trip1_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond1 i = 1#1) (v675 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) (k : Fin k0_t1_loop.trips) :
    (trip_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 k).2.1 G13 G14 G15
        = [⟨headR k.val (k.isLt.trans_eq trips1_eq), out (loads i k.val (k.isLt.trans_eq trips1_eq) (a2.view.read (Elt F) X2) (a10.view.read (Elt F) X10) (a11.view.read (Elt F) X11) (a12.view.read (Elt F) X12) (a16.view.read (Elt F) X16)) 1⟩] ∧
    (trip_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 k).2.2.1 G13 G14 G15
        = [⟨peakR k.val (k.isLt.trans_eq trips1_eq), peak (loads i k.val (k.isLt.trans_eq trips1_eq) (a2.view.read (Elt F) X2) (a10.view.read (Elt F) X10) (a11.view.read (Elt F) X11) (a12.view.read (Elt F) X12) (a16.view.read (Elt F) X16)) 1⟩] := by
  unfold trip_k0_t1
  dsimp only
  sl_unfold_words
  simp +decide only [↓quad_eq, ↓View.readCov_cons_toLoadRect, ↓View.readCov_skip]
  simp +decide only [out, peak, outs, share, none', sums, weight, maxes, score, raw, masked, delta, cut', prods, subs, cond_true, cond_false,
    List.foldl_append, List.foldl_cons, List.foldl_nil, loads, win]
  exact ⟨rfl, rfl⟩

end Cert.KernelIdeal.Proof

end
-- ==== Proof.V.Run1.lean ====
/- A grid point that sees 1 key tile: what it leaves in every buffer, as a function of what it finds. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Body
public import proofs.«01_k».proof.Proof.V.Trip1
public import proofs.«01_k».proof.Proof.KI.Run1
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the trips before `k` store, none of it depending on what the scratches held. -/
theorem loop1_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond1 i = 1#1) (v675 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :
    ∀ k ≤ k0_t1_loop.trips, (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).2.1 = outL i 1 (a2.view.read (Elt F) X2) (a10.view.read (Elt F) X10) (a11.view.read (Elt F) X11) (a12.view.read (Elt F) X12) (a16.view.read (Elt F) X16) k ∧ (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).2.2 = peakL i 1 (a2.view.read (Elt F) X2) (a10.view.read (Elt F) X10) (a11.view.read (Elt F) X11) (a12.view.read (Elt F) X12) (a16.view.read (Elt F) X16) k := by
  intro k
  induction k with
  | zero => exact fun _ => ⟨rfl, rfl⟩
  | succ k ih =>
    intro hk
    obtain ⟨p1, p2⟩ := ih (Nat.le_of_succ_le hk)
    have hk' : k < 16 := Nat.lt_of_succ_le (hk.trans_eq trips1_eq)
    have hs := pb_k0_t1_succ 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 ⟨k, hk⟩
    have ht := trip1_stores 𝒱 c bd i a2 h2 a3 h3 a4 h4 a5 h5 a6 h6 a7 h7 a8 h8 a9 h9 a10 h10 a11 h11 a12 h12 a13 h13 a14 h14 a15 h15 a16 h16 hc v675 X2 X10 X11 X12 X16
      (a13.view.writes (Elt F) G13 (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).1) (a14.view.writes (Elt F) G14 (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).2.1) (a15.view.writes (Elt F) G15 (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).2.2) ⟨k, hk⟩
    constructor
    · refine (congrArg (fun z => z.2.1) hs).trans ?_
      rw [outL, dif_pos hk', ← p1]
      exact congrArg (fun z => z ++ (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).2.1) ht.1
    · refine (congrArg (fun z => z.2.2) hs).trans ?_
      rw [peakL, dif_pos hk', ← p2]
      exact congrArg (fun z => z ++ (pb_k0_t1 𝒱 c bd i a2 h2 a3 h3 a4 h4 a5 h5 a6 h6 a7 h7 a8 h8 a9 h9 a10 h10 a11 h11 a12 h12 a13 h13 a14 h14 a15 h15 a16 h16 0#32 0#32 hc v675 X2 X10 X11 X12 X16 G13 G14 G15 k).2.2) ht.2

/-- The whole point. -/
theorem run1_leaves (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : k0_cond1 i = 1#1) (hc2 : ¬ k0_cond2 i = 1#1) (hc3 : ¬ k0_cond3 i = 1#1) (hc4 : ¬ k0_cond4 i = 1#1) (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    (run1 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).1 = a8.view.writes (Elt F) G8 (heads (codeP
      (a14.view.read (Elt F) (a14.view.writes (Elt F) G14 (outL i 1 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))
      (a15.view.read (Elt F) (a15.view.writes (Elt F) G15 (peakL i 1 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16))))) ∧
    (run1 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.1 = a9.view.writes (Elt F) G9 [scaleP
      (a15.view.read (Elt F) (a15.view.writes (Elt F) G15 (peakL i 1 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))] ∧
    (run1 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.1 = (a10.view.writes (Elt F) G10 [keyP i (a4.view.read (Elt F) X4)]) ∧
    (run1 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.1 = (a11.view.writes (Elt F) G11 (heads (valP i (a6.view.read (Elt F) X6) (a7.view.read (Elt F) X7)))) ∧
    (run1 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.2.1 = (a12.view.writes (Elt F) G12 (heads (sclP i (a5.view.read (Elt F) X5)))) := by
  have hl := loop1_stores 𝒱 c bd i a2 h2 a3 h3 a4 h4 a5 h5 a6 h6 a7 h7 a8 h8 a9 h9 a10 h10 a11 h11 a12 h12 a13 h13 a14 h14 a15 h15 a16 h16 hc1 (Scalar.remsi (Scalar.addi (Scalar.subi (BitVec.ofNat 32 (i 1).val) (BitVec.ofNat 32 0)) 5#32) 5#32) X2 (a10.view.writes (Elt F) G10 [keyP i (a4.view.read (Elt F) X4)]) (a11.view.writes (Elt F) G11 (heads (valP i (a6.view.read (Elt F) X6) (a7.view.read (Elt F) X7)))) (a12.view.writes (Elt F) G12 (heads (sclP i (a5.view.read (Elt F) X5)))) (a16.view.writes (Elt F) a16.view.junk (heads (queP (a3.view.read (Elt F) X3)))) G13 G14 G15 _ le_rfl
  have ht : k0_t1_loop.trips = 16 := trips1_eq
  have e14 := hl.1.trans (congrArg (outL i 1 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  have e15 := hl.2.trans (congrArg (peakL i 1 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  rw [← e14, ← e15]
  unfold run1
  dsimp only
  refine ⟨?_, ?_, ?_, ?_, ?_⟩
  · rfl
  · rfl
  · rfl
  · rfl
  · rfl

end Cert.KernelIdeal.Proof

end
-- ==== Proof.V.Trip2.lean ====
/- One trip of the loop over the heads at a grid point that sees 2 key tiles: what it stores, as a function of what it loads. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Model
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips2_eq : k0_t2_loop.trips = 16 := by decide

/-- The head that trip `k` stores and the largest magnitudes that it stores beside it. -/
theorem trip2_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond2 i = 1#1) (v675 v678 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) (k : Fin k0_t2_loop.trips) :
    (trip_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 k).2.1 G13 G14 G15
        = [⟨headR k.val (k.isLt.trans_eq trips2_eq), out (loads i k.val (k.isLt.trans_eq trips2_eq) (a2.view.read (Elt F) X2) (a10.view.read (Elt F) X10) (a11.view.read (Elt F) X11) (a12.view.read (Elt F) X12) (a16.view.read (Elt F) X16)) 2⟩] ∧
    (trip_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 k).2.2.1 G13 G14 G15
        = [⟨peakR k.val (k.isLt.trans_eq trips2_eq), peak (loads i k.val (k.isLt.trans_eq trips2_eq) (a2.view.read (Elt F) X2) (a10.view.read (Elt F) X10) (a11.view.read (Elt F) X11) (a12.view.read (Elt F) X12) (a16.view.read (Elt F) X16)) 2⟩] := by
  unfold trip_k0_t2
  dsimp only
  sl_unfold_words
  simp +decide only [↓quad_eq, ↓View.readCov_cons_toLoadRect, ↓View.readCov_skip]
  simp +decide only [out, peak, outs, share, none', sums, weight, maxes, score, raw, masked, delta, cut', prods, subs, cond_true, cond_false,
    List.foldl_append, List.foldl_cons, List.foldl_nil, loads, win]
  exact ⟨rfl, rfl⟩

end Cert.KernelIdeal.Proof

end
-- ==== Proof.V.Run2.lean ====
/- A grid point that sees 2 key tiles: what it leaves in every buffer, as a function of what it finds. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Body
public import proofs.«01_k».proof.Proof.V.Trip2
public import proofs.«01_k».proof.Proof.KI.Run2
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the trips before `k` store, none of it depending on what the scratches held. -/
theorem loop2_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond2 i = 1#1) (v675 v678 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :
    ∀ k ≤ k0_t2_loop.trips, (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).2.1 = outL i 2 (a2.view.read (Elt F) X2) (a10.view.read (Elt F) X10) (a11.view.read (Elt F) X11) (a12.view.read (Elt F) X12) (a16.view.read (Elt F) X16) k ∧ (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).2.2 = peakL i 2 (a2.view.read (Elt F) X2) (a10.view.read (Elt F) X10) (a11.view.read (Elt F) X11) (a12.view.read (Elt F) X12) (a16.view.read (Elt F) X16) k := by
  intro k
  induction k with
  | zero => exact fun _ => ⟨rfl, rfl⟩
  | succ k ih =>
    intro hk
    obtain ⟨p1, p2⟩ := ih (Nat.le_of_succ_le hk)
    have hk' : k < 16 := Nat.lt_of_succ_le (hk.trans_eq trips2_eq)
    have hs := pb_k0_t2_succ 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 ⟨k, hk⟩
    have ht := trip2_stores 𝒱 c bd i a2 h2 a3 h3 a4 h4 a5 h5 a6 h6 a7 h7 a8 h8 a9 h9 a10 h10 a11 h11 a12 h12 a13 h13 a14 h14 a15 h15 a16 h16 hc v675 v678 X2 X10 X11 X12 X16
      (a13.view.writes (Elt F) G13 (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).1) (a14.view.writes (Elt F) G14 (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).2.1) (a15.view.writes (Elt F) G15 (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).2.2) ⟨k, hk⟩
    constructor
    · refine (congrArg (fun z => z.2.1) hs).trans ?_
      rw [outL, dif_pos hk', ← p1]
      exact congrArg (fun z => z ++ (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).2.1) ht.1
    · refine (congrArg (fun z => z.2.2) hs).trans ?_
      rw [peakL, dif_pos hk', ← p2]
      exact congrArg (fun z => z ++ (pb_k0_t2 𝒱 c bd i a2 h2 a3 h3 a4 h4 a5 h5 a6 h6 a7 h7 a8 h8 a9 h9 a10 h10 a11 h11 a12 h12 a13 h13 a14 h14 a15 h15 a16 h16 0#32 0#32 hc v675 v678 X2 X10 X11 X12 X16 G13 G14 G15 k).2.2) ht.2

/-- The whole point. -/
theorem run2_leaves (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : k0_cond2 i = 1#1) (hc3 : ¬ k0_cond3 i = 1#1) (hc4 : ¬ k0_cond4 i = 1#1) (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    (run2 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).1 = a8.view.writes (Elt F) G8 (heads (codeP
      (a14.view.read (Elt F) (a14.view.writes (Elt F) G14 (outL i 2 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))
      (a15.view.read (Elt F) (a15.view.writes (Elt F) G15 (peakL i 2 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16))))) ∧
    (run2 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.1 = a9.view.writes (Elt F) G9 [scaleP
      (a15.view.read (Elt F) (a15.view.writes (Elt F) G15 (peakL i 2 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))] ∧
    (run2 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.1 = (a10.view.writes (Elt F) G10 [keyP i (a4.view.read (Elt F) X4)]) ∧
    (run2 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.1 = (a11.view.writes (Elt F) G11 (heads (valP i (a6.view.read (Elt F) X6) (a7.view.read (Elt F) X7)))) ∧
    (run2 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.2.1 = (a12.view.writes (Elt F) G12 (heads (sclP i (a5.view.read (Elt F) X5)))) := by
  have hl := loop2_stores 𝒱 c bd i a2 h2 a3 h3 a4 h4 a5 h5 a6 h6 a7 h7 a8 h8 a9 h9 a10 h10 a11 h11 a12 h12 a13 h13 a14 h14 a15 h15 a16 h16 hc2 (Scalar.remsi (Scalar.addi (Scalar.subi (BitVec.ofNat 32 (i 1).val) (BitVec.ofNat 32 0)) 5#32) 5#32) (Scalar.remsi (Scalar.addi (Scalar.subi (BitVec.ofNat 32 (i 1).val) (BitVec.ofNat 32 1)) 5#32) 5#32) X2 (a10.view.writes (Elt F) G10 [keyP i (a4.view.read (Elt F) X4)]) (a11.view.writes (Elt F) G11 (heads (valP i (a6.view.read (Elt F) X6) (a7.view.read (Elt F) X7)))) (a12.view.writes (Elt F) G12 (heads (sclP i (a5.view.read (Elt F) X5)))) (a16.view.writes (Elt F) a16.view.junk (heads (queP (a3.view.read (Elt F) X3)))) G13 G14 G15 _ le_rfl
  have ht : k0_t2_loop.trips = 16 := trips2_eq
  have e14 := hl.1.trans (congrArg (outL i 2 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  have e15 := hl.2.trans (congrArg (peakL i 2 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  rw [← e14, ← e15]
  unfold run2
  dsimp only
  refine ⟨?_, ?_, ?_, ?_, ?_⟩
  · rfl
  · rfl
  · rfl
  · rfl
  · rfl

end Cert.KernelIdeal.Proof

end
-- ==== Proof.V.Trip3.lean ====
/- One trip of the loop over the heads at a grid point that sees 3 key tiles: what it stores, as a function of what it loads. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Model
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips3_eq : k0_t3_loop.trips = 16 := by decide

/-- The head that trip `k` stores and the largest magnitudes that it stores beside it. -/
theorem trip3_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond3 i = 1#1) (v675 v678 v681 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) (k : Fin k0_t3_loop.trips) :
    (trip_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 k).2.1 G13 G14 G15
        = [⟨headR k.val (k.isLt.trans_eq trips3_eq), out (loads i k.val (k.isLt.trans_eq trips3_eq) (a2.view.read (Elt F) X2) (a10.view.read (Elt F) X10) (a11.view.read (Elt F) X11) (a12.view.read (Elt F) X12) (a16.view.read (Elt F) X16)) 3⟩] ∧
    (trip_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 k).2.2.1 G13 G14 G15
        = [⟨peakR k.val (k.isLt.trans_eq trips3_eq), peak (loads i k.val (k.isLt.trans_eq trips3_eq) (a2.view.read (Elt F) X2) (a10.view.read (Elt F) X10) (a11.view.read (Elt F) X11) (a12.view.read (Elt F) X12) (a16.view.read (Elt F) X16)) 3⟩] := by
  unfold trip_k0_t3
  dsimp only
  sl_unfold_words
  simp only [k0_pay470, k0_pay471, k0_pay472]
  simp +decide only [↓quad_eq, ↓View.readCov_cons_toLoadRect, ↓View.readCov_skip]
  simp +decide only [out, peak, outs, share, none', sums, weight, maxes, score, raw, masked, delta, cut', prods, subs, cond_true, cond_false,
    List.foldl_append, List.foldl_cons, List.foldl_nil, loads, win]
  exact ⟨rfl, rfl⟩

end Cert.KernelIdeal.Proof

end
-- ==== Proof.V.Run3.lean ====
/- A grid point that sees 3 key tiles: what it leaves in every buffer, as a function of what it finds. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Body
public import proofs.«01_k».proof.Proof.V.Trip3
public import proofs.«01_k».proof.Proof.KI.Run3
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the trips before `k` store, none of it depending on what the scratches held. -/
theorem loop3_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond3 i = 1#1) (v675 v678 v681 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :
    ∀ k ≤ k0_t3_loop.trips, (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).2.1 = outL i 3 (a2.view.read (Elt F) X2) (a10.view.read (Elt F) X10) (a11.view.read (Elt F) X11) (a12.view.read (Elt F) X12) (a16.view.read (Elt F) X16) k ∧ (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).2.2 = peakL i 3 (a2.view.read (Elt F) X2) (a10.view.read (Elt F) X10) (a11.view.read (Elt F) X11) (a12.view.read (Elt F) X12) (a16.view.read (Elt F) X16) k := by
  intro k
  induction k with
  | zero => exact fun _ => ⟨rfl, rfl⟩
  | succ k ih =>
    intro hk
    obtain ⟨p1, p2⟩ := ih (Nat.le_of_succ_le hk)
    have hk' : k < 16 := Nat.lt_of_succ_le (hk.trans_eq trips3_eq)
    have hs := pb_k0_t3_succ 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 ⟨k, hk⟩
    have ht := trip3_stores 𝒱 c bd i a2 h2 a3 h3 a4 h4 a5 h5 a6 h6 a7 h7 a8 h8 a9 h9 a10 h10 a11 h11 a12 h12 a13 h13 a14 h14 a15 h15 a16 h16 hc v675 v678 v681 X2 X10 X11 X12 X16
      (a13.view.writes (Elt F) G13 (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).1) (a14.view.writes (Elt F) G14 (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).2.1) (a15.view.writes (Elt F) G15 (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).2.2) ⟨k, hk⟩
    constructor
    · refine (congrArg (fun z => z.2.1) hs).trans ?_
      rw [outL, dif_pos hk', ← p1]
      exact congrArg (fun z => z ++ (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).2.1) ht.1
    · refine (congrArg (fun z => z.2.2) hs).trans ?_
      rw [peakL, dif_pos hk', ← p2]
      exact congrArg (fun z => z ++ (pb_k0_t3 𝒱 c bd i a2 h2 a3 h3 a4 h4 a5 h5 a6 h6 a7 h7 a8 h8 a9 h9 a10 h10 a11 h11 a12 h12 a13 h13 a14 h14 a15 h15 a16 h16 0#32 0#32 hc v675 v678 v681 X2 X10 X11 X12 X16 G13 G14 G15 k).2.2) ht.2

/-- The whole point. -/
theorem run3_leaves (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : k0_cond3 i = 1#1) (hc4 : ¬ k0_cond4 i = 1#1) (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    (run3 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).1 = a8.view.writes (Elt F) G8 (heads (codeP
      (a14.view.read (Elt F) (a14.view.writes (Elt F) G14 (outL i 3 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))
      (a15.view.read (Elt F) (a15.view.writes (Elt F) G15 (peakL i 3 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16))))) ∧
    (run3 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.1 = a9.view.writes (Elt F) G9 [scaleP
      (a15.view.read (Elt F) (a15.view.writes (Elt F) G15 (peakL i 3 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))] ∧
    (run3 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.1 = (a10.view.writes (Elt F) G10 [keyP i (a4.view.read (Elt F) X4)]) ∧
    (run3 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.1 = (a11.view.writes (Elt F) G11 (heads (valP i (a6.view.read (Elt F) X6) (a7.view.read (Elt F) X7)))) ∧
    (run3 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.2.1 = (a12.view.writes (Elt F) G12 (heads (sclP i (a5.view.read (Elt F) X5)))) := by
  have hl := loop3_stores 𝒱 c bd i a2 h2 a3 h3 a4 h4 a5 h5 a6 h6 a7 h7 a8 h8 a9 h9 a10 h10 a11 h11 a12 h12 a13 h13 a14 h14 a15 h15 a16 h16 hc3 (Scalar.remsi (Scalar.addi (Scalar.subi (BitVec.ofNat 32 (i 1).val) (BitVec.ofNat 32 0)) 5#32) 5#32) (Scalar.remsi (Scalar.addi (Scalar.subi (BitVec.ofNat 32 (i 1).val) (BitVec.ofNat 32 1)) 5#32) 5#32) (Scalar.remsi (Scalar.addi (Scalar.subi (BitVec.ofNat 32 (i 1).val) (BitVec.ofNat 32 2)) 5#32) 5#32) X2 (a10.view.writes (Elt F) G10 [keyP i (a4.view.read (Elt F) X4)]) (a11.view.writes (Elt F) G11 (heads (valP i (a6.view.read (Elt F) X6) (a7.view.read (Elt F) X7)))) (a12.view.writes (Elt F) G12 (heads (sclP i (a5.view.read (Elt F) X5)))) (a16.view.writes (Elt F) a16.view.junk (heads (queP (a3.view.read (Elt F) X3)))) G13 G14 G15 _ le_rfl
  have ht : k0_t3_loop.trips = 16 := trips3_eq
  have e14 := hl.1.trans (congrArg (outL i 3 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  have e15 := hl.2.trans (congrArg (peakL i 3 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  rw [← e14, ← e15]
  unfold run3
  dsimp only
  refine ⟨?_, ?_, ?_, ?_, ?_⟩
  · rfl
  · rfl
  · rfl
  · rfl
  · rfl

end Cert.KernelIdeal.Proof

end
-- ==== Proof.V.Trip4.lean ====
/- One trip of the loop over the heads at a grid point that sees 4 key tiles: what it stores, as a function of what it loads. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Model
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips4_eq : k0_t4_loop.trips = 16 := by decide

/-- The head that trip `k` stores and the largest magnitudes that it stores beside it. -/
theorem trip4_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond4 i = 1#1) (v675 v678 v681 v684 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) (k : Fin k0_t4_loop.trips) :
    (trip_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 k).2.1 G13 G14 G15
        = [⟨headR k.val (k.isLt.trans_eq trips4_eq), out (loads i k.val (k.isLt.trans_eq trips4_eq) (a2.view.read (Elt F) X2) (a10.view.read (Elt F) X10) (a11.view.read (Elt F) X11) (a12.view.read (Elt F) X12) (a16.view.read (Elt F) X16)) 4⟩] ∧
    (trip_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 k).2.2.1 G13 G14 G15
        = [⟨peakR k.val (k.isLt.trans_eq trips4_eq), peak (loads i k.val (k.isLt.trans_eq trips4_eq) (a2.view.read (Elt F) X2) (a10.view.read (Elt F) X10) (a11.view.read (Elt F) X11) (a12.view.read (Elt F) X12) (a16.view.read (Elt F) X16)) 4⟩] := by
  unfold trip_k0_t4
  dsimp only
  sl_unfold_words
  simp +decide only [↓quad_eq, ↓View.readCov_cons_toLoadRect, ↓View.readCov_skip]
  simp +decide only [out, peak, outs, share, none', sums, weight, maxes, score, raw, masked, delta, cut', prods, subs, cond_true, cond_false,
    List.foldl_append, List.foldl_cons, List.foldl_nil, loads, win]
  exact ⟨rfl, rfl⟩

end Cert.KernelIdeal.Proof

end
-- ==== Proof.V.Run4.lean ====
/- A grid point that sees 4 key tiles: what it leaves in every buffer, as a function of what it finds. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Body
public import proofs.«01_k».proof.Proof.V.Trip4
public import proofs.«01_k».proof.Proof.KI.Run4
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the trips before `k` store, none of it depending on what the scratches held. -/
theorem loop4_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond4 i = 1#1) (v675 v678 v681 v684 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :
    ∀ k ≤ k0_t4_loop.trips, (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).2.1 = outL i 4 (a2.view.read (Elt F) X2) (a10.view.read (Elt F) X10) (a11.view.read (Elt F) X11) (a12.view.read (Elt F) X12) (a16.view.read (Elt F) X16) k ∧ (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).2.2 = peakL i 4 (a2.view.read (Elt F) X2) (a10.view.read (Elt F) X10) (a11.view.read (Elt F) X11) (a12.view.read (Elt F) X12) (a16.view.read (Elt F) X16) k := by
  intro k
  induction k with
  | zero => exact fun _ => ⟨rfl, rfl⟩
  | succ k ih =>
    intro hk
    obtain ⟨p1, p2⟩ := ih (Nat.le_of_succ_le hk)
    have hk' : k < 16 := Nat.lt_of_succ_le (hk.trans_eq trips4_eq)
    have hs := pb_k0_t4_succ 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 ⟨k, hk⟩
    have ht := trip4_stores 𝒱 c bd i a2 h2 a3 h3 a4 h4 a5 h5 a6 h6 a7 h7 a8 h8 a9 h9 a10 h10 a11 h11 a12 h12 a13 h13 a14 h14 a15 h15 a16 h16 hc v675 v678 v681 v684 X2 X10 X11 X12 X16
      (a13.view.writes (Elt F) G13 (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).1) (a14.view.writes (Elt F) G14 (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).2.1) (a15.view.writes (Elt F) G15 (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).2.2) ⟨k, hk⟩
    constructor
    · refine (congrArg (fun z => z.2.1) hs).trans ?_
      rw [outL, dif_pos hk', ← p1]
      exact congrArg (fun z => z ++ (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).2.1) ht.1
    · refine (congrArg (fun z => z.2.2) hs).trans ?_
      rw [peakL, dif_pos hk', ← p2]
      exact congrArg (fun z => z ++ (pb_k0_t4 𝒱 c bd i a2 h2 a3 h3 a4 h4 a5 h5 a6 h6 a7 h7 a8 h8 a9 h9 a10 h10 a11 h11 a12 h12 a13 h13 a14 h14 a15 h15 a16 h16 0#32 0#32 hc v675 v678 v681 v684 X2 X10 X11 X12 X16 G13 G14 G15 k).2.2) ht.2

/-- The whole point. -/
theorem run4_leaves (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : ¬ k0_cond3 i = 1#1) (hc4 : k0_cond4 i = 1#1) (hc5 : ¬ k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    (run4 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).1 = a8.view.writes (Elt F) G8 (heads (codeP
      (a14.view.read (Elt F) (a14.view.writes (Elt F) G14 (outL i 4 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))
      (a15.view.read (Elt F) (a15.view.writes (Elt F) G15 (peakL i 4 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16))))) ∧
    (run4 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.1 = a9.view.writes (Elt F) G9 [scaleP
      (a15.view.read (Elt F) (a15.view.writes (Elt F) G15 (peakL i 4 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))] ∧
    (run4 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.1 = (a10.view.writes (Elt F) G10 [keyP i (a4.view.read (Elt F) X4)]) ∧
    (run4 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.1 = (a11.view.writes (Elt F) G11 (heads (valP i (a6.view.read (Elt F) X6) (a7.view.read (Elt F) X7)))) ∧
    (run4 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.2.1 = (a12.view.writes (Elt F) G12 (heads (sclP i (a5.view.read (Elt F) X5)))) := by
  have hl := loop4_stores 𝒱 c bd i a2 h2 a3 h3 a4 h4 a5 h5 a6 h6 a7 h7 a8 h8 a9 h9 a10 h10 a11 h11 a12 h12 a13 h13 a14 h14 a15 h15 a16 h16 hc4 (Scalar.remsi (Scalar.addi (Scalar.subi (BitVec.ofNat 32 (i 1).val) (BitVec.ofNat 32 0)) 5#32) 5#32) (Scalar.remsi (Scalar.addi (Scalar.subi (BitVec.ofNat 32 (i 1).val) (BitVec.ofNat 32 1)) 5#32) 5#32) (Scalar.remsi (Scalar.addi (Scalar.subi (BitVec.ofNat 32 (i 1).val) (BitVec.ofNat 32 2)) 5#32) 5#32) (Scalar.remsi (Scalar.addi (Scalar.subi (BitVec.ofNat 32 (i 1).val) (BitVec.ofNat 32 3)) 5#32) 5#32) X2 (a10.view.writes (Elt F) G10 [keyP i (a4.view.read (Elt F) X4)]) (a11.view.writes (Elt F) G11 (heads (valP i (a6.view.read (Elt F) X6) (a7.view.read (Elt F) X7)))) (a12.view.writes (Elt F) G12 (heads (sclP i (a5.view.read (Elt F) X5)))) (a16.view.writes (Elt F) a16.view.junk (heads (queP (a3.view.read (Elt F) X3)))) G13 G14 G15 _ le_rfl
  have ht : k0_t4_loop.trips = 16 := trips4_eq
  have e14 := hl.1.trans (congrArg (outL i 4 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  have e15 := hl.2.trans (congrArg (peakL i 4 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  rw [← e14, ← e15]
  unfold run4
  dsimp only
  refine ⟨?_, ?_, ?_, ?_, ?_⟩
  · rfl
  · rfl
  · rfl
  · rfl
  · rfl

end Cert.KernelIdeal.Proof

end
-- ==== Proof.V.Trip5.lean ====
/- One trip of the loop over the heads at a grid point that sees 5 key tiles: what it stores, as a function of what it loads. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Model
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem trips5_eq : k0_t5_loop.trips = 16 := by decide

/-- The head that trip `k` stores and the largest magnitudes that it stores beside it. -/
theorem trip5_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond5 i = 1#1) (v675 v678 v681 v684 v687 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) (k : Fin k0_t5_loop.trips) :
    (trip_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 k).2.1 G13 G14 G15
        = [⟨headR k.val (k.isLt.trans_eq trips5_eq), out (loads i k.val (k.isLt.trans_eq trips5_eq) (a2.view.read (Elt F) X2) (a10.view.read (Elt F) X10) (a11.view.read (Elt F) X11) (a12.view.read (Elt F) X12) (a16.view.read (Elt F) X16)) 5⟩] ∧
    (trip_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 k).2.2.1 G13 G14 G15
        = [⟨peakR k.val (k.isLt.trans_eq trips5_eq), peak (loads i k.val (k.isLt.trans_eq trips5_eq) (a2.view.read (Elt F) X2) (a10.view.read (Elt F) X10) (a11.view.read (Elt F) X11) (a12.view.read (Elt F) X12) (a16.view.read (Elt F) X16)) 5⟩] := by
  unfold trip_k0_t5
  dsimp only
  sl_unfold_words
  simp only [k0_pay474, k0_pay475, k0_pay476]
  simp +decide only [↓quad_eq, ↓View.readCov_cons_toLoadRect, ↓View.readCov_skip]
  simp +decide only [out, peak, outs, share, none', sums, weight, maxes, score, raw, masked, delta, cut', prods, subs, cond_true, cond_false,
    List.foldl_append, List.foldl_cons, List.foldl_nil, loads, win]
  exact ⟨rfl, rfl⟩

end Cert.KernelIdeal.Proof

end
-- ==== Proof.V.Run5.lean ====
/- A grid point that sees 5 key tiles: what it leaves in every buffer, as a function of what it finds. -/
module

public import proofs.«01_k».proof.Proof.Gen.KernelIdeal.Frame
public import proofs.«01_k».proof.Proof.Gen.KernelIdeal.Loops
public import Idealize.ShloMosaic.Lib.Exec
public import Idealize.ShloMosaic.Lib.Pipeline.ReadBack
public import proofs.«01_k».proof.Proof.V.Body
public import proofs.«01_k».proof.Proof.V.Trip5
public import proofs.«01_k».proof.Proof.KI.Run5
public import Idealize.ShloMosaic.Lib.Tactic

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the trips before `k` store, none of it depending on what the scratches held. -/
theorem loop5_stores (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc : k0_cond5 i = 1#1) (v675 v678 v681 v684 v687 : BitVec 32)
  (X2 : BufTy.Contents (Elt F) a2.view.ty) (X10 : BufTy.Contents (Elt F) a10.view.ty)
  (X11 : BufTy.Contents (Elt F) a11.view.ty) (X12 : BufTy.Contents (Elt F) a12.view.ty)
  (X16 : BufTy.Contents (Elt F) a16.view.ty) (G13 : BufTy.Contents (Elt F) a13.view.ty)
  (G14 : BufTy.Contents (Elt F) a14.view.ty) (G15 : BufTy.Contents (Elt F) a15.view.ty) :
    ∀ k ≤ k0_t5_loop.trips, (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).2.1 = outL i 5 (a2.view.read (Elt F) X2) (a10.view.read (Elt F) X10) (a11.view.read (Elt F) X11) (a12.view.read (Elt F) X12) (a16.view.read (Elt F) X16) k ∧ (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).2.2 = peakL i 5 (a2.view.read (Elt F) X2) (a10.view.read (Elt F) X10) (a11.view.read (Elt F) X11) (a12.view.read (Elt F) X12) (a16.view.read (Elt F) X16) k := by
  intro k
  induction k with
  | zero => exact fun _ => ⟨rfl, rfl⟩
  | succ k ih =>
    intro hk
    obtain ⟨p1, p2⟩ := ih (Nat.le_of_succ_le hk)
    have hk' : k < 16 := Nat.lt_of_succ_le (hk.trans_eq trips5_eq)
    have hs := pb_k0_t5_succ 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 ⟨k, hk⟩
    have ht := trip5_stores 𝒱 c bd i a2 h2 a3 h3 a4 h4 a5 h5 a6 h6 a7 h7 a8 h8 a9 h9 a10 h10 a11 h11 a12 h12 a13 h13 a14 h14 a15 h15 a16 h16 hc v675 v678 v681 v684 v687 X2 X10 X11 X12 X16
      (a13.view.writes (Elt F) G13 (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).1) (a14.view.writes (Elt F) G14 (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).2.1) (a15.view.writes (Elt F) G15 (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).2.2) ⟨k, hk⟩
    constructor
    · refine (congrArg (fun z => z.2.1) hs).trans ?_
      rw [outL, dif_pos hk', ← p1]
      exact congrArg (fun z => z ++ (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).2.1) ht.1
    · refine (congrArg (fun z => z.2.2) hs).trans ?_
      rw [peakL, dif_pos hk', ← p2]
      exact congrArg (fun z => z ++ (pb_k0_t5 𝒱 c bd i a2 h2 a3 h3 a4 h4 a5 h5 a6 h6 a7 h7 a8 h8 a9 h9 a10 h10 a11 h11 a12 h12 a13 h13 a14 h14 a15 h15 a16 h16 0#32 0#32 hc v675 v678 v681 v684 v687 X2 X10 X11 X12 X16 G13 G14 G15 k).2.2) ht.2

/-- The whole point. -/
theorem run5_leaves (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (hc1 : ¬ k0_cond1 i = 1#1) (hc2 : ¬ k0_cond2 i = 1#1) (hc3 : ¬ k0_cond3 i = 1#1) (hc4 : ¬ k0_cond4 i = 1#1) (hc5 : k0_cond5 i = 1#1)
  (X2 : BufTy.Contents (Elt F) a2.view.ty) (X3 : BufTy.Contents (Elt F) a3.view.ty)
  (X4 : BufTy.Contents (Elt F) a4.view.ty) (X5 : BufTy.Contents (Elt F) a5.view.ty)
  (X6 : BufTy.Contents (Elt F) a6.view.ty) (X7 : BufTy.Contents (Elt F) a7.view.ty)
  (G8 : BufTy.Contents (Elt F) a8.view.ty) (G9 : BufTy.Contents (Elt F) a9.view.ty)
  (G10 : BufTy.Contents (Elt F) a10.view.ty) (G11 : BufTy.Contents (Elt F) a11.view.ty)
  (G12 : BufTy.Contents (Elt F) a12.view.ty) (G13 : BufTy.Contents (Elt F) a13.view.ty)
  (G14 : BufTy.Contents (Elt F) a14.view.ty) (G15 : BufTy.Contents (Elt F) a15.view.ty)
  (G16 : BufTy.Contents (Elt F) a16.view.ty) :
    (run5 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).1 = a8.view.writes (Elt F) G8 (heads (codeP
      (a14.view.read (Elt F) (a14.view.writes (Elt F) G14 (outL i 5 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))
      (a15.view.read (Elt F) (a15.view.writes (Elt F) G15 (peakL i 5 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16))))) ∧
    (run5 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.1 = a9.view.writes (Elt F) G9 [scaleP
      (a15.view.read (Elt F) (a15.view.writes (Elt F) G15 (peakL i 5 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3))))) 16)))] ∧
    (run5 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.1 = (a10.view.writes (Elt F) G10 [keyP i (a4.view.read (Elt F) X4)]) ∧
    (run5 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.1 = (a11.view.writes (Elt F) G11 (heads (valP i (a6.view.read (Elt F) X6) (a7.view.read (Elt F) X7)))) ∧
    (run5 𝒱 c bd i a2 h2 a3 h3 a4 h4 a5 h5 a6 h6 a7 h7 a8 h8 a9 h9 a10 h10 a11 h11 a12 h12 a13 h13 a14 h14 a15 h15 a16 h16 hc1 hc2 hc3 hc4 hc5 X2 X3 X4 X5 X6 X7 G8 G9 G10 G11 G12 G13 G14 G15 G16).2.2.2.2.1 = (a12.view.writes (Elt F) G12 (heads (sclP i (a5.view.read (Elt F) X5)))) := by
  have hl := loop5_stores 𝒱 c bd i a2 h2 a3 h3 a4 h4 a5 h5 a6 h6 a7 h7 a8 h8 a9 h9 a10 h10 a11 h11 a12 h12 a13 h13 a14 h14 a15 h15 a16 h16 hc5 (Scalar.remsi (Scalar.addi (Scalar.subi (BitVec.ofNat 32 (i 1).val) (BitVec.ofNat 32 0)) 5#32) 5#32) (Scalar.remsi (Scalar.addi (Scalar.subi (BitVec.ofNat 32 (i 1).val) (BitVec.ofNat 32 1)) 5#32) 5#32) (Scalar.remsi (Scalar.addi (Scalar.subi (BitVec.ofNat 32 (i 1).val) (BitVec.ofNat 32 2)) 5#32) 5#32) (Scalar.remsi (Scalar.addi (Scalar.subi (BitVec.ofNat 32 (i 1).val) (BitVec.ofNat 32 3)) 5#32) 5#32) (Scalar.remsi (Scalar.addi (Scalar.subi (BitVec.ofNat 32 (i 1).val) (BitVec.ofNat 32 4)) 5#32) 5#32) X2 (a10.view.writes (Elt F) G10 [keyP i (a4.view.read (Elt F) X4)]) (a11.view.writes (Elt F) G11 (heads (valP i (a6.view.read (Elt F) X6) (a7.view.read (Elt F) X7)))) (a12.view.writes (Elt F) G12 (heads (sclP i (a5.view.read (Elt F) X5)))) (a16.view.writes (Elt F) a16.view.junk (heads (queP (a3.view.read (Elt F) X3)))) G13 G14 G15 _ le_rfl
  have ht : k0_t5_loop.trips = 16 := trips5_eq
  have e14 := hl.1.trans (congrArg (outL i 5 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  have e15 := hl.2.trans (congrArg (peakL i 5 (a2.view.read (Elt F) X2) (a10.view.read (Elt F) (a10.view.writes (Elt F) G10 [keyP i (a4.view.read (Elt F) X4)])) (a11.view.read (Elt F) (a11.view.writes (Elt F) G11 (heads (valP i (a6.view.read (Elt F) X6) (a7.view.read (Elt F) X7))))) (a12.view.read (Elt F) (a12.view.writes (Elt F) G12 (heads (sclP i (a5.view.read (Elt F) X5))))) (a16.view.read (Elt F) (a16.view.writes (Elt F) a16.view.junk (heads (queP (a3.view.read (Elt F) X3)))))) ht)
  rw [← e14, ← e15]
  unfold run5
  dsimp only
  refine ⟨?_, ?_, ?_, ?_, ?_⟩
  · rfl
  · rfl
  · rfl
  · rfl
  · rfl

end Cert.KernelIdeal.Proof

end
-- ==== Proof.V.Point.lean ====
/- The values of one trip at the extended reals, element by element. -/
module

public import Idealize.ShloMosaic.Lib.MatmulPlain
public import Idealize.ShloMosaic.Lib.ValueIdx
public import Idealize.ShloMosaic.Lib.ValueLayout
public import Idealize.ShloMosaic.PureOps.Ideal.Laws
public import proofs.«01_k».proof.Proof.V.Model

@[expose] public section

noncomputable section

namespace Cert.KernelIdeal.Proof

open Cert.KernelIdeal.Gen
open Idealize.ShloMosaic Idealize.ShloMosaic.TcCoe Idealize.ShloMosaic.ValueIdx

/-- Element `i` of half `r` of a block. -/
def part (r : Fin 2) (i : Fin 128) : Fin 256 := ⟨128 * r.val + i.val, by omega⟩

/-- The half in which an element of a block lies. -/
def hi (p : Fin 256) : Fin 2 := ⟨p.val / 128, by omega⟩

/-- Its place in that half. -/
def lo (p : Fin 256) : Fin 128 := ⟨p.val % 128, by omega⟩

theorem hi_part (r : Fin 2) (i : Fin 128) : hi (part r i) = r := Fin.ext (by show (128 * r.val + i.val) / 128 = r.val; omega)

theorem lo_part (r : Fin 2) (i : Fin 128) : lo (part r i) = i := Fin.ext (by show (128 * r.val + i.val) % 128 = i.val; omega)

theorem part_hi_lo (p : Fin 256) : part (hi p) (lo p) = p := Fin.ext (by show 128 * (p.val / 128) + p.val % 128 = p.val; omega)

/-- A block's elements, half by half. -/
def parts : Fin 2 × Fin 128 ≃ Fin 256 where
  toFun x := part x.1 x.2
  invFun p := (hi p, lo p)
  left_inv x := Prod.ext (hi_part _ _) (lo_part _ _)
  right_inv p := part_hi_lo p

theorem sum_parts {M : Type} [AddCommMonoid M] (f : Fin 256 → M) : ∑ p, f p = ∑ r : Fin 2, ∑ i : Fin 128, f (part r i) := by
  rw [← Equiv.sum_comp parts f, Fintype.sum_prod_type]
  rfl

theorem sup_parts (f : Fin 256 → EReal) : Finset.univ.sup f = Finset.univ.sup fun r : Fin 2 => Finset.univ.sup fun i : Fin 128 => f (part r i) := by
  apply le_antisymm
  · refine Finset.sup_le fun p _ => ?_
    rw [← part_hi_lo p]
    exact (Finset.le_sup (f := fun i => f (part (hi p) i)) (Finset.mem_univ (lo p))).trans
      (Finset.le_sup (f := fun r => Finset.univ.sup fun i : Fin 128 => f (part r i)) (Finset.mem_univ (hi p)))
  · exact Finset.sup_le fun r _ => Finset.sup_le fun i _ => Finset.le_sup (Finset.mem_univ _)

/-- The query `q` of a block sees the key `p` of the block `d` before it. -/
def sees (d : ℕ) (p q : Fin 256) : Prop := p.val ≤ 256 * d + q.val ∧ 256 * d + q.val < 1000 + p.val

instance (d : ℕ) (p q : Fin 256) : Decidable (sees d p q) := by unfold sees; infer_instance

variable (I : Loads Ideal)

/-- The score of a query and a key, minus infinity where the query does not see the key. -/
def T (d : ℕ) (p q : Fin 256) : EReal :=
  if sees d p q then (∑ e : Fin 128, I.k d (ix3 (0 : Fin 1) p e) * I.q (ix3 (0 : Fin 1) q e)) * I.ks d (hi p) (ix4 (0 : Fin 1) (0 : Fin 1) (lo p) (lo q)) else ⊥

theorem prods_apply (d : ℕ) (p q : Fin 256) :
    prods I d (ix2 p q) = ∑ e : Fin 128, I.k d (ix3 (0 : Fin 1) p e) * I.q (ix3 (0 : Fin 1) q e) := by
  unfold prods
  refine (Ideal.matmul_transposedRhs_apply (M := 256) (K := 128) (N := 256) none _ _ _ p q).trans ?_
  rw [constant_apply, Ideal.ofBits_zero_f32, zero_add]
  refine Finset.sum_congr rfl fun e _ => ?_
  rw [shapeCast_1ab_ab_apply, shapeCast_1ab_ab_apply]

theorem raw_apply (d : ℕ) (r s : Fin 2) (i j : Fin 128) :
    raw I d r s (ix2 i j) = (∑ e : Fin 128, I.k d (ix3 (0 : Fin 1) (part r i) e) * I.q (ix3 (0 : Fin 1) (part s j) e))
      * I.ks d r (ix4 (0 : Fin 1) (0 : Fin 1) i j) := by
  unfold raw
  rw [mulf_apply, extractStridedSlice_apply _ _ _ (ix2 i j) (ix2 (part r i) (part s j)) (by
    intro a
    match a with
    | ⟨0, _⟩ => rfl
    | ⟨1, _⟩ => rfl), prods_apply]
  congr 1
  exact congrArg (I.ks d r) (reshapeEquiv_ix2_11ab _ i j)

theorem delta_apply (b : BitVec 32) (i j : Fin 128) : delta b (ix2 i j) = b + BitVec.ofNat 32 j.val - BitVec.ofNat 32 i.val := by
  simp [delta, subi, addi, iota]
  rfl

theorem window_word (b : ℕ) (hb : b < 2000) (i j : Fin 128) :
    IntOp.andi (IntOp.cmpi .sge (BitVec.ofNat 32 b + BitVec.ofNat 32 j.val - BitVec.ofNat 32 i.val) 0#32)
      (IntOp.cmpi .slt (BitVec.ofNat 32 b + BitVec.ofNat 32 j.val - BitVec.ofNat 32 i.val) 1000#32)
      = BitVec.ofBool (decide (i.val ≤ b + j.val ∧ b + j.val < 1000 + i.val)) := by
  have hx : (BitVec.ofNat 32 b + BitVec.ofNat 32 j.val - BitVec.ofNat 32 i.val).toInt = (b : ℤ) + j.val - i.val := by
    have hi := i.isLt
    have hj := j.isLt
    have e : ∀ n : ℕ, n < 2000 → (BitVec.ofNat 32 n).toInt = n := by
      intro n hn
      have hm : n % 4294967296 = n := Nat.mod_eq_of_lt (by omega)
      rw [BitVec.toInt_eq_toNat_of_lt (by rw [BitVec.toNat_ofNat]; norm_num; omega), BitVec.toNat_ofNat]
      exact congrArg Nat.cast hm
    rw [BitVec.toInt_sub, BitVec.toInt_add, e b hb, e _ (by omega), e _ (by omega), Int.bmod_eq_of_le (n := (b : ℤ) + j.val) (by norm_num; omega) (by norm_num; omega),
      Int.bmod_eq_of_le (by norm_num; omega) (by norm_num; omega)]
  unfold IntOp.cmpi IntOp.andi
  simp only [BitVec.slt, BitVec.sle, hx]
  rw [BitVec.ofBool_and_ofBool]
  congr 1
  rw [← Bool.decide_and]
  apply decide_eq_decide.2
  show ((0#32).toInt ≤ _ ∧ _ < (1000#32).toInt) ↔ _
  rw [show (0#32).toInt = 0 from rfl, show (1000#32).toInt = 1000 from rfl]
  omega

theorem select_ofBool {α : Type} (p : Prop) [Decidable p] (x y : α) : Scalar.select (BitVec.ofBool (decide p)) x y = if p then x else y := by
  by_cases h : p <;> simp [h, Scalar.select]

theorem neg_inf : Ideal.ofBits .f32 0xFF800000#32 = ⊥ := by
  simp [Ideal.ofBits, Ideal.ieee]

theorem one_word : Ideal.ofBits .f32 0x3F800000#32 = 1 := by
  simp [Ideal.ofBits, Ideal.ieee, -EReal.coe_mul]; norm_num

theorem masked_apply (b : ℕ) (hb : b < 2000) (t : FVec Ideal S128x128 .f32) (i j : Fin 128) :
    masked (BitVec.ofNat 32 b) t (ix2 i j) = if i.val ≤ b + j.val ∧ b + j.val < 1000 + i.val then t (ix2 i j) else ⊥ := by
  unfold masked
  rw [select_apply]
  show Scalar.select (IntOp.andi (IntOp.cmpi .sge (delta (BitVec.ofNat 32 b) (ix2 i j)) 0#32) (IntOp.cmpi .slt (delta (BitVec.ofNat 32 b) (ix2 i j)) 1000#32)) _
    (Ideal.ofBits .f32 0xFF800000#32) = _
  rw [delta_apply, window_word b hb, select_ofBool, neg_inf]

theorem none_cases (d : ℕ) (hd : d < 5) (r s : Fin 2) (hn : none' d r s = true) :
    ((d = 0 ∧ r.val = 1) ∧ s.val = 0) ∨ ((d = 4 ∧ r.val = 0) ∧ s.val = 1) := by
  simpa [none', -Fin.val_eq_zero_iff] using hn

theorem T_none (d : ℕ) (hd : d < 5) (r s : Fin 2) (hn : none' d r s = true) (i j : Fin 128) : T I d (part r i) (part s j) = ⊥ := by
  unfold T
  rw [if_neg]
  unfold sees part
  dsimp only
  rcases none_cases d hd r s hn with ⟨⟨h1, h2⟩, h3⟩ | ⟨⟨h1, h2⟩, h3⟩ <;> omega

theorem score_apply (d : ℕ) (hd : d < 5) (r s : Fin 2) (hn : none' d r s = false) (i j : Fin 128) :
    score I d r s (ix2 i j) = T I d (part r i) (part s j) := by
  unfold score T
  rw [hi_part, lo_part, lo_part, ← raw_apply]
  have hr := r.isLt
  have hs := s.isLt
  cases hc : cut' d r s with
  | true =>
    have hle : 128 * r.val ≤ 256 * d + 128 * s.val := by
      simp [cut'] at hc
      omega
    rw [cond_true, masked_apply _ (by omega)]
    refine if_congr ?_ rfl rfl
    unfold sees part
    dsimp only
    omega
  | false =>
    rw [cond_false, if_pos]
    unfold sees part
    dsimp only
    simp [cut', none'] at hc hn
    omega

/-- The largest score of a query among the keys of the first `n` tiles. -/
def M (n : ℕ) (q : Fin 256) : EReal := (Finset.range n).sup fun d => Finset.univ.sup fun p => T I d p q

/-- The scale of a query. -/
def A (q : Fin 256) : EReal := I.a (hi q) (ix3 (0 : Fin 1) (0 : Fin 1) (lo q))

/-- The weight of a key. -/
def P (n d : ℕ) (p q : Fin 256) : EReal := Ideal.exp2 ((T I d p q - M I n q) * A I q)

/-- The sum of the weights. -/
def L (n : ℕ) (q : Fin 256) : EReal := ∑ d ∈ Finset.range n, ∑ p, P I n d p q

/-- The weighted sum of the values of the first `m` tiles. -/
def O (n m : ℕ) (c : Fin 128) (q : Fin 256) : EReal :=
  ∑ d ∈ Finset.range m, ∑ p, I.v d (ix3 (0 : Fin 1) c p) * (P I n d p q * Ideal.div 1 (L I n q))

theorem foldl_max (l : List (ℕ × Fin 2)) (f : ℕ × Fin 2 → FVec Ideal S1x128 .f32) (g : FVec Ideal S1x128 .f32) (x : S1x128.Idx) :
    l.foldl (fun m x => maximumf m (f x)) g x = l.foldl (fun m y => max m (f y x)) (g x) := by
  induction l generalizing g with
  | nil => rfl
  | cons y l ih => exact ih _

theorem foldl_add (l : List (ℕ × Fin 2)) (f : ℕ × Fin 2 → FVec Ideal S1x128 .f32) (g : FVec Ideal S1x128 .f32) (x : S1x128.Idx) :
    l.foldl (fun m x => addf m (f x)) g x = l.foldl (fun m y => m + f y x) (g x) := by
  induction l generalizing g with
  | nil => rfl
  | cons y l ih => exact ih _

/-- The sub-tiles taken one after the other: an operation folded over them, when what the window keeps nothing of adds nothing. -/
theorem fold_subs (op : EReal → EReal → EReal) (e : EReal) (he : ∀ x, op x e = x) (f : ℕ → Fin 2 → EReal) (s : Fin 2) (n : ℕ) (hn : n ≤ 5)
    (h0 : ∀ d < 5, ∀ r, none' d r s = true → f d r = e) (g : ℕ × Fin 2 → EReal) (hg : ∀ d < 5, ∀ r, none' d r s = false → g (d, r) = f d r) :
    (subs s n).foldl (fun m y => op m (g y)) e = Nat.rec e (fun d m => op (op m (f d 0)) (f d 1)) n := by
  induction n with
  | zero => rfl
  | succ n ih =>
    rw [subs, List.foldl_append, ih (by omega), List.foldl_append]
    have one : ∀ (r : Fin 2) (m : EReal), (bif none' n r s then ([] : List (ℕ × Fin 2)) else [(n, r)]).foldl (fun m y => op m (g y)) m = op m (f n r) := by
      intro r m
      cases hr : none' n r s with
      | true => rw [h0 n (by omega) r hr, he]; rfl
      | false => rw [← hg n (by omega) r hr]; rfl
    rw [one, one]

theorem lift_eq (i j : Fin 128) : reduces_S128x128_S128.lift (ix1 j) i = ix2 i j := by
  funext a
  match a with
  | ⟨0, _⟩ => rfl
  | ⟨1, _⟩ => rfl

theorem max_apply (x : FVec Ideal S128x128 .f32) (h hc h1 h2) (j : Fin 128) :
    shapeCast S1x128 (multiReduction .maximumf [0] S128 x 0xFF800000#32 h h1 h2) hc (ix2 (0 : Fin 1) j) = Finset.univ.sup fun i : Fin 128 => x (ix2 i j) := by
  rw [shapeCast_a_1a_apply, Ideal.multiReduction_maximumf_single]
  show Finset.fold max (Ideal.ofBits .f32 0xFF800000#32) _ _ = _
  rw [neg_inf]
  refine Finset.fold_congr fun i _ => ?_
  exact congrArg x (lift_eq i j)

theorem add_apply (x : FVec Ideal S128x128 .f32) (h hc h1 h2) (j : Fin 128) :
    shapeCast S1x128 (multiReduction .add [0] S128 x 0x00000000#32 h h1 h2) hc (ix2 (0 : Fin 1) j) = ∑ i : Fin 128, x (ix2 i j) := by
  rw [shapeCast_a_1a_apply, Ideal.multiReduction_add_single]
  exact Finset.sum_congr rfl fun i _ => congrArg x (lift_eq i j)

theorem maxes_apply (n : ℕ) (hn : n ≤ 5) (s : Fin 2) (j : Fin 128) : maxes I n s (ix2 (0 : Fin 1) j) = M I n (part s j) := by
  unfold maxes
  rw [foldl_max]
  show List.foldl _ (Ideal.ofBits .f32 0xFF800000#32) _ = _
  rw [neg_inf, fold_subs max ⊥ (fun x => max_eq_left bot_le) (fun d r => Finset.univ.sup fun i : Fin 128 => T I d (part r i) (part s j)) s n hn
    (fun d hd r hr => by simp only [T_none I d hd r s hr]; exact Finset.sup_bot _)]
  · unfold M
    induction n with
    | zero => rfl
    | succ n ih =>
      rw [Finset.range_add_one, Finset.sup_insert, ← ih (by omega), sup_parts, sup_comm]
      show max (max _ _) _ = max _ _
      rw [max_assoc]
      congr 1
      show _ = Finset.univ.sup _
      rw [show (Finset.univ : Finset (Fin 2)) = {0, 1} from rfl, Finset.sup_insert, Finset.sup_singleton]
  · intro d hd r hr
    refine (max_apply _ _ _ _ _ _).trans ?_
    exact Finset.sup_congr rfl fun i _ => score_apply I d hd r s hr i j

theorem weight_apply (n : ℕ) (hn : n ≤ 5) (d : ℕ) (hd : d < 5) (r s : Fin 2) (hr : none' d r s = false) (i j : Fin 128) :
    weight I n d r s (ix2 i j) = P I n d (part r i) (part s j) := by
  unfold weight P A
  rw [hi_part, lo_part]
  show Ideal.exp2 _ = _
  congr 1
  rw [mulf_apply, subf_apply, shapeCast_1ab_ab_apply, shapeCast_ab_1ab_apply, score_apply I d hd r s hr, broadcastTo_1b_ab_apply, broadcastTo_1b_ab_apply,
    maxes_apply I n hn, shapeCast_1ab_ab_apply]

theorem P_none (hA : ∀ q, 0 < A I q) (n d : ℕ) (hd : d < 5) (r s : Fin 2) (hr : none' d r s = true) (i j : Fin 128) :
    P I n d (part r i) (part s j) = 0 := by
  unfold P
  rw [T_none I d hd r s hr, EReal.bot_sub, EReal.bot_mul_of_pos (hA _), Ideal.exp2_bot]

theorem sums_apply (hA : ∀ q, 0 < A I q) (n : ℕ) (hn : n ≤ 5) (s : Fin 2) (j : Fin 128) : sums I n s (ix2 (0 : Fin 1) j) = L I n (part s j) := by
  have key : ∀ m ≤ 5, (subs s m).foldl (fun l x => l + shapeCast S1x128
      (multiReduction .add [0] S128 (weight I n x.1 x.2 s) 0x00000000#32 reduces_S128x128_S128 (.inl rfl) rfl) shapeCasts_S128_S1x128 (ix2 (0 : Fin 1) j)) 0
      = ∑ d ∈ Finset.range m, ∑ p, P I n d p (part s j) := by
    intro m hm
    rw [fold_subs (· + ·) 0 add_zero (fun d r => ∑ i : Fin 128, P I n d (part r i) (part s j)) s m hm
      (fun d hd r hr => by simp only [P_none I hA n d hd r s hr]; exact Finset.sum_const_zero)]
    · induction m with
      | zero => rfl
      | succ m ih =>
        rw [Finset.sum_range_succ, ← ih (by omega), sum_parts, Fin.sum_univ_two, ← add_assoc]
    · intro d hd r hr
      refine (add_apply _ _ _ _ _ _).trans ?_
      exact Finset.sum_congr rfl fun i _ => weight_apply I n hn d hd r s hr i j
  unfold sums
  rw [foldl_add]
  show List.foldl _ (Ideal.ofBits .f32 0x00000000#32) _ = _
  rw [Ideal.ofBits_zero_f32]
  exact key n hn

theorem share_apply (hA : ∀ q, 0 < A I q) (n : ℕ) (hn : n ≤ 5) (d : ℕ) (hd : d < 5) (r s : Fin 2) (i j : Fin 128) :
    share I n d r s (ix2 i j) = P I n d (part r i) (part s j) * Ideal.div 1 (L I n (part s j)) := by
  unfold share
  cases hr : none' d r s with
  | true =>
    rw [cond_true, P_none I hA n d hd r s hr, zero_mul]
    show Ideal.ofBits .bf16 0x0000#16 = 0
    simp [Ideal.ofBits, Ideal.ieee]
  | false =>
    rw [cond_false, truncf_apply, mulf_apply, shapeCast_1ab_ab_apply, shapeCast_ab_1ab_apply, weight_apply I n hn d hd r s hr, broadcastTo_1b_ab_apply,
      divf_apply, sums_apply I hA n hn]
    show _ * Ideal.div (Ideal.ofBits .f32 0x3F800000#32) _ = _
    rw [one_word]

theorem row_apply {e : FTy} (a b : FVec Ideal S128x128 e) (h) (s : Fin 2) (i j : Fin 128) :
    concatenate S128x256 1 [⟨S128x128, a⟩, ⟨S128x128, b⟩] h (ix2 i (part s j)) = (![a, b] s) (ix2 i j) := by
  match s with
  | ⟨0, hs⟩ =>
    refine concatenate_pair_apply_left (s₁ := S128x128) (s₂ := S128x128) (t := S128x256) 1 a b h (ix2 i (part ⟨0, hs⟩ j)) rfl (ix2 i j) fun x => ?_
    match x with
    | ⟨0, _⟩ => rfl
    | ⟨1, _⟩ => show j.val = 128 * 0 + j.val; omega
  | ⟨1, hs⟩ =>
    refine concatenate_pair_apply_right (s₁ := S128x128) (s₂ := S128x128) (t := S128x256) 1 a b h (ix2 i (part ⟨1, hs⟩ j)) rfl rfl (ix2 i j) (fun x hx => ?_)
      (by show j.val + 128 = 128 * 1 + j.val; omega)
    match x with
    | ⟨0, _⟩ => rfl
    | ⟨1, _⟩ => exact absurd rfl hx

theorem quad_apply {e : FTy} (a b c d : FVec Ideal S128x128 e) (r s : Fin 2) (i j : Fin 128) :
    quad a b c d (ix2 (part r i) (part s j)) = (![![a, b], ![c, d]] r s) (ix2 i j) := by
  unfold quad
  match r with
  | ⟨0, hr⟩ =>
    refine (concatenate_pair_apply_left (s₁ := S128x256) (s₂ := S128x256) (t := S256x256) 0 _ _ _ (ix2 (part ⟨0, hr⟩ i) (part s j)) rfl (ix2 i (part s j))
      fun x => ?_).trans (row_apply a b _ s i j)
    match x with
    | ⟨0, _⟩ => show i.val = 128 * 0 + i.val; omega
    | ⟨1, _⟩ => rfl
  | ⟨1, hr⟩ =>
    refine (concatenate_pair_apply_right (s₁ := S128x256) (s₂ := S128x256) (t := S256x256) 0 _ _ _ (ix2 (part ⟨1, hr⟩ i) (part s j)) rfl rfl (ix2 i (part s j))
      (fun x hx => ?_) (by show i.val + 128 = 128 * 1 + i.val; omega)).trans (row_apply c d _ s i j)
    match x with
    | ⟨0, _⟩ => exact absurd rfl hx
    | ⟨1, _⟩ => rfl

theorem outs_apply (hA : ∀ q, 0 < A I q) (n : ℕ) (hn : n ≤ 5) (m : ℕ) (hm : m ≤ 5) (c : Fin 128) (q : Fin 256) : outs I n m (ix2 c q) = O I n m c q := by
  induction m with
  | zero => exact Ideal.ofBits_zero_f32
  | succ m ih =>
    rw [outs, addf_apply, ih (by omega)]
    unfold O
    rw [Finset.sum_range_succ]
    congr 1
    refine (Ideal.matmul_plain_apply (M := 128) (K := 256) (N := 256) none _ _ _ c q).trans ?_
    rw [constant_apply, Ideal.ofBits_zero_f32, zero_add]
    refine Finset.sum_congr rfl fun p _ => ?_
    rw [shapeCast_1ab_ab_apply]
    congr 1
    obtain ⟨⟨r, i⟩, rfl⟩ := parts.surjective p
    obtain ⟨⟨s, j⟩, rfl⟩ := parts.surjective q
    show quad (share I n m 0 0) (share I n m 0 1) (share I n m 1 0) (share I n m 1 1) (ix2 (part r i) (part s j)) = P I n m (part r i) (part s j) * Ideal.div 1 (L I n (part s j))
    rw [quad_apply, ← share_apply I hA n hn m (by omega) r s]
    fin_cases r <;> fin_cases s <;> rfl

theorem out_apply (hA : ∀ q, 0 < A I q) (n : ℕ) (hn : n ≤ 5) (c : Fin 128) (q : Fin 256) : out I n (ix2 c q) = O I n n c q := by
  unfold out
  rw [shapeCast_apply _ _ (ix2 c q) (ix2 c q) rfl, outs_apply I hA n hn n hn]

theorem peak_apply (hA : ∀ q, 0 < A I q) (n : ℕ) (hn : n ≤ 5) (q : Fin 256) :
    peak I n (ix3 (0 : Fin 1) (0 : Fin 1) q) = Finset.univ.sup fun c : Fin 128 => max (O I n n c q) (-O I n n c q) := by
  unfold peak
  rw [shapeCast_ab_1ab_apply, shapeCast_a_1a_apply]
  refine (Ideal.multiReduction_maximumf_single _ _ _ _ _ _).trans ?_
  show Finset.fold max (Ideal.ofBits .f32 0xFF800000#32) _ _ = _
  rw [neg_inf]
  refine Finset.fold_congr fun c _ => ?_
  have hl : reduces_S128x256_S256.lift (ix1 q) c = ix2 (n0 := 128) c q := by
    funext a
    match a with
    | ⟨0, _⟩ => rfl
    | ⟨1, _⟩ => rfl
  have ho : outs I n n (reduces_S128x256_S256.lift (ix1 q) c) = O I n n c q := (congrArg (outs I n n) hl).trans (outs_apply I hA n hn n hn c q)
  exact congrArg (fun x => max x (-x)) ho

end Cert.KernelIdeal.Proof

end
-- ==== Proof.V.Reads.lean ====
/- What the buffers hold after a grid point, read element by element at the extended reals. -/
module

public import Idealize.ShloMosaic.Lib.Writes
public import Idealize.ShloMosaic.Lib.WritesUnit
public import Idealize.ShloMosaic.Lib.ValueLayoutCasts
public import proofs.«01_k».proof.Proof.V.Body
public import proofs.«01_k».proof.Proof.V.Point

@[expose] public section

set_option maxRecDepth 16384

noncomputable section

namespace Cert.KernelIdeal.Proof

open Cert.KernelIdeal.Gen
open Idealize.ShloMosaic Idealize.ShloMosaic.TcCoe Idealize.ShloMosaic.ValueIdx

theorem three_coords {p : Fin 3 → Prop} (h0 : p 0) (h1 : p 1) (h2 : p 2) : ∀ a, p a := by
  intro a
  fin_cases a
  exacts [h0, h1, h2]

theorem two_coords {p : Fin 2 → Prop} (h0 : p 0) (h1 : p 1) : ∀ a, p a := by
  intro a
  fin_cases a
  exacts [h0, h1]

theorem four_coords {p : Fin 4 → Prop} (h0 : p 0) (h1 : p 1) (h2 : p 2) (h3 : p 3) : ∀ a, p a := by
  intro a
  fin_cases a
  exacts [h0, h1, h2, h3]

/-- The head to which a row of the values belongs. -/
def headOf (r : Fin 2048) : Fin 16 := ⟨r.val / 128, by omega⟩

/-- The ring of the keys after the point `i`. -/
def ringK (i : grid0.Coords) (x4 : S1x256x2048.Idx → EReal) (old : S5x256x2048.Idx → EReal) : S5x256x2048.Idx → EReal :=
  fun y => if (y 0).val = (i 1).val % 5 then x4 (ix3 (0 : Fin 1) (y 1) (y 2)) else old y

/-- The ring of the scaled values. -/
def ringV (i : grid0.Coords) (x6 : S1x256x2048.Idx → EReal) (x7 : S1x256x16.Idx → EReal) (old : S5x2048x256.Idx → EReal) : S5x2048x256.Idx → EReal :=
  fun y => if (y 0).val = (i 1).val % 5 then x6 (ix3 (0 : Fin 1) (y 2) (y 1)) * x7 (ix3 (0 : Fin 1) (y 2) (headOf (y 1))) else old y

/-- The ring of the scales of the keys. -/
def ringS (i : grid0.Coords) (x5 : S1x256x16.Idx → EReal) (old : S5x16x256x128.Idx → EReal) : S5x16x256x128.Idx → EReal :=
  fun y => if (y 0).val = (i 1).val % 5 then x5 (ix3 (0 : Fin 1) (y 2) (y 1)) else old y

/-- The scaled scales of the queries. -/
def queries (x3 : S1x256x16.Idx → EReal) : S16x1x256.Idx → EReal :=
  fun y => x3 (ix3 (0 : Fin 1) (y 2) (y 0)) * (((Real.log 2)⁻¹ * (Real.sqrt 128)⁻¹ : ℝ) : EReal)

theorem pay415_apply (x : S1x256x2048.Idx → EReal) (p : Fin 256) (c : Fin 2048) :
    k0_pay415 (F := Ideal) (win x ![0, 0, 0] ![1, 256, 2048] (fits3 (by norm_num) (by norm_num) (by norm_num))) (ix3 (0 : Fin 1) p c)
      = x (ix3 (0 : Fin 1) p c) := by
  unfold k0_pay415
  rw [shapeCast_ab_1ab_apply, shapeCast_1ab_ab_apply]
  exact win_apply _ _ _ _ _ _ (three_coords rfl (Nat.zero_add _).symm (Nat.zero_add _).symm)

theorem read_keys (v : View sig .tc .vmem S5x256x2048 .fp8e4m3) (f : v.ty.Contents (Elt Ideal)) (i : grid0.Coords) (x4 : S1x256x2048.Idx → EReal) :
    v.read (Elt Ideal) (v.writes (Elt Ideal) f [keyP (F := Ideal) i x4]) = ringK i x4 (v.read (Elt Ideal) f) := by
  funext y
  obtain ⟨s, p, c, rfl⟩ : ∃ (s : Fin 5) (p : Fin 256) (c : Fin 2048), y = ix3 s p c := ⟨y 0, y 1, y 2, eq_ix3 y⟩
  unfold ringK
  split
  next h =>
    refine (View.read_writes_cons_unit_of_mem v f _ _ [] (ix3 s p c) (ix3 (0 : Fin 1) p c) rfl ?_).trans ?_
    · exact three_coords (h.trans (slot_eq i).symm) (Nat.zero_add _).symm (Nat.zero_add _).symm
    · exact pay415_apply x4 p c
  next h =>
    refine View.read_writes_cons_unit_of_not_mem v f _ _ [] (ix3 s p c) rfl 0 ?_
    show s.val < slot i ∨ slot i + 1 ≤ s.val
    have h' : ¬ s.val = (i 1).val % 5 := h
    rw [slot_eq]
    omega

theorem pay416_apply (x : S1x256x16.Idx → EReal) (h : Fin 16) (p : Fin 256) :
    k0_pay416 (F := Ideal) (win x ![0, 0, 0] ![1, 256, 16] (fits3 (by norm_num) (by norm_num) (by norm_num))) (ix2 h p) = x (ix3 (0 : Fin 1) p h) := by
  unfold k0_pay416
  dsimp only
  rw [truncf_apply, transpose_ix2_apply, shapeCast_1ab_ab_apply]
  exact win_apply _ _ _ _ _ _ (three_coords rfl (Nat.zero_add _).symm (Nat.zero_add _).symm)

theorem valV_apply (x6 : S1x256x2048.Idx → EReal) (x7 : S1x256x16.Idx → EReal) (k : ℕ) (hk : k < 16) (a : Fin 1) (r : Fin 128) (q : Fin 256) :
    valV (F := Ideal) x6 x7 k hk (ix3 a r q) = x6 (ix3 (0 : Fin 1) q (⟨128 * k + r.val, by omega⟩ : Fin 2048))
      * x7 (ix3 (0 : Fin 1) q (headOf ⟨128 * k + r.val, by omega⟩)) := by
  unfold valV
  rw [shapeCast_ab_1ab_apply, mulf_apply, transpose_ix2_apply, extf_apply, shapeCast_1ab_ab_apply, broadcastTo_1b_ab_apply]
  congr 1
  · exact win_apply _ _ _ _ _ _ (three_coords rfl (Nat.zero_add _).symm rfl)
  · rw [slice2_axis0_apply k _ _ (0 : Fin 1) q ⟨k, hk⟩ rfl, pay416_apply]
    have : headOf ⟨128 * k + r.val, by omega⟩ = ⟨k, hk⟩ := Fin.ext (by show (128 * k + r.val) / 128 = k; omega)
    rw [this]

theorem read_vals (v : View sig .tc .vmem S5x2048x256 .bf16) (f : v.ty.Contents (Elt Ideal)) (i : grid0.Coords) (x6 : S1x256x2048.Idx → EReal)
    (x7 : S1x256x16.Idx → EReal) :
    v.read (Elt Ideal) (v.writes (Elt Ideal) f (heads (valP (F := Ideal) i x6 x7))) = ringV i x6 x7 (v.read (Elt Ideal) f) := by
  funext y
  by_cases h : (y 0).val = (i 1).val % 5
  · have hG := View.read_writes_apply_of_pieces v f
      (fun y => x6 (ix3 (0 : Fin 1) (y 2) (y 1)) * x7 (ix3 (0 : Fin 1) (y 2) (headOf (y 1)))) (heads (valP (F := Ideal) i x6 x7)) ?_ y ?_
    · refine hG.trans ?_
      unfold ringV
      rw [if_pos h]
    · intro p hp
      obtain ⟨k, hk, rfl⟩ := (mem_heads _ _).1 hp
      intro x
      obtain ⟨a, r, q, rfl⟩ : ∃ (a : Fin 1) (r : Fin 128) (q : Fin 256), x = ix3 a r q := ⟨x 0, x 1, x 2, eq_ix3 x⟩
      have e1 : (valP (F := Ideal) i x6 x7 k hk).1.emb (ix3 a r q) = ix3 ⟨slot i, slot_lt i⟩ (⟨128 * k + r.val, by omega⟩ : Fin 2048) q := by
        funext c
        refine Fin.ext ?_
        match c with
        | ⟨0, _⟩ => show slot i + 1 * a.val = slot i; omega
        | ⟨1, _⟩ => show 128 * k + 1 * r.val = 128 * k + r.val; omega
        | ⟨2, _⟩ => show 0 + 1 * q.val = q.val; omega
      rw [e1]
      exact valV_apply x6 x7 k hk a r q
    · have h1 : (y 1).val < 2048 := (y 1).isLt
      have h2 : (y 2).val < 256 := (y 2).isLt
      refine ⟨valP (F := Ideal) i x6 x7 ((y 1).val / 128) (by omega), (mem_heads _ _).2 ⟨_, _, rfl⟩, ?_⟩
      dsimp only [valP, sclP]
      rw [Rect.mem_set_unit]
      refine three_coords ⟨?_, ?_⟩ ⟨?_, ?_⟩ ⟨Nat.zero_le _, ?_⟩
      · show slot i ≤ (y 0).val
        rw [slot_eq]; omega
      · show (y 0).val < slot i + 1
        rw [slot_eq]; omega
      · show 128 * ((y 1).val / 128) ≤ (y 1).val
        omega
      · show (y 1).val < 128 * ((y 1).val / 128) + 128
        omega
      · show (y 2).val < 0 + 256
        omega
  · unfold ringV
    rw [if_neg h]
    refine View.read_writes_apply_of_forall_not_mem v f y _ fun p hp hy => h ?_
    obtain ⟨k, hk, rfl⟩ := (mem_heads _ _).1 hp
    dsimp only [valP, sclP] at hy
    rw [Rect.mem_set_unit] at hy
    have := hy 0
    have h1 : slot i ≤ (y 0).val := this.1
    have h2 : (y 0).val < slot i + 1 := this.2
    rw [slot_eq] at h1 h2
    omega

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sclV_apply (x5 : S1x256x16.Idx → EReal) (k : ℕ) (hk : k < 16) (a b : Fin 1) (q : Fin 256) (l : Fin 128) :
    sclV (F := Ideal) x5 k hk (ix4 a b q l) = x5 (ix3 (0 : Fin 1) q (⟨k, hk⟩ : Fin 16)) := by
  unfold sclV
  rw [shapeCast_apply _ _ (ix4 a b q l) (ix2 q l) (by
    have ha : a.val = 0 := by omega
    have hb : b.val = 0 := by omega
    rw [Shape.rowMajor_val_four, Shape.rowMajor_val_two]
    show q.val * 128 + l.val = ((a.val * 1 + b.val) * 256 + q.val) * 128 + l.val
    omega), broadcastTo_a1_ab_apply]
  rw [shapeCast_apply _ _ (ix2 q (0 : Fin 1)) (ix2 q (0 : Fin 1)) rfl, shapeCast_1ab_ab_apply]
  exact win_apply _ _ _ _ _ _ (three_coords rfl (Nat.zero_add _).symm rfl)

theorem read_scls (v : View sig .tc .vmem S5x16x256x128 .f32) (f : v.ty.Contents (Elt Ideal)) (i : grid0.Coords) (x5 : S1x256x16.Idx → EReal) :
    v.read (Elt Ideal) (v.writes (Elt Ideal) f (heads (sclP (F := Ideal) i x5))) = ringS i x5 (v.read (Elt Ideal) f) := by
  funext y
  by_cases h : (y 0).val = (i 1).val % 5
  · have hG := View.read_writes_apply_of_pieces v f (fun y => x5 (ix3 (0 : Fin 1) (y 2) (y 1))) (heads (sclP (F := Ideal) i x5)) ?_ y ?_
    · refine hG.trans ?_
      unfold ringS
      rw [if_pos h]
    · intro p hp
      obtain ⟨k, hk, rfl⟩ := (mem_heads _ _).1 hp
      intro x
      obtain ⟨a, b, q, l, rfl⟩ : ∃ (a : Fin 1) (b : Fin 1) (q : Fin 256) (l : Fin 128), x = ix4 a b q l := ⟨x 0, x 1, x 2, x 3, eq_ix4 x⟩
      have e1 : (sclP (F := Ideal) i x5 k hk).1.emb (ix4 a b q l) = ix4 ⟨slot i, slot_lt i⟩ (⟨k, hk⟩ : Fin 16) q l := by
        funext c
        refine Fin.ext ?_
        match c with
        | ⟨0, _⟩ => show slot i + 1 * a.val = slot i; omega
        | ⟨1, _⟩ => show k + 1 * b.val = k; omega
        | ⟨2, _⟩ => show 0 + 1 * q.val = q.val; omega
        | ⟨3, _⟩ => show 0 + 1 * l.val = l.val; omega
      rw [e1]
      exact sclV_apply x5 k hk a b q l
    · have h1 : (y 1).val < 16 := (y 1).isLt
      have h2 : (y 2).val < 256 := (y 2).isLt
      have h3 : (y 3).val < 128 := (y 3).isLt
      refine ⟨sclP (F := Ideal) i x5 (y 1).val h1, (mem_heads _ _).2 ⟨_, _, rfl⟩, ?_⟩
      dsimp only [valP, sclP]
      rw [Rect.mem_set_unit]
      refine four_coords ⟨?_, ?_⟩ ⟨le_rfl, Nat.lt_succ_self _⟩ ⟨Nat.zero_le _, ?_⟩ ⟨Nat.zero_le _, ?_⟩
      · show slot i ≤ (y 0).val
        rw [slot_eq]; omega
      · show (y 0).val < slot i + 1
        rw [slot_eq]; omega
      · show (y 2).val < 0 + 256
        omega
      · show (y 3).val < 0 + 128
        omega
  · unfold ringS
    rw [if_neg h]
    refine View.read_writes_apply_of_forall_not_mem v f y _ fun p hp hy => h ?_
    obtain ⟨k, hk, rfl⟩ := (mem_heads _ _).1 hp
    dsimp only [valP, sclP] at hy
    rw [Rect.mem_set_unit] at hy
    have := hy 0
    have h1 : slot i ≤ (y 0).val := this.1
    have h2 : (y 0).val < slot i + 1 := this.2
    rw [slot_eq] at h1 h2
    omega

theorem queV_apply (x3 : S1x256x16.Idx → EReal) (k : ℕ) (hk : k < 16) (a b : Fin 1) (q : Fin 256) :
    queV (F := Ideal) x3 k hk (ix3 a b q) = x3 (ix3 (0 : Fin 1) q (⟨k, hk⟩ : Fin 16)) * (((Real.log 2)⁻¹ * (Real.sqrt 128)⁻¹ : ℝ) : EReal) := by
  have hb : b = 0 := by omega
  subst hb
  unfold queV
  rw [shapeCast_ab_1ab_apply, slice2_axis0_apply k _ _ (0 : Fin 1) q ⟨k, hk⟩ rfl]
  unfold k0_pay417
  dsimp only
  rw [mulf_apply, transpose_ix2_apply, shapeCast_1ab_ab_apply, broadcast_apply]
  exact congrArg₂ _ (win_apply _ _ _ _ _ _ (three_coords rfl (Nat.zero_add _).symm (Nat.zero_add _).symm))
    (IdealRules.named_const.ideal_named_scalar _ _ _ _ rfl)

theorem read_queries (v : View sig .tc .vmem S16x1x256 .f32) (f : v.ty.Contents (Elt Ideal)) (x3 : S1x256x16.Idx → EReal) :
    v.read (Elt Ideal) (v.writes (Elt Ideal) f (heads (queP (F := Ideal) x3))) = queries x3 := by
  funext y
  refine View.read_writes_apply_of_pieces v f (queries x3) (heads (queP (F := Ideal) x3)) ?_ y ?_
  · intro p hp
    obtain ⟨k, hk, rfl⟩ := (mem_heads _ _).1 hp
    intro x
    obtain ⟨a, b, q, rfl⟩ : ∃ (a : Fin 1) (b : Fin 1) (q : Fin 256), x = ix3 a b q := ⟨x 0, x 1, x 2, eq_ix3 x⟩
    have e1 : (queP (F := Ideal) x3 k hk).1.emb (ix3 a b q) = ix3 (⟨k, hk⟩ : Fin 16) b q := by
      funext c
      refine Fin.ext ?_
      match c with
      | ⟨0, _⟩ => show k + 1 * a.val = k; omega
      | ⟨1, _⟩ => show 0 + 1 * b.val = b.val; omega
      | ⟨2, _⟩ => show 0 + 1 * q.val = q.val; omega
    rw [e1]
    exact queV_apply x3 k hk a b q
  · have h0 : (y 0).val < 16 := (y 0).isLt
    have h1 : (y 1).val < 1 := (y 1).isLt
    have h2 : (y 2).val < 256 := (y 2).isLt
    refine ⟨queP (F := Ideal) x3 (y 0).val h0, (mem_heads _ _).2 ⟨_, _, rfl⟩, ?_⟩
    dsimp only [queP]
    rw [Rect.mem_set_unit]
    refine three_coords ⟨le_rfl, Nat.lt_succ_self _⟩ ⟨Nat.zero_le _, ?_⟩ ⟨Nat.zero_le _, ?_⟩
    · show (y 1).val < 0 + 1
      omega
    · show (y 2).val < 0 + 256
      omega

section loop

variable (i : grid0.Coords) (n : ℕ) (x2 : S1x256x2048.Idx → EReal) (x10 : S5x256x2048.Idx → EReal) (x11 : S5x2048x256.Idx → EReal)
  (x12 : S5x16x256x128.Idx → EReal) (x16 : S16x1x256.Idx → EReal)

/-- The heads that the loop leaves. -/
def headsV : S2048x256.Idx → EReal :=
  fun y => out (F := Ideal) (loads i (headOf (y 0)).val (headOf (y 0)).isLt x2 x10 x11 x12 x16) n (ix2 (⟨(y 0).val % 128, by omega⟩ : Fin 128) (y 1))

/-- The largest magnitudes that it leaves. -/
def peaksV : S16x1x256.Idx → EReal :=
  fun y => peak (F := Ideal) (loads i (y 0).val (y 0).isLt x2 x10 x11 x12 x16) n (ix3 (0 : Fin 1) (0 : Fin 1) (y 2))

theorem peaksV_apply (h : Fin 16) (q : Fin 256) : peaksV i n x2 x10 x11 x12 x16 (ix3 h (0 : Fin 1) q)
    = peak (F := Ideal) (loads i h.val h.isLt x2 x10 x11 x12 x16) n (ix3 (0 : Fin 1) (0 : Fin 1) q) := rfl

theorem mem_outL (k : ℕ) (hk : k ≤ 16) (p : View.Piece (Elt Ideal) S2048x256 .f32) :
    p ∈ outL (F := Ideal) i n x2 x10 x11 x12 x16 k ↔ ∃ h, ∃ hh : h < 16, h < k ∧ p = ⟨headR h hh, out (F := Ideal) (loads i h hh x2 x10 x11 x12 x16) n⟩ := by
  induction k with
  | zero => simp [outL]
  | succ k ih =>
    rw [outL, dif_pos (by omega), List.mem_cons, ih (by omega)]
    constructor
    · rintro (h | ⟨h, hh, hl, hp⟩)
      · exact ⟨k, by omega, by omega, h⟩
      · exact ⟨h, hh, by omega, hp⟩
    · rintro ⟨h, hh, hl, hp⟩
      rcases Nat.lt_succ_iff_lt_or_eq.1 hl with h' | rfl
      · exact Or.inr ⟨h, hh, h', hp⟩
      · exact Or.inl hp

theorem mem_peakL (k : ℕ) (hk : k ≤ 16) (p : View.Piece (Elt Ideal) S16x1x256 .f32) :
    p ∈ peakL (F := Ideal) i n x2 x10 x11 x12 x16 k ↔ ∃ h, ∃ hh : h < 16, h < k ∧ p = ⟨peakR h hh, peak (F := Ideal) (loads i h hh x2 x10 x11 x12 x16) n⟩ := by
  induction k with
  | zero => simp [peakL]
  | succ k ih =>
    rw [peakL, dif_pos (by omega), List.mem_cons, ih (by omega)]
    constructor
    · rintro (h | ⟨h, hh, hl, hp⟩)
      · exact ⟨k, by omega, by omega, h⟩
      · exact ⟨h, hh, by omega, hp⟩
    · rintro ⟨h, hh, hl, hp⟩
      rcases Nat.lt_succ_iff_lt_or_eq.1 hl with h' | rfl
      · exact Or.inr ⟨h, hh, h', hp⟩
      · exact Or.inl hp

theorem read_outs (v : View sig .tc .vmem S2048x256 .f32) (f : v.ty.Contents (Elt Ideal)) :
    v.read (Elt Ideal) (v.writes (Elt Ideal) f (outL (F := Ideal) i n x2 x10 x11 x12 x16 16)) = headsV i n x2 x10 x11 x12 x16 := by
  funext y
  refine View.read_writes_apply_of_pieces v f (headsV i n x2 x10 x11 x12 x16) _ ?_ y ?_
  · intro p hp
    obtain ⟨k, hk, -, rfl⟩ := (mem_outL i n x2 x10 x11 x12 x16 16 le_rfl p).1 hp
    intro x
    obtain ⟨r, q, rfl⟩ : ∃ (r : Fin 128) (q : Fin 256), x = ix2 r q := ⟨x 0, x 1, eq_ix2 x⟩
    have e1 : (headR k hk).emb (ix2 r q) = ix2 (⟨128 * k + r.val, by omega⟩ : Fin 2048) q := by
      funext c
      refine Fin.ext ?_
      match c with
      | ⟨0, _⟩ => show headW k + 1 * r.val = 128 * k + r.val; rw [headW_eq k hk]; omega
      | ⟨1, _⟩ => show 0 + 1 * q.val = q.val; omega
    refine Eq.trans ?_ (congrArg (headsV i n x2 x10 x11 x12 x16) e1.symm)
    have e2 : headOf ⟨128 * k + r.val, by omega⟩ = ⟨k, hk⟩ := Fin.ext (by show (128 * k + r.val) / 128 = k; omega)
    have e3 : (⟨(128 * k + r.val) % 128, by omega⟩ : Fin 128) = r := Fin.ext (by show (128 * k + r.val) % 128 = r.val; omega)
    unfold headsV
    show _ = out (F := Ideal) (loads i (headOf ⟨128 * k + r.val, by omega⟩).val (headOf ⟨128 * k + r.val, by omega⟩).isLt x2 x10 x11 x12 x16) n
      (ix2 (⟨(128 * k + r.val) % 128, by omega⟩ : Fin 128) q)
    rw [e3]
    simp only [e2]
  · have h0 : (y 0).val < 2048 := (y 0).isLt
    have h1 : (y 1).val < 256 := (y 1).isLt
    have hk : (y 0).val / 128 < 16 := by omega
    refine ⟨_, (mem_outL i n x2 x10 x11 x12 x16 16 le_rfl _).2 ⟨(y 0).val / 128, hk, hk, rfl⟩, ?_⟩
    dsimp only
    rw [Rect.mem_set_unit]
    refine two_coords ⟨?_, ?_⟩ ⟨Nat.zero_le _, ?_⟩
    · show headW _ ≤ (y 0).val
      rw [headW_eq _ hk]; omega
    · show (y 0).val < headW _ + 128
      rw [headW_eq _ hk]; omega
    · show (y 1).val < 0 + 256
      omega

theorem read_peaks (v : View sig .tc .vmem S16x1x256 .f32) (f : v.ty.Contents (Elt Ideal)) :
    v.read (Elt Ideal) (v.writes (Elt Ideal) f (peakL (F := Ideal) i n x2 x10 x11 x12 x16 16)) = peaksV i n x2 x10 x11 x12 x16 := by
  funext y
  refine View.read_writes_apply_of_pieces v f (peaksV i n x2 x10 x11 x12 x16) _ ?_ y ?_
  · intro p hp
    obtain ⟨k, hk, -, rfl⟩ := (mem_peakL i n x2 x10 x11 x12 x16 16 le_rfl p).1 hp
    intro x
    obtain ⟨a, b, q, rfl⟩ : ∃ (a : Fin 1) (b : Fin 1) (q : Fin 256), x = ix3 a b q := ⟨x 0, x 1, x 2, eq_ix3 x⟩
    have ha : a = 0 := by omega
    have hb : b = 0 := by omega
    subst ha hb
    have e1 : (peakR k hk).emb (ix3 (0 : Fin 1) (0 : Fin 1) q) = ix3 (⟨k, hk⟩ : Fin 16) (0 : Fin 1) q := by
      funext c
      refine Fin.ext ?_
      match c with
      | ⟨0, _⟩ => show headN k + 1 * 0 = k; rw [headN_eq k hk]; omega
      | ⟨1, _⟩ => rfl
      | ⟨2, _⟩ => show 0 + 1 * q.val = q.val; omega
    refine Eq.trans ?_ (congrArg (peaksV i n x2 x10 x11 x12 x16) e1.symm)
    rw [peaksV_apply i n x2 x10 x11 x12 x16 ⟨k, hk⟩ q]
  · have h0 : (y 0).val < 16 := (y 0).isLt
    have h1 : (y 1).val < 1 := (y 1).isLt
    have h2 : (y 2).val < 256 := (y 2).isLt
    refine ⟨_, (mem_peakL i n x2 x10 x11 x12 x16 16 le_rfl _).2 ⟨(y 0).val, h0, h0, rfl⟩, ?_⟩
    dsimp only
    rw [Rect.mem_set_unit]
    refine three_coords ⟨?_, ?_⟩ ⟨Nat.zero_le _, ?_⟩ ⟨Nat.zero_le _, ?_⟩
    · show headN _ ≤ (y 0).val
      rw [headN_eq _ h0]
    · show (y 0).val < headN _ + 1
      rw [headN_eq _ h0]; omega
    · show (y 1).val < 0 + 1
      omega
    · show (y 2).val < 0 + 256
      omega

end loop

end Cert.KernelIdeal.Proof

end
-- ==== Proof.V.Ring.lean ====
/- The rings from grid point to grid point: what they hold of the arrays, and what a grid point makes of them. -/
module

public import proofs.«01_k».proof.Proof.V.Reads

@[expose] public section

set_option maxRecDepth 16384

noncomputable section

namespace Cert.KernelIdeal.Proof

open Cert.KernelIdeal.Gen
open Idealize.ShloMosaic Idealize.ShloMosaic.TcCoe Idealize.ShloMosaic.ValueIdx

/-! ## What a head reads of the tiles -/

section congr

variable {I J : Loads Ideal} (n : ℕ) (hq : ∀ y, I.q y = J.q y) (ha : ∀ s y, I.a s y = J.a s y) (hk : ∀ d < n, ∀ y, I.k d y = J.k d y)
  (hks : ∀ d < n, ∀ r y, I.ks d r y = J.ks d r y) (hv : ∀ d < n, ∀ y, I.v d y = J.v d y)

include hq hk hks

theorem T_congr (d : ℕ) (hd : d < n) (p q : Fin 256) : T I d p q = T J d p q := by
  unfold T
  simp only [hq, hk d hd, hks d hd]

theorem M_congr (q : Fin 256) : M I n q = M J n q := by
  unfold M
  refine Finset.sup_congr rfl fun d hd => Finset.sup_congr rfl fun p _ => ?_
  exact T_congr n hq hk hks d (Finset.mem_range.1 hd) p q

include ha

theorem P_congr (d : ℕ) (hd : d < n) (p q : Fin 256) : P I n d p q = P J n d p q := by
  unfold P A
  rw [T_congr n hq hk hks d hd, M_congr n hq hk hks, ha]

theorem L_congr (q : Fin 256) : L I n q = L J n q := by
  unfold L
  refine Finset.sum_congr rfl fun d hd => Finset.sum_congr rfl fun p _ => ?_
  exact P_congr n hq ha hk hks d (Finset.mem_range.1 hd) p q

include hv

/-- The head depends only on the tiles of the first `n` blocks. -/
theorem O_congr (c : Fin 128) (q : Fin 256) : O I n n c q = O J n n c q := by
  unfold O
  refine Finset.sum_congr rfl fun d hd => Finset.sum_congr rfl fun p _ => ?_
  rw [hv d (Finset.mem_range.1 hd), P_congr n hq ha hk hks d (Finset.mem_range.1 hd), L_congr n hq ha hk hks]

end congr

/-! ## The arrays -/

/-- The six arrays: queries, keys and values, and the scales of each. -/
structure Arrays where
  x : S4x16384x2048.Idx → EReal
  xs : S4x16384x16.Idx → EReal
  k : S4x16384x2048.Idx → EReal
  ks : S4x16384x16.Idx → EReal
  v : S4x16384x2048.Idx → EReal
  vs : S4x16384x16.Idx → EReal

/-- Element `p` of block `i` in the sequence. -/
def pos (i : Fin 64) (p : Fin 256) : Fin 16384 := ⟨256 * i.val + p.val, by omega⟩

/-- The block `d` before block `i`. -/
def back (i : Fin 64) (d : ℕ) : Fin 64 := ⟨i.val - d, by omega⟩

/-- Element `e` of head `h` among the columns. -/
def col (h : Fin 16) (e : Fin 128) : Fin 2048 := ⟨128 * h.val + e.val, by omega⟩

theorem headOf_col (h : Fin 16) (e : Fin 128) : headOf (col h e) = h := Fin.ext (by show (128 * h.val + e.val) / 128 = h.val; omega)

/-- Its place in its head. -/
def inHead (r : Fin 2048) : Fin 128 := ⟨r.val % 128, by omega⟩

theorem col_headOf (r : Fin 2048) : col (headOf r) (inHead r) = r := Fin.ext (by show 128 * (r.val / 128) + r.val % 128 = r.val; omega)

/-- Block `i` of batch `b` of an array of columns. -/
def blkW (f : S4x16384x2048.Idx → EReal) (b : Fin 4) (i : Fin 64) : S1x256x2048.Idx → EReal := fun y => f (ix3 b (pos i (y 1)) (y 2))

/-- Block `i` of batch `b` of an array of scales. -/
def blkN (f : S4x16384x16.Idx → EReal) (b : Fin 4) (i : Fin 64) : S1x256x16.Idx → EReal := fun y => f (ix3 b (pos i (y 1)) (y 2))

variable (D : Arrays)

/-- What head `h` of block `i` of batch `b` reads of the arrays. -/
def tiles (b : Fin 4) (i : Fin 64) (h : Fin 16) : Loads Ideal where
  q y := D.x (ix3 b (pos i (y 1)) (col h (y 2)))
  k d y := D.k (ix3 b (pos (back i d) (y 1)) (col h (y 2)))
  ks d r y := D.ks (ix3 b (pos (back i d) (part r (y 2))) h)
  v d y := D.v (ix3 b (pos (back i d) (y 2)) (col h (y 1))) * D.vs (ix3 b (pos (back i d) (y 2)) h)
  a s y := D.xs (ix3 b (pos i (part s (y 2))) h) * (((Real.log 2)⁻¹ * (Real.sqrt 128)⁻¹ : ℝ) : EReal)

/-- The slot of block `j`. -/
def slotOf (j : Fin 64) : Fin 5 := ⟨j.val % 5, Nat.mod_lt _ (by norm_num)⟩

/-- After block `i` of batch `b`, the rings hold that block and the four before it. -/
def RingAt (b : Fin 4) (i : Fin 64) (x10 : S5x256x2048.Idx → EReal) (x11 : S5x2048x256.Idx → EReal) (x12 : S5x16x256x128.Idx → EReal) : Prop :=
  ∀ j : Fin 64, j.val ≤ i.val → i.val < j.val + 5 → ∀ p : Fin 256,
    (∀ c, x10 (ix3 (slotOf j) p c) = D.k (ix3 b (pos j p) c))
    ∧ (∀ c, x11 (ix3 (slotOf j) c p) = D.v (ix3 b (pos j p) c) * D.vs (ix3 b (pos j p) (headOf c)))
    ∧ ∀ h l, x12 (ix4 (slotOf j) h p l) = D.ks (ix3 b (pos j p) h)

/-- A grid point puts its own block in the rings, in the place of the block five before it. -/
theorem ring_step (g : grid0.Coords) (b : Fin 4) (i : Fin 64) (hi : (g 1).val = i.val) (x10 : S5x256x2048.Idx → EReal)
    (x11 : S5x2048x256.Idx → EReal) (x12 : S5x16x256x128.Idx → EReal)
    (h : ∀ j : Fin 64, j.val + 1 = i.val → RingAt D b j x10 x11 x12) :
    RingAt D b i (ringK g (blkW D.k b i) x10) (ringV g (blkW D.v b i) (blkN D.vs b i) x11) (ringS g (blkN D.ks b i) x12) := by
  intro j hj hij p
  by_cases hji : j = i
  · subst hji
    refine ⟨fun c => ?_, fun c => ?_, fun hh l => ?_⟩
    · exact if_pos (by show j.val % 5 = _; rw [hi])
    · exact if_pos (by show j.val % 5 = _; rw [hi])
    · exact if_pos (by show j.val % 5 = _; rw [hi])
  · have hne : j.val ≠ i.val := fun e => hji (Fin.ext e)
    have hmod : ¬ j.val % 5 = (g 1).val % 5 := by omega
    obtain ⟨o1, o2, o3⟩ := h ⟨i.val - 1, by omega⟩ (by show i.val - 1 + 1 = i.val; omega) j (by show j.val ≤ i.val - 1; omega)
      (by show i.val - 1 < j.val + 5; omega) p
    refine ⟨fun c => ?_, fun c => ?_, fun hh l => ?_⟩
    · exact (if_neg hmod).trans (o1 c)
    · exact (if_neg hmod).trans (o2 c)
    · exact (if_neg hmod).trans (o3 hh l)

section point

variable (g : grid0.Coords) (b : Fin 4) (i : Fin 64) (hi : (g 1).val = i.val) (x10 : S5x256x2048.Idx → EReal)
  (x11 : S5x2048x256.Idx → EReal) (x12 : S5x16x256x128.Idx → EReal) (hr : RingAt D b i x10 x11 x12) (n : ℕ) (hn : n ≤ 5) (hni : n ≤ i.val + 1)
  (hxs : ∀ y, 0 < D.xs y)

/-- What a head loads of the buffers, when the rings hold the blocks. -/
abbrev L₀ (h : Fin 16) : Loads Ideal := loads (F := Ideal) g h.val h.isLt (blkW D.x b i) x10 x11 x12 (queries (blkN D.xs b i))

theorem load_q (h : Fin 16) (y : S1x256x128.Idx) : (L₀ D g b i x10 x11 x12 h).q y = (tiles D b i h).q y := by
  refine Eq.trans (b := blkW D.x b i (ix3 (0 : Fin 1) (y 1) (col h (y 2)))) ?_ rfl
  show win (blkW D.x b i) ![0, 0, headW h.val] ![1, 256, 128] _ y = _
  refine win_apply _ _ _ _ _ _ ?_
  refine three_coords ?_ ?_ ?_
  · show 0 = 0 + (y 0).val
    have : (y 0).val < 1 := (y 0).isLt
    omega
  · exact (Nat.zero_add _).symm
  · show 128 * h.val + (y 2).val = headW h.val + (y 2).val
    rw [headW_eq _ h.isLt]

theorem load_a (h : Fin 16) (s : Fin 2) (y : S1x1x128.Idx) : (L₀ D g b i x10 x11 x12 h).a s y = (tiles D b i h).a s y := by
  refine Eq.trans (b := queries (blkN D.xs b i) (ix3 h (0 : Fin 1) (part s (y 2)))) ?_ rfl
  show win (queries (blkN D.xs b i)) ![headN h.val, 0, 128 * s.val] ![1, 1, 128] _ y = _
  refine win_apply _ _ _ _ _ _ ?_
  refine three_coords ?_ ?_ ?_
  · show h.val = headN h.val + (y 0).val
    have : (y 0).val < 1 := (y 0).isLt
    rw [headN_eq _ h.isLt]
    omega
  · show 0 = 0 + (y 1).val
    have : (y 1).val < 1 := (y 1).isLt
    omega
  · rfl

include hi hn hni

theorem slot_back (d : ℕ) (hd : d < n) : slotW g d = (slotOf (back i d)).val ∧ (back i d).val ≤ i.val ∧ i.val < (back i d).val + 5 := by
  rw [slotW_eq, hi]
  refine ⟨?_, ?_, ?_⟩
  · show _ = (i.val - d) % 5
    omega
  · show i.val - d ≤ i.val
    omega
  · show i.val < i.val - d + 5
    omega

include hr

theorem load_k (h : Fin 16) (d : ℕ) (hd : d < n) (y : S1x256x128.Idx) : (L₀ D g b i x10 x11 x12 h).k d y = (tiles D b i h).k d y := by
  obtain ⟨e, p1, p2⟩ := slot_back g i hi n hn hni d hd
  refine (win_apply _ _ _ _ _ (ix3 (slotOf (back i d)) (y 1) (col h (y 2))) ?_).trans ((hr (back i d) p1 p2 (y 1)).1 _)
  refine three_coords ?_ ?_ ?_
  · show (slotOf (back i d)).val = slotW g d + (y 0).val
    have : (y 0).val < 1 := (y 0).isLt
    omega
  · exact (Nat.zero_add _).symm
  · show 128 * h.val + (y 2).val = headW h.val + (y 2).val
    rw [headW_eq _ h.isLt]

theorem load_v (h : Fin 16) (d : ℕ) (hd : d < n) (y : S1x128x256.Idx) : (L₀ D g b i x10 x11 x12 h).v d y = (tiles D b i h).v d y := by
  obtain ⟨e, p1, p2⟩ := slot_back g i hi n hn hni d hd
  refine (win_apply _ _ _ _ _ (ix3 (slotOf (back i d)) (col h (y 1)) (y 2)) ?_).trans (((hr (back i d) p1 p2 (y 2)).2.1 _).trans ?_)
  · refine three_coords ?_ ?_ ?_
    · show (slotOf (back i d)).val = slotW g d + (y 0).val
      have : (y 0).val < 1 := (y 0).isLt
      omega
    · show 128 * h.val + (y 1).val = headW h.val + (y 1).val
      rw [headW_eq _ h.isLt]
    · exact (Nat.zero_add _).symm
  · exact congrArg (fun h' => D.v (ix3 b (pos (back i d) (y 2)) (col h (y 1))) * D.vs (ix3 b (pos (back i d) (y 2)) h')) (headOf_col h (y 1))

theorem load_ks (h : Fin 16) (d : ℕ) (hd : d < n) (r : Fin 2) (y : S1x1x128x128.Idx) :
    (L₀ D g b i x10 x11 x12 h).ks d r y = (tiles D b i h).ks d r y := by
  obtain ⟨e, p1, p2⟩ := slot_back g i hi n hn hni d hd
  refine (win_apply _ _ _ _ _ (ix4 (slotOf (back i d)) h (part r (y 2)) (y 3)) ?_).trans ((hr (back i d) p1 p2 (part r (y 2))).2.2 _ _)
  refine four_coords ?_ ?_ ?_ ?_
  · show (slotOf (back i d)).val = slotW g d + (y 0).val
    have : (y 0).val < 1 := (y 0).isLt
    omega
  · show h.val = headN h.val + (y 1).val
    have : (y 1).val < 1 := (y 1).isLt
    rw [headN_eq _ h.isLt]
    omega
  · rfl
  · exact (Nat.zero_add _).symm

omit hi hn hni hr

include hxs

theorem tiles_A_pos (h : Fin 16) (q : Fin 256) : 0 < A (tiles D b i h) q := by
  refine EReal.mul_pos (hxs _) ?_
  refine EReal.coe_pos.2 ?_
  have := Real.log_pos (show (1 : ℝ) < 2 by norm_num)
  positivity

theorem loads_A_pos (h : Fin 16) (q : Fin 256) : 0 < A (L₀ D g b i x10 x11 x12 h) q := by
  unfold A
  rw [load_a]
  exact tiles_A_pos D b i hxs h q

include hi hn hni hr

/-- The heads that a grid point computes. -/
theorem heads_eq (r : Fin 2048) (q : Fin 256) :
    headsV g n (blkW D.x b i) x10 x11 x12 (queries (blkN D.xs b i)) (ix2 r q) = O (tiles D b i (headOf r)) n n (inHead r) q := by
  refine (out_apply (L₀ D g b i x10 x11 x12 (headOf r)) (loads_A_pos D g b i x10 x11 x12 hxs _) n hn (inHead r) q).trans ?_
  exact O_congr n (load_q D g b i x10 x11 x12 _) (load_a D g b i x10 x11 x12 _)
    (load_k D g b i hi x10 x11 x12 hr n hn hni _) (load_ks D g b i hi x10 x11 x12 hr n hn hni _) (load_v D g b i hi x10 x11 x12 hr n hn hni _) _ _

/-- The largest magnitudes that it computes. -/
theorem peaks_eq (h : Fin 16) (q : Fin 256) :
    peaksV g n (blkW D.x b i) x10 x11 x12 (queries (blkN D.xs b i)) (ix3 h (0 : Fin 1) q)
      = Finset.univ.sup fun c : Fin 128 => max (O (tiles D b i h) n n c q) (-O (tiles D b i h) n n c q) := by
  refine (peak_apply (L₀ D g b i x10 x11 x12 h) (loads_A_pos D g b i x10 x11 x12 hxs _) n hn q).trans ?_
  refine Finset.sup_congr rfl fun c _ => ?_
  rw [O_congr n (load_q D g b i x10 x11 x12 h) (load_a D g b i x10 x11 x12 h)
    (load_k D g b i hi x10 x11 x12 hr n hn hni h) (load_ks D g b i hi x10 x11 x12 hr n hn hni h) (load_v D g b i hi x10 x11 x12 hr n hn hni h)]

end point

end Cert.KernelIdeal.Proof

end
-- ==== Proof.V.Scale.lean ====
/- The scale of a query: the search for its exponent finds the floor of a logarithm. -/
module

public import proofs.«01_k».proof.Proof.V.Reads

@[expose] public section

set_option maxRecDepth 16384

noncomputable section

namespace Cert.KernelIdeal.Proof

open Cert.KernelIdeal.Gen
open Idealize.ShloMosaic Idealize.ShloMosaic.TcCoe Idealize.ShloMosaic.ValueIdx

/-- The float whose exponent field is `n` and whose other bits are zero. -/
def thr (n : ℕ) : EReal := Ideal.ieee 8 23 (BitVec.ofNat 32 n <<< (23 : ℕ))

theorem thr_bits (n : ℕ) : Ideal.ofBits .f32 (BitVec.ofNat 32 n <<< (23 : ℕ)) = thr n := rfl

theorem thr_fields : ∀ n : Fin 256, (BitVec.ofNat 32 n.val <<< (23 : ℕ)).extractLsb' 31 1 = 0#1
    ∧ ((BitVec.ofNat 32 n.val <<< (23 : ℕ)).extractLsb' 23 8).toNat = n.val
    ∧ ((BitVec.ofNat 32 n.val <<< (23 : ℕ)).extractLsb' 0 23).toNat = 0 := by
  decide +kernel

theorem thr_zero : thr 0 = 0 := by
  obtain ⟨h1, h2, h3⟩ := thr_fields 0
  unfold thr Ideal.ieee
  simp only [Fin.val_zero] at h1 h2 h3
  simp [h1, h2, h3]

theorem thr_eq (n : ℕ) (h0 : 1 ≤ n) (h1 : n ≤ 254) : thr n = (((2 : ℝ) ^ ((n : ℤ) - 127) : ℝ) : EReal) := by
  obtain ⟨p1, p2, p3⟩ := thr_fields ⟨n, by omega⟩
  unfold thr Ideal.ieee
  dsimp only at p1 p2 p3 ⊢
  rw [p1, p2, p3, if_neg (by omega), if_neg (by omega), EReal.coe_eq_coe_iff]
  have : ((n : ℤ) - 127) = 23 + ((n : ℤ) - (2 ^ (8 - 1) - 1) - 23) := by norm_num
  rw [this, zpow_add₀ (by norm_num)]
  norm_num

theorem thr_mono {m n : ℕ} (hm : 1 ≤ m) (hmn : m ≤ n) (hn : n ≤ 254) : thr m ≤ thr n := by
  rw [thr_eq m hm (by omega), thr_eq n (by omega) hn, EReal.coe_le_coe_iff]
  exact zpow_le_zpow_right₀ (by norm_num) (by omega)

/-- One step of the search: keep the exponent, or raise it by `s`. -/
def rise (r : EReal) (s : ℕ) (b : BitVec 32) : BitVec 32 :=
  Scalar.select (Ideal.cmp .olt r (Ideal.ofBits .f32 ((b + BitVec.ofNat 32 s) <<< (23 : ℕ)))) b (b + BitVec.ofNat 32 s)

theorem rise_spec (r : EReal) (s n : ℕ) (hs : n + 2 * s ≤ 256) (h0 : 0 < s) (hl : thr n ≤ r) (hu : n + 2 * s ≤ 255 → r < thr (n + 2 * s)) :
    ∃ n', n' + s ≤ 256 ∧ rise r s (BitVec.ofNat 32 n) = BitVec.ofNat 32 n' ∧ thr n' ≤ r ∧ (n' + s ≤ 255 → r < thr (n' + s)) := by
  have e : BitVec.ofNat 32 n + BitVec.ofNat 32 s = BitVec.ofNat 32 (n + s) := (BitVec.ofNat_add _ _).symm
  unfold rise
  rw [e, thr_bits]
  by_cases h : r < thr (n + s)
  · exact ⟨n, by omega, by simp [Ideal.cmp, h, Scalar.select], hl, fun _ => h⟩
  · refine ⟨n + s, by omega, by simp [Ideal.cmp, h, Scalar.select], not_lt.1 h, fun h' => ?_⟩
    have := hu (by omega)
    rwa [show n + s + s = n + 2 * s by omega]

/-- The search for the exponent. -/
def search (r : EReal) : BitVec 32 :=
  rise r 1 (rise r 2 (rise r 4 (rise r 8 (rise r 16 (rise r 32 (rise r 64 (rise r 128 0#32)))))))

theorem search_spec (r : EReal) (h0 : 0 ≤ r) (h1 : r < thr 253) :
    ∃ n, n ≤ 252 ∧ search r = BitVec.ofNat 32 n ∧ thr n ≤ r ∧ r < thr (n + 1) := by
  obtain ⟨n1, a1, e1, l1, u1⟩ := rise_spec r 128 0 (by norm_num) (by norm_num) (thr_zero.trans_le h0) (by norm_num)
  obtain ⟨n2, a2, e2, l2, u2⟩ := rise_spec r 64 n1 a1 (by norm_num) l1 u1
  obtain ⟨n3, a3, e3, l3, u3⟩ := rise_spec r 32 n2 a2 (by norm_num) l2 u2
  obtain ⟨n4, a4, e4, l4, u4⟩ := rise_spec r 16 n3 a3 (by norm_num) l3 u3
  obtain ⟨n5, a5, e5, l5, u5⟩ := rise_spec r 8 n4 a4 (by norm_num) l4 u4
  obtain ⟨n6, a6, e6, l6, u6⟩ := rise_spec r 4 n5 a5 (by norm_num) l5 u5
  obtain ⟨n7, a7, e7, l7, u7⟩ := rise_spec r 2 n6 a6 (by norm_num) l6 u6
  obtain ⟨n8, a8, e8, l8, u8⟩ := rise_spec r 1 n7 a7 (by norm_num) l7 u7
  have hn : n8 ≤ 252 := by
    by_contra hc
    by_cases h255 : n8 = 255
    · subst h255
      have t : thr 255 = ⊤ := by
        obtain ⟨p1, p2, p3⟩ := thr_fields 255
        have hv : (255 : Fin 256).val = 255 := rfl
        rw [hv] at p1 p2 p3
        unfold thr Ideal.ieee
        simp [p1, p2, p3]
      rw [t] at l8
      exact absurd (l8.trans_lt h1) (by simp)
    · exact absurd ((thr_mono (by norm_num) (by omega) (by omega)).trans l8) (not_le.2 h1)
  refine ⟨n8, hn, ?_, l8, u8 (by omega)⟩
  unfold search
  rw [show (0#32) = BitVec.ofNat 32 0 from rfl, e1, e2, e3, e4, e5, e6, e7, e8]

/-- The exponent's word. -/
def expoW (r : EReal) : BitVec 32 := Scalar.select (Ideal.cmp .oeq r 0) 0#32 (search r - 126#32)

/-- The exponent. -/
def expo (r : EReal) : EReal :=
  if r = 0 then 0 else max (Ideal.liftRound Int.floor (Ideal.div (Ideal.log r) ((Real.log 2 : ℝ) : EReal)) + 1) ((-126 : ℝ) : EReal)

theorem exp2_int (e : ℤ) : Ideal.exp2 ((e : ℝ) : EReal) = (((2 : ℝ) ^ e : ℝ) : EReal) := by
  rw [Ideal.exp2_coe]
  congr 1
  exact Real.rpow_intCast 2 e

theorem floor_log (x : ℝ) (hx : 0 < x) (e : ℤ) (h0 : (2 : ℝ) ^ e ≤ x) (h1 : x < 2 ^ (e + 1)) : ⌊Real.log x / Real.log 2⌋ = e := by
  have hl := Real.log_pos (show (1 : ℝ) < 2 by norm_num)
  rw [Int.floor_eq_iff, le_div_iff₀ hl, div_lt_iff₀ hl, ← Real.log_zpow]
  have e1 : ((e : ℝ) + 1) * Real.log 2 = Real.log (2 ^ (e + 1)) := by
    rw [Real.log_zpow]
    push_cast
    ring
  rw [e1]
  exact ⟨Real.log_le_log (by positivity) h0, Real.log_lt_log hx h1⟩

/-- What the search finds is the reference's exponent. -/
theorem expo_spec (x : ℝ) (h0 : 0 ≤ x) (h1 : x < 2 ^ 126) :
    ∃ e : ℤ, expo (x : EReal) = ((e : ℝ) : EReal)
      ∧ Ideal.ofBits .f32 ((expoW (x : EReal) + 127#32) <<< (23 : ℕ)) = (((2 : ℝ) ^ e : ℝ) : EReal)
      ∧ Ideal.ofBits .f32 ((0#32 - expoW (x : EReal) + 127#32) <<< (23 : ℕ)) = (((2 : ℝ) ^ (-e) : ℝ) : EReal) := by
  by_cases hx : x = 0
  · subst hx
    refine ⟨0, ?_, ?_, ?_⟩
    · simp [expo]
    · have : expoW ((0 : ℝ) : EReal) = 0#32 := by simp [expoW, Ideal.cmp, Scalar.select]
      rw [this]
      exact (thr_eq 127 (by norm_num) (by norm_num)).trans (by norm_num)
    · have : expoW ((0 : ℝ) : EReal) = 0#32 := by simp [expoW, Ideal.cmp, Scalar.select]
      rw [this]
      exact (thr_eq 127 (by norm_num) (by norm_num)).trans (by norm_num)
  have hpos : 0 < x := lt_of_le_of_ne h0 (Ne.symm hx)
  obtain ⟨n, hn, es, lo, hi⟩ := search_spec (x : EReal) (EReal.coe_nonneg.2 h0) (by
    rw [thr_eq 253 (by norm_num) (by norm_num), EReal.coe_lt_coe_iff]
    exact h1.trans_eq (by norm_num))
  have hi' : x < (2 : ℝ) ^ ((n : ℤ) - 126) := by
    rw [thr_eq (n + 1) (by omega) (by omega), EReal.coe_lt_coe_iff] at hi
    refine hi.trans_eq ?_
    congr 1
    push_cast
    ring
  have hw : expoW (x : EReal) = BitVec.ofNat 32 n - 126#32 := by
    unfold expoW
    rw [es]
    simp [Ideal.cmp, Scalar.select, hx]
  refine ⟨(n : ℤ) - 126, ?_, ?_, ?_⟩
  · have hl := Real.log_pos (show (1 : ℝ) < 2 by norm_num)
    have hf : Ideal.liftRound Int.floor (Ideal.div (Ideal.log (x : EReal)) ((Real.log 2 : ℝ) : EReal)) = ((⌊Real.log x / Real.log 2⌋ : ℝ) : EReal) := by
      rw [Ideal.log_coe, if_neg (not_le.2 hpos)]
      unfold Ideal.div
      rw [if_neg (by exact_mod_cast hl.ne'), ← EReal.coe_inv, ← EReal.coe_mul, ← div_eq_mul_inv]
      rfl
    unfold expo
    rw [if_neg (by exact_mod_cast hx), hf]
    have hm : max ((⌊Real.log x / Real.log 2⌋ : ℝ) + 1) (-126 : ℝ) = (((n : ℤ) - 126 : ℤ) : ℝ) := by
      rcases Nat.eq_zero_or_pos n with h | h
      · subst h
        have : ⌊Real.log x / Real.log 2⌋ < -126 := by
          rw [Int.floor_lt, div_lt_iff₀ hl]
          have := Real.log_lt_log hpos hi'
          rw [Real.log_zpow] at this
          refine this.trans_eq ?_
          push_cast
          ring
        have h2 : (⌊Real.log x / Real.log 2⌋ : ℝ) + 1 ≤ -126 := by exact_mod_cast this
        rw [max_eq_right h2]
        norm_num
      · rw [thr_eq n h (by omega), EReal.coe_le_coe_iff] at lo
        rw [floor_log x hpos ((n : ℤ) - 127) lo (hi'.trans_eq (by congr 1; ring)), max_eq_left]
        · push_cast
          ring
        · have : (1 : ℝ) ≤ n := by exact_mod_cast h
          push_cast
          linarith
    rw [← hm]
    push_cast
    rfl
  · rw [hw, show BitVec.ofNat 32 n - 126#32 + 127#32 = BitVec.ofNat 32 (n + 1) by bv_omega]
    refine (thr_eq (n + 1) (by omega) (by omega)).trans ?_
    congr 2
    push_cast
    ring
  · rw [hw, show 0#32 - (BitVec.ofNat 32 n - 126#32) + 127#32 = BitVec.ofNat 32 (253 - n) by bv_omega]
    refine (thr_eq (253 - n) (by omega) (by omega)).trans ?_
    congr 2
    rw [Nat.cast_sub (by omega)]
    push_cast
    ring

/-! ## The kernel's scale -/

/-- One step of the search for all the queries. -/
def riseV (r : FVec Ideal S1x256 .f32) (s : BitVec 32) (b : IVec S1x256 32) : IVec S1x256 32 :=
  select (cmpf .olt r (bitcastToFloat .f32 (shli (addi b (broadcast S1x256 s)) (broadcast S1x256 23#32)))) b (addi b (broadcast S1x256 s))

theorem riseV_apply (r : FVec Ideal S1x256 .f32) (s : ℕ) (b : IVec S1x256 32) (y : S1x256.Idx) :
    riseV r (BitVec.ofNat 32 s) b y = rise (r y) s (b y) := rfl

theorem search_vec (r : FVec Ideal S1x256 .f32) :
    k0_pay481 (F := Ideal) r k0_pay478 k0_pay479 k0_pay480
      = riseV r 2#32 (riseV r 4#32 (riseV r 8#32 (riseV r 16#32 (riseV r 32#32 (riseV r 64#32 (riseV r 128#32 k0_pay478)))))) := rfl

theorem expo_vec (r : FVec Ideal S1x256 .f32) (y : S1x256.Idx) :
    k0_pay483 (F := Ideal) r (k0_pay481 r k0_pay478 k0_pay479 k0_pay480) (k0_pay482 r k0_pay478 k0_pay479 k0_pay480) 23#32 y = expoW (r y) := by
  have hz : Ideal.ofBits .f32 0x00000000#32 = 0 := thr_zero
  unfold k0_pay482 expoW search
  rw [search_vec]
  generalize hb : riseV r 2#32 _ = b
  have hb' : b y = rise (r y) 2 (rise (r y) 4 (rise (r y) 8 (rise (r y) 16 (rise (r y) 32 (rise (r y) 64 (rise (r y) 128 0#32)))))) := by
    rw [← hb]
    simp only [riseV_apply]
    rfl
  rw [← hb', ← hz]
  rfl

theorem scaleV_apply (r : FVec Ideal S1x256 .f32) (q : Fin 256) (x : ℝ) (hx : r (ix2 (0 : Fin 1) q) = (x : EReal)) (h0 : 0 ≤ x) (h1 : x < 2 ^ 126) :
    scaleV r (ix3 (0 : Fin 1) (0 : Fin 1) q) = Ideal.exp2 (expo (x : EReal)) := by
  obtain ⟨e, p1, p2, p3⟩ := expo_spec x h0 h1
  unfold scaleV k0_pay484
  rw [shapeCast_ab_1ab_apply, p1, exp2_int, ← p2, ← hx, ← expo_vec]
  rfl

theorem downV_apply (r : FVec Ideal S1x256 .f32) (q : Fin 256) (x : ℝ) (hx : r (ix2 (0 : Fin 1) q) = (x : EReal)) (h0 : 0 ≤ x) (h1 : x < 2 ^ 126) :
    downV r (ix2 (0 : Fin 1) q) = Ideal.exp2 (0 - expo (x : EReal)) := by
  obtain ⟨e, p1, p2, p3⟩ := expo_spec x h0 h1
  unfold downV k0_pay485
  have : (0 : EReal) - ((e : ℝ) : EReal) = (((-e : ℤ) : ℝ) : EReal) := by
    rw [zero_sub, ← EReal.coe_neg]
    push_cast
    rfl
  rw [p1, this, exp2_int, ← p3, ← hx, ← expo_vec]
  rfl

theorem ratio_apply (z : S16x1x256.Idx → EReal) (q : Fin 256) :
    ratio (F := Ideal) z (ix2 (0 : Fin 1) q) = (Finset.univ.sup fun h : Fin 16 => z (ix3 h (0 : Fin 1) q)) * Ideal.ofBits .f32 0x3B124925#32 := by
  unfold ratio k0_pay477
  dsimp only
  rw [mulf_apply]
  congr 1
  refine (Ideal.multiReduction_maximumf_single _ _ _ _ _ _).trans ?_
  show Finset.fold max (Ideal.ofBits .f32 0xFF800000#32) _ _ = _
  rw [neg_inf]
  refine Finset.sup_congr rfl fun h _ => ?_
  exact win_apply _ _ _ _ _ _ (three_coords (Nat.zero_add _).symm (Nat.zero_add _).symm (Nat.zero_add _).symm)

theorem codeV_apply (z14 : S2048x256.Idx → EReal) (z15 : S16x1x256.Idx → EReal) (h : ℕ) (hh : h < 16) (q : Fin 256) (c : Fin 128) :
    codeV (F := Ideal) z14 z15 h hh (ix3 (0 : Fin 1) q c)
      = min ((448 : ℝ) : EReal) (max ((-448 : ℝ) : EReal) (z14 (ix2 (⟨128 * h + c.val, by omega⟩ : Fin 2048) q) * (downV (F := Ideal) (ratio z15) (ix2 (0 : Fin 1) q) : EReal))) := by
  have e1 : Ideal.ofBits .f32 0xC3E00000#32 = ((-448 : ℝ) : EReal) := by
    simp [Ideal.ofBits, Ideal.ieee, -EReal.coe_mul]; norm_num
  have e2 : Ideal.ofBits .f32 0x43E00000#32 = ((448 : ℝ) : EReal) := by
    simp [Ideal.ofBits, Ideal.ieee, -EReal.coe_mul]; norm_num
  unfold codeV k0_pay499
  dsimp only
  rw [shapeCast_ab_1ab_apply, truncf_apply, transpose_ix2_apply, minimumf_apply, maximumf_apply, mulf_apply, broadcast_apply, broadcast_apply,
    broadcastTo_1b_ab_apply]
  refine congrArg₂ min e2 (congrArg₂ max e1 (congrArg (· * _) ?_))
  exact win_apply _ _ _ _ _ _ (two_coords rfl (Nat.zero_add _).symm)

end Cert.KernelIdeal.Proof

end
-- ==== Proof.V.Values.lean ====
/- The two result arrays as functions of the six argument arrays, and that a grid point leaves its blocks of them. -/
module

public import proofs.«01_k».proof.Proof.V.Ring
public import proofs.«01_k».proof.Proof.V.Scale

@[expose] public section

set_option maxRecDepth 16384

noncomputable section

namespace Cert.KernelIdeal.Proof

open Cert.KernelIdeal.Gen
open Idealize.ShloMosaic Idealize.ShloMosaic.TcCoe Idealize.ShloMosaic.ValueIdx

/-- The codes that are stored, from the heads and the largest magnitudes. -/
def codes (z14 : S2048x256.Idx → EReal) (z15 : S16x1x256.Idx → EReal) : S1x256x2048.Idx → EReal :=
  fun y => min ((448 : ℝ) : EReal) (max ((-448 : ℝ) : EReal) (z14 (ix2 (y 2) (y 1)) * (downV (F := Ideal) (ratio z15) (ix2 (0 : Fin 1) (y 1)) : EReal)))

theorem read_codes (v : View sig .tc .vmem S1x256x2048 .fp8e4m3) (f : v.ty.Contents (Elt Ideal)) (z14 : S2048x256.Idx → EReal)
    (z15 : S16x1x256.Idx → EReal) :
    v.read (Elt Ideal) (v.writes (Elt Ideal) f (heads (codeP (F := Ideal) z14 z15))) = codes z14 z15 := by
  funext y
  refine View.read_writes_apply_of_pieces v f (codes z14 z15) (heads (codeP (F := Ideal) z14 z15)) ?_ y ?_
  · intro p hp
    obtain ⟨k, hk, rfl⟩ := (mem_heads _ _).1 hp
    intro x
    obtain ⟨a, q, r, rfl⟩ : ∃ (a : Fin 1) (q : Fin 256) (r : Fin 128), x = ix3 a q r := ⟨x 0, x 1, x 2, eq_ix3 x⟩
    have ha : a = 0 := by omega
    subst ha
    have e1 : (codeP (F := Ideal) z14 z15 k hk).1.emb (ix3 (0 : Fin 1) q r) = ix3 (0 : Fin 1) q (⟨128 * k + r.val, by omega⟩ : Fin 2048) := by
      funext c
      refine Fin.ext ?_
      match c with
      | ⟨0, _⟩ => rfl
      | ⟨1, _⟩ => show 0 + 1 * q.val = q.val; omega
      | ⟨2, _⟩ => show 128 * k + 1 * r.val = 128 * k + r.val; omega
    rw [e1]
    exact codeV_apply z14 z15 k hk q r
  · have h0 : (y 0).val < 1 := (y 0).isLt
    have h1 : (y 1).val < 256 := (y 1).isLt
    have h2 : (y 2).val < 2048 := (y 2).isLt
    refine ⟨codeP (F := Ideal) z14 z15 ((y 2).val / 128) (by omega), (mem_heads _ _).2 ⟨_, _, rfl⟩, ?_⟩
    dsimp only [codeP]
    rw [Rect.mem_set_unit]
    refine three_coords ⟨Nat.zero_le _, ?_⟩ ⟨Nat.zero_le _, ?_⟩ ⟨?_, ?_⟩
    · show (y 0).val < 0 + 1
      omega
    · show (y 1).val < 0 + 256
      omega
    · show 128 * ((y 2).val / 128) ≤ (y 2).val
      omega
    · show (y 2).val < 128 * ((y 2).val / 128) + 128
      omega

theorem read_scale (v : View sig .tc .vmem S1x1x256 .f32) (f : v.ty.Contents (Elt Ideal)) (z15 : S16x1x256.Idx → EReal) :
    v.read (Elt Ideal) (v.writes (Elt Ideal) f [scaleP (F := Ideal) z15]) = scaleV (F := Ideal) (ratio z15) := by
  funext y
  refine View.read_writes_cons_unit_of_mem v f _ _ [] y y rfl ?_
  exact three_coords (Nat.zero_add _).symm (Nat.zero_add _).symm (Nat.zero_add _).symm

/-- How many blocks a block of queries reads: its own and those before it, at most five. -/
def seen (i : Fin 64) : ℕ := min (i.val + 1) 5

/-- The block of a position. -/
def blockOf (t : Fin 16384) : Fin 64 := ⟨t.val / 256, by omega⟩

/-- Its place in the block. -/
def inBlock (t : Fin 16384) : Fin 256 := ⟨t.val % 256, by omega⟩

theorem blockOf_pos (i : Fin 64) (p : Fin 256) : blockOf (pos i p) = i := Fin.ext (by show (256 * i.val + p.val) / 256 = i.val; omega)

theorem inBlock_pos (i : Fin 64) (p : Fin 256) : inBlock (pos i p) = p := Fin.ext (by show (256 * i.val + p.val) % 256 = p.val; omega)

theorem pos_blockOf (t : Fin 16384) : pos (blockOf t) (inBlock t) = t := Fin.ext (by show 256 * (t.val / 256) + t.val % 256 = t.val; omega)

variable (D : Arrays)

/-- The attention of head `h` at a query, element `c`. -/
def attn (b : Fin 4) (i : Fin 64) (q : Fin 256) (h : Fin 16) (c : Fin 128) : EReal := O (tiles D b i h) (seen i) (seen i) c q

/-- The largest magnitude at a query over 448. -/
def fill (b : Fin 4) (i : Fin 64) (q : Fin 256) : EReal :=
  (Finset.univ.sup fun h : Fin 16 => Finset.univ.sup fun c : Fin 128 => max (attn D b i q h c) (-attn D b i q h c)) * Ideal.ofBits .f32 0x3B124925#32

/-- The codes of the result. -/
def kCodes : S4x16384x2048.Idx → EReal := fun y =>
  min ((448 : ℝ) : EReal) (max ((-448 : ℝ) : EReal) (attn D (y 0) (blockOf (y 1)) (inBlock (y 1)) (headOf (y 2)) (inHead (y 2))
    * Ideal.exp2 (0 - expo (fill D (y 0) (blockOf (y 1)) (inBlock (y 1))))))

/-- The scales of the result. -/
def kScales : S4x1x16384.Idx → EReal := fun y => Ideal.exp2 (expo (fill D (y 0) (blockOf (y 2)) (inBlock (y 2))))

section point

variable (g : grid0.Coords) (b : Fin 4) (i : Fin 64) (hi : (g 1).val = i.val) (x10 : S5x256x2048.Idx → EReal)
  (x11 : S5x2048x256.Idx → EReal) (x12 : S5x16x256x128.Idx → EReal) (hr : RingAt D b i x10 x11 x12)
  (hxs : ∀ y, 0 < D.xs y) (hR : ∀ b i q, ∃ x : ℝ, fill D b i q = (x : EReal) ∧ 0 ≤ x ∧ x < 2 ^ 126)

/-- The largest magnitudes that the point leaves. -/
abbrev pk : S16x1x256.Idx → EReal := peaksV g (seen i) (blkW D.x b i) x10 x11 x12 (queries (blkN D.xs b i))

include hi hr hxs

theorem ratio_eq (q : Fin 256) : ratio (F := Ideal) (pk D g b i x10 x11 x12) (ix2 (0 : Fin 1) q) = fill D b i q := by
  rw [ratio_apply]
  unfold fill attn
  simp only [peaks_eq D g b i hi x10 x11 x12 hr (seen i) (Nat.min_le_right _ _) (Nat.min_le_left _ _) hxs]

include hR

theorem codes_eq (y : S1x256x2048.Idx) :
    codes (headsV g (seen i) (blkW D.x b i) x10 x11 x12 (queries (blkN D.xs b i))) (pk D g b i x10 x11 x12) y = blkW (kCodes D) b i y := by
  obtain ⟨a, q, r, rfl⟩ : ∃ (a : Fin 1) (q : Fin 256) (r : Fin 2048), y = ix3 a q r := ⟨y 0, y 1, y 2, eq_ix3 y⟩
  obtain ⟨x, hx, p0, p1⟩ := hR b i q
  have e := downV_apply (ratio (F := Ideal) (pk D g b i x10 x11 x12)) q x ((ratio_eq D g b i hi x10 x11 x12 hr hxs q).trans hx) p0 p1
  show min _ (max _ (headsV g (seen i) (blkW D.x b i) x10 x11 x12 (queries (blkN D.xs b i)) (ix2 r q)
    * (downV (F := Ideal) (ratio (pk D g b i x10 x11 x12)) (ix2 (0 : Fin 1) q) : EReal))) = min _ (max _ (attn D b (blockOf (pos i q)) (inBlock (pos i q)) (headOf r) (inHead r)
    * Ideal.exp2 (0 - expo (fill D b (blockOf (pos i q)) (inBlock (pos i q))))))
  rw [e, blockOf_pos, inBlock_pos, hx, heads_eq D g b i hi x10 x11 x12 hr (seen i) (Nat.min_le_right _ _) (Nat.min_le_left _ _) hxs r q]
  rfl

theorem scales_eq (y : S1x1x256.Idx) :
    scaleV (F := Ideal) (ratio (pk D g b i x10 x11 x12)) y = kScales D (ix3 b (0 : Fin 1) (pos i (y 2))) := by
  obtain ⟨a, a', q, rfl⟩ : ∃ (a : Fin 1) (a' : Fin 1) (q : Fin 256), y = ix3 a a' q := ⟨y 0, y 1, y 2, eq_ix3 y⟩
  have ha : a = 0 := by omega
  have ha' : a' = 0 := by omega
  subst ha ha'
  obtain ⟨x, hx, p0, p1⟩ := hR b i q
  refine (scaleV_apply (ratio (F := Ideal) (pk D g b i x10 x11 x12)) q x ((ratio_eq D g b i hi x10 x11 x12 hr hxs q).trans hx) p0 p1).trans ?_
  show _ = Ideal.exp2 (expo (fill D b (blockOf (pos i q)) (inBlock (pos i q))))
  rw [blockOf_pos, inBlock_pos, hx]

end point

/-- What a grid point leaves in its windows and in the rings, when it finds its blocks in the windows and the blocks
    before its own in the rings. -/
theorem point_values (g : grid0.Coords) (b : Fin 4) (i : Fin 64) (hi : (g 1).val = i.val) (n : ℕ) (hn : n = seen i)
    (hxs : ∀ y, 0 < D.xs y) (hR : ∀ b i q, ∃ x : ℝ, fill D b i q = (x : EReal) ∧ 0 ≤ x ∧ x < 2 ^ 126)
    (a2 : View sig .tc .vmem S1x256x2048 .fp8e4m3) (a3 : View sig .tc .vmem S1x256x16 .f32)
    (a4 : View sig .tc .vmem S1x256x2048 .fp8e4m3) (a5 : View sig .tc .vmem S1x256x16 .f32)
    (a6 : View sig .tc .vmem S1x256x2048 .fp8e4m3) (a7 : View sig .tc .vmem S1x256x16 .f32)
    (a8 : View sig .tc .vmem S1x256x2048 .fp8e4m3) (a9 : View sig .tc .vmem S1x1x256 .f32)
    (a10 : View sig .tc .vmem S5x256x2048 .fp8e4m3) (a11 : View sig .tc .vmem S5x2048x256 .bf16)
    (a12 : View sig .tc .vmem S5x16x256x128 .f32) (a14 : View sig .tc .vmem S2048x256 .f32)
    (a15 : View sig .tc .vmem S16x1x256 .f32) (a16 : View sig .tc .vmem S16x1x256 .f32)
    (X2 : a2.ty.Contents (Elt Ideal)) (X3 : a3.ty.Contents (Elt Ideal)) (X4 : a4.ty.Contents (Elt Ideal)) (X5 : a5.ty.Contents (Elt Ideal))
    (X6 : a6.ty.Contents (Elt Ideal)) (X7 : a7.ty.Contents (Elt Ideal)) (G8 Y8 : a8.ty.Contents (Elt Ideal)) (G9 Y9 : a9.ty.Contents (Elt Ideal))
    (G10 Y10 : a10.ty.Contents (Elt Ideal)) (G11 Y11 : a11.ty.Contents (Elt Ideal)) (G12 Y12 : a12.ty.Contents (Elt Ideal))
    (G14 : a14.ty.Contents (Elt Ideal)) (G15 : a15.ty.Contents (Elt Ideal)) (G16 : a16.ty.Contents (Elt Ideal))
    (e2 : a2.read (Elt Ideal) X2 = blkW D.x b i) (e3 : a3.read (Elt Ideal) X3 = blkN D.xs b i)
    (e4 : a4.read (Elt Ideal) X4 = blkW D.k b i) (e5 : a5.read (Elt Ideal) X5 = blkN D.ks b i)
    (e6 : a6.read (Elt Ideal) X6 = blkW D.v b i) (e7 : a7.read (Elt Ideal) X7 = blkN D.vs b i)
    (hring : ∀ j : Fin 64, j.val + 1 = i.val → RingAt D b j (a10.read (Elt Ideal) G10) (a11.read (Elt Ideal) G11) (a12.read (Elt Ideal) G12))
    (hY : Y8 = a8.writes (Elt Ideal) G8 (heads (codeP (F := Ideal)
        (a14.read (Elt Ideal) (a14.writes (Elt Ideal) G14 (outL (F := Ideal) g n (a2.read (Elt Ideal) X2) (a10.read (Elt Ideal) (a10.writes (Elt Ideal) G10 [keyP (F := Ideal) g (a4.read (Elt Ideal) X4)])) (a11.read (Elt Ideal) (a11.writes (Elt Ideal) G11 (heads (valP (F := Ideal) g (a6.read (Elt Ideal) X6) (a7.read (Elt Ideal) X7))))) (a12.read (Elt Ideal) (a12.writes (Elt Ideal) G12 (heads (sclP (F := Ideal) g (a5.read (Elt Ideal) X5))))) (a16.read (Elt Ideal) (a16.writes (Elt Ideal) G16 (heads (queP (F := Ideal) (a3.read (Elt Ideal) X3))))) 16)))
        (a15.read (Elt Ideal) (a15.writes (Elt Ideal) G15 (peakL (F := Ideal) g n (a2.read (Elt Ideal) X2) (a10.read (Elt Ideal) (a10.writes (Elt Ideal) G10 [keyP (F := Ideal) g (a4.read (Elt Ideal) X4)])) (a11.read (Elt Ideal) (a11.writes (Elt Ideal) G11 (heads (valP (F := Ideal) g (a6.read (Elt Ideal) X6) (a7.read (Elt Ideal) X7))))) (a12.read (Elt Ideal) (a12.writes (Elt Ideal) G12 (heads (sclP (F := Ideal) g (a5.read (Elt Ideal) X5))))) (a16.read (Elt Ideal) (a16.writes (Elt Ideal) G16 (heads (queP (F := Ideal) (a3.read (Elt Ideal) X3))))) 16))))) ∧
      Y9 = a9.writes (Elt Ideal) G9 [scaleP (F := Ideal)
        (a15.read (Elt Ideal) (a15.writes (Elt Ideal) G15 (peakL (F := Ideal) g n (a2.read (Elt Ideal) X2) (a10.read (Elt Ideal) (a10.writes (Elt Ideal) G10 [keyP (F := Ideal) g (a4.read (Elt Ideal) X4)])) (a11.read (Elt Ideal) (a11.writes (Elt Ideal) G11 (heads (valP (F := Ideal) g (a6.read (Elt Ideal) X6) (a7.read (Elt Ideal) X7))))) (a12.read (Elt Ideal) (a12.writes (Elt Ideal) G12 (heads (sclP (F := Ideal) g (a5.read (Elt Ideal) X5))))) (a16.read (Elt Ideal) (a16.writes (Elt Ideal) G16 (heads (queP (F := Ideal) (a3.read (Elt Ideal) X3))))) 16)))] ∧
      Y10 = a10.writes (Elt Ideal) G10 [keyP (F := Ideal) g (a4.read (Elt Ideal) X4)] ∧
      Y11 = a11.writes (Elt Ideal) G11 (heads (valP (F := Ideal) g (a6.read (Elt Ideal) X6) (a7.read (Elt Ideal) X7))) ∧
      Y12 = a12.writes (Elt Ideal) G12 (heads (sclP (F := Ideal) g (a5.read (Elt Ideal) X5)))) :
    a8.read (Elt Ideal) Y8 = blkW (kCodes D) b i ∧ a9.read (Elt Ideal) Y9 = (fun y => kScales D (ix3 b (0 : Fin 1) (pos i (y 2)))) ∧
      RingAt D b i (a10.read (Elt Ideal) Y10) (a11.read (Elt Ideal) Y11) (a12.read (Elt Ideal) Y12) := by
  obtain ⟨y8, y9, y10, y11, y12⟩ := hY
  subst hn
  rw [e2, e3, e4, e5, e6, e7, read_keys, read_vals, read_scls, read_queries, read_outs, read_peaks] at y8
  rw [e2, e3, e4, e5, e6, e7, read_keys, read_vals, read_scls, read_queries, read_peaks] at y9
  have hr := ring_step D g b i hi _ _ _ hring
  rw [y8, y9, y10, y11, y12, e4, e5, e6, e7, read_codes, read_scale, read_keys, read_vals, read_scls]
  exact ⟨funext (codes_eq D g b i hi _ _ _ hr hxs hR), funext (scales_eq D g b i hi _ _ _ hr hxs hR), hr⟩

end Cert.KernelIdeal.Proof

end
-- ==== Proof.V.Step.lean ====
/- The kernel's run at the extended reals: from point to point the rings hold the last five blocks, and every point leaves its
   blocks of the two result arrays. -/
module

public import proofs.«01_k».proof.Proof.KI.Frame
public import proofs.«01_k».proof.Proof.V.Run1
public import proofs.«01_k».proof.Proof.V.Run2
public import proofs.«01_k».proof.Proof.V.Run3
public import proofs.«01_k».proof.Proof.V.Run4
public import proofs.«01_k».proof.Proof.V.Run5
public import proofs.«01_k».proof.Proof.V.Values

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation ΦA)
open Idealize.SL.BI.BIBase Idealize.SL.BI.Laws Idealize.SL.ProofMode Idealize.SL.Sem

local notation "𝕄" => MT nD τ sig Unit (Elt Ideal) ℕ (UR sig nD τ) ℕ

/-- One grid point that finds its blocks in the windows and the blocks before its own in the rings. -/
theorem stepV (𝒱 : Variants) (c : Dev nD) (bd : Option 𝒱.V) (i : grid0.Coords)
  (a2 : Memref sig .tc .vmem S1x256x2048 .fp8e4m3) (h2 : a2.IsWhole)
  (a3 : Memref sig .tc .vmem S1x256x16 .f32) (h3 : a3.IsWhole)
  (a4 : Memref sig .tc .vmem S1x256x2048 .fp8e4m3) (h4 : a4.IsWhole)
  (a5 : Memref sig .tc .vmem S1x256x16 .f32) (h5 : a5.IsWhole)
  (a6 : Memref sig .tc .vmem S1x256x2048 .fp8e4m3) (h6 : a6.IsWhole)
  (a7 : Memref sig .tc .vmem S1x256x16 .f32) (h7 : a7.IsWhole)
  (a8 : Memref sig .tc .vmem S1x256x2048 .fp8e4m3) (h8 : a8.IsWhole)
  (a9 : Memref sig .tc .vmem S1x1x256 .f32) (h9 : a9.IsWhole)
  (a10 : Memref sig .tc .vmem S5x256x2048 .fp8e4m3) (h10 : a10.IsWhole)
  (a11 : Memref sig .tc .vmem S5x2048x256 .bf16) (h11 : a11.IsWhole)
  (a12 : Memref sig .tc .vmem S5x16x256x128 .f32) (h12 : a12.IsWhole)
  (a13 : Memref sig .tc .vmem S5x256x256 .f32) (h13 : a13.IsWhole)
  (a14 : Memref sig .tc .vmem S2048x256 .f32) (h14 : a14.IsWhole)
  (a15 : Memref sig .tc .vmem S16x1x256 .f32) (h15 : a15.IsWhole)
  (a16 : Memref sig .tc .vmem S16x1x256 .f32) (h16 : a16.IsWhole)
  (X2 : BufTy.Contents (Elt Ideal) a2.view.ty) (X3 : BufTy.Contents (Elt Ideal) a3.view.ty)
  (X4 : BufTy.Contents (Elt Ideal) a4.view.ty) (X5 : BufTy.Contents (Elt Ideal) a5.view.ty)
  (X6 : BufTy.Contents (Elt Ideal) a6.view.ty) (X7 : BufTy.Contents (Elt Ideal) a7.view.ty)
  (G8 : BufTy.Contents (Elt Ideal) a8.view.ty) (G9 : BufTy.Contents (Elt Ideal) a9.view.ty)
  (G10 : BufTy.Contents (Elt Ideal) a10.view.ty) (G11 : BufTy.Contents (Elt Ideal) a11.view.ty)
  (G12 : BufTy.Contents (Elt Ideal) a12.view.ty) (G13 : BufTy.Contents (Elt Ideal) a13.view.ty)
  (G14 : BufTy.Contents (Elt Ideal) a14.view.ty) (G15 : BufTy.Contents (Elt Ideal) a15.view.ty)
  (G16 : BufTy.Contents (Elt Ideal) a16.view.ty)
  (D : Arrays) (b : Fin 4) (j : Fin 64) (hj : (i 1).val = j.val) (hxs : ∀ y, 0 < D.xs y)
  (hR : ∀ b i q, ∃ x : ℝ, fill D b i q = (x : EReal) ∧ 0 ≤ x ∧ x < 2 ^ 126)
  (e2 : a2.view.read (Elt Ideal) X2 = blkW D.x b j) (e3 : a3.view.read (Elt Ideal) X3 = blkN D.xs b j)
  (e4 : a4.view.read (Elt Ideal) X4 = blkW D.k b j) (e5 : a5.view.read (Elt Ideal) X5 = blkN D.ks b j)
  (e6 : a6.view.read (Elt Ideal) X6 = blkW D.v b j) (e7 : a7.view.read (Elt Ideal) X7 = blkN D.vs b j)
  (hring : ∀ k : Fin 64, k.val + 1 = j.val → RingAt D b k (a10.view.read (Elt Ideal) G10) (a11.view.read (Elt Ideal) G11) (a12.view.read (Elt Ideal) G12)) :
    ∃ (Y8 : BufTy.Contents (Elt Ideal) a8.view.ty) (Y9 : BufTy.Contents (Elt Ideal) a9.view.ty) (Y10 : BufTy.Contents (Elt Ideal) a10.view.ty) (Y11 : BufTy.Contents (Elt Ideal) a11.view.ty) (Y12 : BufTy.Contents (Elt Ideal) a12.view.ty) (Y13 : BufTy.Contents (Elt Ideal) a13.view.ty) (Y14 : BufTy.Contents (Elt Ideal) a14.view.ty) (Y15 : BufTy.Contents (Elt Ideal) a15.view.ty) (Y16 : BufTy.Contents (Elt Ideal) a16.view.ty),
      (a8.view.read (Elt Ideal) Y8 = blkW (kCodes D) b j ∧ a9.view.read (Elt Ideal) Y9 = (fun y : S1x1x256.Idx => kScales D (ValueIdx.ix3 b (0 : Fin 1) (pos j (y 2)))) ∧
        RingAt D b j (a10.view.read (Elt Ideal) Y10) (a11.view.read (Elt Ideal) Y11) (a12.view.read (Elt Ideal) Y12)) ∧
      ∀ (E : Set ℕ) (K : PUnit → sProp 𝕄),
      iprop(Res (F := Ideal) c a2 a3 a4 a5 a6 a7 a8 a9 a10 a11 a12 a13 a14 a15 a16 X2 X3 X4 X5 X6 X7 G8 G9 G10 G11 G12 G13 G14 G15 G16 ∗
        (Res (F := Ideal) c a2 a3 a4 a5 a6 a7 a8 a9 a10 a11 a12 a13 a14 a15 a16 X2 X3 X4 X5 X6 X7 Y8 Y9 Y10 Y11 Y12 Y13 Y14 Y15 Y16 -∗ K ⟨⟩))
      ⊢ wp frame (wpE (defs₀ (F := Ideal)) 𝒱 (c : Thread nD τ) bd) E (cc0_swa_fp8 (F := Ideal) i a2 h2 a3 h3 a4 h4 a5 h5 a6 h6 a7 h7 a8 h8 a9 h9 a10 h10 a11 h11 a12 h12 a13 h13 a14 h14 a15 h15 a16 h16) K := by
  rcases cond_cases i with ⟨q0, q1, q2, q3, q4, q5⟩ | ⟨q0, q1, q2, q3, q4, q5⟩ | ⟨q0, q1, q2, q3, q4, q5⟩ | ⟨q0, q1, q2, q3, q4, q5⟩ |
    ⟨q0, q1, q2, q3, q4, q5⟩
  · let r := run1 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hv := run1_leaves 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hn : 1 = seen j := by unfold seen; omega
    exact ⟨r.1, r.2.1, r.2.2.1, r.2.2.2.1, r.2.2.2.2.1, r.2.2.2.2.2.1, r.2.2.2.2.2.2.1, r.2.2.2.2.2.2.2.1, r.2.2.2.2.2.2.2.2.1,
      point_values D i b j hj 1 hn hxs hR a2.view a3.view a4.view a5.view a6.view a7.view a8.view a9.view a10.view a11.view a12.view a14.view a15.view a16.view
        X2 X3 X4 X5 X6 X7 G8 _ G9 _ G10 _ G11 _ G12 _ G14 G15 _ e2 e3 e4 e5 e6 e7 hring hv, r.2.2.2.2.2.2.2.2.2⟩
  · let r := run2 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hv := run2_leaves 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hn : 2 = seen j := by unfold seen; omega
    exact ⟨r.1, r.2.1, r.2.2.1, r.2.2.2.1, r.2.2.2.2.1, r.2.2.2.2.2.1, r.2.2.2.2.2.2.1, r.2.2.2.2.2.2.2.1, r.2.2.2.2.2.2.2.2.1,
      point_values D i b j hj 2 hn hxs hR a2.view a3.view a4.view a5.view a6.view a7.view a8.view a9.view a10.view a11.view a12.view a14.view a15.view a16.view
        X2 X3 X4 X5 X6 X7 G8 _ G9 _ G10 _ G11 _ G12 _ G14 G15 _ e2 e3 e4 e5 e6 e7 hring hv, r.2.2.2.2.2.2.2.2.2⟩
  · let r := run3 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hv := run3_leaves 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hn : 3 = seen j := by unfold seen; omega
    exact ⟨r.1, r.2.1, r.2.2.1, r.2.2.2.1, r.2.2.2.2.1, r.2.2.2.2.2.1, r.2.2.2.2.2.2.1, r.2.2.2.2.2.2.2.1, r.2.2.2.2.2.2.2.2.1,
      point_values D i b j hj 3 hn hxs hR a2.view a3.view a4.view a5.view a6.view a7.view a8.view a9.view a10.view a11.view a12.view a14.view a15.view a16.view
        X2 X3 X4 X5 X6 X7 G8 _ G9 _ G10 _ G11 _ G12 _ G14 G15 _ e2 e3 e4 e5 e6 e7 hring hv, r.2.2.2.2.2.2.2.2.2⟩
  · let r := run4 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hv := run4_leaves 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hn : 4 = seen j := by unfold seen; omega
    exact ⟨r.1, r.2.1, r.2.2.1, r.2.2.2.1, r.2.2.2.2.1, r.2.2.2.2.2.1, r.2.2.2.2.2.2.1, r.2.2.2.2.2.2.2.1, r.2.2.2.2.2.2.2.2.1,
      point_values D i b j hj 4 hn hxs hR a2.view a3.view a4.view a5.view a6.view a7.view a8.view a9.view a10.view a11.view a12.view a14.view a15.view a16.view
        X2 X3 X4 X5 X6 X7 G8 _ G9 _ G10 _ G11 _ G12 _ G14 G15 _ e2 e3 e4 e5 e6 e7 hring hv, r.2.2.2.2.2.2.2.2.2⟩
  · let r := run5 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hv := run5_leaves 𝒱 c bd i a2 h2 a3 h3 a4 h4 a5 h5 a6 h6 a7 h7 a8 h8 a9 h9 a10 h10 a11 h11 a12 h12 a13 h13 a14 h14 a15 h15 a16 h16 q1 q2 q3 q4 q5 X2 X3 X4 X5 X6 X7 G8 G9 G10 G11 G12 G13 G14 G15 G16
    have hn : 5 = seen j := by unfold seen; omega
    exact ⟨r.1, r.2.1, r.2.2.1, r.2.2.2.1, r.2.2.2.2.1, r.2.2.2.2.2.1, r.2.2.2.2.2.2.1, r.2.2.2.2.2.2.2.1, r.2.2.2.2.2.2.2.2.1,
      point_values D i b j hj 5 hn hxs hR a2.view a3.view a4.view a5.view a6.view a7.view a8.view a9.view a10.view a11.view a12.view a14.view a15.view a16.view
        X2 X3 X4 X5 X6 X7 G8 _ G9 _ G10 _ G11 _ G12 _ G14 G15 _ e2 e3 e4 e5 e6 e7 hring hv, r.2.2.2.2.2.2.2.2.2⟩

end Cert.KernelIdeal.Proof

end
-- ==== Proof.V.Grid.lean ====
/- The kernel's run at the extended reals: from point to point the rings hold the last five blocks, and every point leaves its
   blocks of the two result arrays. -/
module

public import proofs.«01_k».proof.Proof.KI.Frame
public import proofs.«01_k».proof.Proof.V.Step
public import Idealize.ShloMosaic.Lib.Pipeline.ValueKit

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation ΦA)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The six arrays as the grid finds them. -/
def arrs (c : Dev nD) : Arrays where
  x := V m c main_arg0
  xs := V m c main_arg1
  k := V m c main_arg2
  ks := V m c main_arg3
  v := V m c main_v0
  vs := V m c main_arg5

/-- The batch of a grid point. -/
def bOf (t : Fin cfg0.N) : Fin 4 := grid0.coords t 0

/-- The block of a grid point. -/
def iOf (t : Fin cfg0.N) : Fin 64 := grid0.coords t 1

theorem point_eq : ∀ t : Fin cfg0.N, t.val = 64 * (bOf t).val + (iOf t).val :=
  (by decide +kernel : ∀ t : Fin grid0.N, t.val = 64 * (grid0.coords t 0).val + (grid0.coords t 1).val)

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem index2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem index3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem index4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])
theorem index5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])
theorem index6 : ∀ t : Fin cfg0.N, win0_6.index t = ![(grid0.coords t 0).val, (grid0.coords t 1).val, 0] :=
  (by decide +kernel : ∀ t : Fin grid0.N, win0_6.index t = ![(grid0.coords t 0).val, (grid0.coords t 1).val, 0])
theorem index7 : ∀ t : Fin cfg0.N, win0_7.index t = ![(grid0.coords t 0).val, 0, (grid0.coords t 1).val] :=
  (by decide +kernel : ∀ t : Fin grid0.N, win0_7.index t = ![(grid0.coords t 0).val, 0, (grid0.coords t 1).val])

theorem block0 (c : Dev nD) (t : Fin cfg0.N) : iblk m c 0 t = blkW (arrs m c).x (bOf t) (iOf t) := by
  funext y
  refine congrArg (V m c main_arg0) (a₂ := ValueIdx.ix3 (bOf t) (pos (iOf t) (y 1)) (y 2)) ?_
  have hy : (y 0).val < 1 := (y 0).isLt
  refine funext (three_coords (Fin.ext ?_) (Fin.ext ?_) (Fin.ext ?_))
  · show (((win0_0.blk t).view.emb y 0 : Fin _) : ℕ) = (grid0.coords t 0).val
    blk_simp [index0]
  · show (((win0_0.blk t).view.emb y 1 : Fin _) : ℕ) = 256 * (grid0.coords t 1).val + (y 1).val
    blk_simp [index0]
    omega
  · show (((win0_0.blk t).view.emb y 2 : Fin _) : ℕ) = (y 2).val
    blk_simp [index0]

theorem block1 (c : Dev nD) (t : Fin cfg0.N) : iblk m c 1 t = blkN (arrs m c).xs (bOf t) (iOf t) := by
  funext y
  refine congrArg (V m c main_arg1) (a₂ := ValueIdx.ix3 (bOf t) (pos (iOf t) (y 1)) (y 2)) ?_
  have hy : (y 0).val < 1 := (y 0).isLt
  refine funext (three_coords (Fin.ext ?_) (Fin.ext ?_) (Fin.ext ?_))
  · show (((win0_1.blk t).view.emb y 0 : Fin _) : ℕ) = (grid0.coords t 0).val
    blk_simp [index1]
  · show (((win0_1.blk t).view.emb y 1 : Fin _) : ℕ) = 256 * (grid0.coords t 1).val + (y 1).val
    blk_simp [index1]
    omega
  · show (((win0_1.blk t).view.emb y 2 : Fin _) : ℕ) = (y 2).val
    blk_simp [index1]

theorem block2 (c : Dev nD) (t : Fin cfg0.N) : iblk m c 2 t = blkW (arrs m c).k (bOf t) (iOf t) := by
  funext y
  refine congrArg (V m c main_arg2) (a₂ := ValueIdx.ix3 (bOf t) (pos (iOf t) (y 1)) (y 2)) ?_
  have hy : (y 0).val < 1 := (y 0).isLt
  refine funext (three_coords (Fin.ext ?_) (Fin.ext ?_) (Fin.ext ?_))
  · show (((win0_2.blk t).view.emb y 0 : Fin _) : ℕ) = (grid0.coords t 0).val
    blk_simp [index2]
  · show (((win0_2.blk t).view.emb y 1 : Fin _) : ℕ) = 256 * (grid0.coords t 1).val + (y 1).val
    blk_simp [index2]
    omega
  · show (((win0_2.blk t).view.emb y 2 : Fin _) : ℕ) = (y 2).val
    blk_simp [index2]

theorem block3 (c : Dev nD) (t : Fin cfg0.N) : iblk m c 3 t = blkN (arrs m c).ks (bOf t) (iOf t) := by
  funext y
  refine congrArg (V m c main_arg3) (a₂ := ValueIdx.ix3 (bOf t) (pos (iOf t) (y 1)) (y 2)) ?_
  have hy : (y 0).val < 1 := (y 0).isLt
  refine funext (three_coords (Fin.ext ?_) (Fin.ext ?_) (Fin.ext ?_))
  · show (((win0_3.blk t).view.emb y 0 : Fin _) : ℕ) = (grid0.coords t 0).val
    blk_simp [index3]
  · show (((win0_3.blk t).view.emb y 1 : Fin _) : ℕ) = 256 * (grid0.coords t 1).val + (y 1).val
    blk_simp [index3]
    omega
  · show (((win0_3.blk t).view.emb y 2 : Fin _) : ℕ) = (y 2).val
    blk_simp [index3]

theorem block4 (c : Dev nD) (t : Fin cfg0.N) : iblk m c 4 t = blkW (arrs m c).v (bOf t) (iOf t) := by
  funext y
  refine congrArg (V m c main_v0) (a₂ := ValueIdx.ix3 (bOf t) (pos (iOf t) (y 1)) (y 2)) ?_
  have hy : (y 0).val < 1 := (y 0).isLt
  refine funext (three_coords (Fin.ext ?_) (Fin.ext ?_) (Fin.ext ?_))
  · show (((win0_4.blk t).view.emb y 0 : Fin _) : ℕ) = (grid0.coords t 0).val
    blk_simp [index4]
  · show (((win0_4.blk t).view.emb y 1 : Fin _) : ℕ) = 256 * (grid0.coords t 1).val + (y 1).val
    blk_simp [index4]
    omega
  · show (((win0_4.blk t).view.emb y 2 : Fin _) : ℕ) = (y 2).val
    blk_simp [index4]

theorem block5 (c : Dev nD) (t : Fin cfg0.N) : iblk m c 5 t = blkN (arrs m c).vs (bOf t) (iOf t) := by
  funext y
  refine congrArg (V m c main_arg5) (a₂ := ValueIdx.ix3 (bOf t) (pos (iOf t) (y 1)) (y 2)) ?_
  have hy : (y 0).val < 1 := (y 0).isLt
  refine funext (three_coords (Fin.ext ?_) (Fin.ext ?_) (Fin.ext ?_))
  · show (((win0_5.blk t).view.emb y 0 : Fin _) : ℕ) = (grid0.coords t 0).val
    blk_simp [index5]
  · show (((win0_5.blk t).view.emb y 1 : Fin _) : ℕ) = 256 * (grid0.coords t 1).val + (y 1).val
    blk_simp [index5]
    omega
  · show (((win0_5.blk t).view.emb y 2 : Fin _) : ℕ) = (y 2).val
    blk_simp [index5]

end Cert.KernelIdeal.Proof

end
-- ==== Proof.V.Kernel.lean ====
/- The kernel's run at the extended reals: from point to point the rings hold the last five blocks, and every point leaves its
   blocks of the two result arrays. -/
module

public import proofs.«01_k».proof.Proof.V.Grid
public import Idealize.ShloMosaic.Lib.Pipeline.ValueKit

@[expose] public section

set_option maxRecDepth 16384
set_option maxHeartbeats 0

noncomputable section

namespace Cert.KernelIdeal.Proof

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation ΦA)
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- What the rings hold before grid point `n`: the blocks up to the one before it, unless a batch begins. -/
def Held (D : Arrays) (n : ℕ) (z10 : S5x256x2048.Idx → EReal) (z11 : S5x2048x256.Idx → EReal) (z12 : S5x16x256x128.Idx → EReal) : Prop :=
  ∀ (b : Fin 4) (i : Fin 64), i.val + 1 < 64 → n = 64 * b.val + i.val + 1 → RingAt D b i z10 z11 z12

/-- The proof data: every point leaves its blocks of the two results, and the rings hold the blocks before. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkW (kCodes (arrs m c)) (bOf t) (iOf t)
    | ⟨7, _⟩ => fun y : S1x1x256.Idx => kScales (arrs m c) (ValueIdx.ix3 (bOf t) (0 : Fin 1) (pos (iOf t) (y 2)))
  Φ t := iprop(∃ (G10 : Buf (Elt Ideal) ((c : Thread nD τ).loc cc0_scratch0)) (G11 : Buf (Elt Ideal) ((c : Thread nD τ).loc cc0_scratch1)) (G12 : Buf (Elt Ideal) ((c : Thread nD τ).loc cc0_scratch2)) (G13 : Buf (Elt Ideal) ((c : Thread nD τ).loc cc0_scratch3)) (G14 : Buf (Elt Ideal) ((c : Thread nD τ).loc cc0_scratch4)) (G15 : Buf (Elt Ideal) ((c : Thread nD τ).loc cc0_scratch5)) (G16 : Buf (Elt Ideal) ((c : Thread nD τ).loc cc0_scratch6)), ⌜Held (arrs m c) t.val ((Memref.whole cc0_scratch0).view.read (Elt Ideal) G10) ((Memref.whole cc0_scratch1).view.read (Elt Ideal) G11) ((Memref.whole cc0_scratch2).view.read (Elt Ideal) G12)⌝ ∗ Scr (F := Ideal) c G10 G11 G12 G13 G14 G15 G16 ∗ ∃ r, prngReg c r)
  q _ := fullShare
  owed _ := 0

theorem A_eqV (c : Dev nD) (w : Fin cfg0.W) : (datsV m 0 c).A w = V m c (Pipeline.arrRef spec0 w) := rfl
theorem after0 (c : Dev nD) (t : Fin cfg0.N) : (datsV m 0 c).after 0 t = iblk m c 0 t := by dsimp only [datsV]
theorem after1 (c : Dev nD) (t : Fin cfg0.N) : (datsV m 0 c).after 1 t = iblk m c 1 t := by dsimp only [datsV]
theorem after2 (c : Dev nD) (t : Fin cfg0.N) : (datsV m 0 c).after 2 t = iblk m c 2 t := by dsimp only [datsV]
theorem after3 (c : Dev nD) (t : Fin cfg0.N) : (datsV m 0 c).after 3 t = iblk m c 3 t := by dsimp only [datsV]
theorem after4 (c : Dev nD) (t : Fin cfg0.N) : (datsV m 0 c).after 4 t = iblk m c 4 t := by dsimp only [datsV]
theorem after5 (c : Dev nD) (t : Fin cfg0.N) : (datsV m 0 c).after 5 t = iblk m c 5 t := by dsimp only [datsV]
theorem after6 (c : Dev nD) (t : Fin cfg0.N) : (datsV m 0 c).after 6 t = blkW (kCodes (arrs m c)) (bOf t) (iOf t) := by dsimp only [datsV]
theorem after7 (c : Dev nD) (t : Fin cfg0.N) :
    (datsV m 0 c).after 7 t = fun y : S1x1x256.Idx => kScales (arrs m c) (ValueIdx.ix3 (bOf t) (0 : Fin 1) (pos (iOf t) (y 2))) := by dsimp only [datsV]

theorem before0 (c : Dev nD) (t : Fin cfg0.N) (d) : (datsV m 0 c).before 0 t d = iblk m c 0 t :=
  before0_0_of m (datsV m 0 c) (A_eqV m c 0) (after0 m c) t d
theorem before1 (c : Dev nD) (t : Fin cfg0.N) (d) : (datsV m 0 c).before 1 t d = iblk m c 1 t :=
  before0_1_of m (datsV m 0 c) (A_eqV m c 1) (after1 m c) t d
theorem before2 (c : Dev nD) (t : Fin cfg0.N) (d) : (datsV m 0 c).before 2 t d = iblk m c 2 t :=
  before0_2_of m (datsV m 0 c) (A_eqV m c 2) (after2 m c) t d
theorem before3 (c : Dev nD) (t : Fin cfg0.N) (d) : (datsV m 0 c).before 3 t d = iblk m c 3 t :=
  before0_3_of m (datsV m 0 c) (A_eqV m c 3) (after3 m c) t d
theorem before4 (c : Dev nD) (t : Fin cfg0.N) (d) : (datsV m 0 c).before 4 t d = iblk m c 4 t :=
  before0_4_of m (datsV m 0 c) (A_eqV m c 4) (after4 m c) t d
theorem before5 (c : Dev nD) (t : Fin cfg0.N) (d) : (datsV m 0 c).before 5 t d = iblk m c 5 t :=
  before0_5_of m (datsV m 0 c) (A_eqV m c 5) (after5 m c) t d

/-- The body at each grid point. -/
theorem body_obligationV (hxs : ∀ c y, 0 < (arrs m c).xs y)
    (hR : ∀ c b i q, ∃ x : ℝ, fill (arrs m c) b i q = (x : EReal) ∧ 0 ≤ x ∧ x < 2 ^ 126) (c : Dev nD) :
    BodyObligation (datsV m 0 c) (defs₀ (F := Ideal)) 𝒱₀ () Set.univ := fun t => by
  rw [bigSep_W0, bigSep_W0]
  sl_whnfR [defs₀, Defs.onTc]
  simp only [before0, before1, before2, before3, before4, before5]
  rw [show (datsV m 0 c).Φ t.succ = iprop(∃ (G10 : Buf (Elt Ideal) ((c : Thread nD τ).loc cc0_scratch0)) (G11 : Buf (Elt Ideal) ((c : Thread nD τ).loc cc0_scratch1)) (G12 : Buf (Elt Ideal) ((c : Thread nD τ).loc cc0_scratch2)) (G13 : Buf (Elt Ideal) ((c : Thread nD τ).loc cc0_scratch3)) (G14 : Buf (Elt Ideal) ((c : Thread nD τ).loc cc0_scratch4)) (G15 : Buf (Elt Ideal) ((c : Thread nD τ).loc cc0_scratch5)) (G16 : Buf (Elt Ideal) ((c : Thread nD τ).loc cc0_scratch6)), ⌜Held (arrs m c) t.succ.val ((Memref.whole cc0_scratch0).view.read (Elt Ideal) G10) ((Memref.whole cc0_scratch1).view.read (Elt Ideal) G11) ((Memref.whole cc0_scratch2).view.read (Elt Ideal) G12)⌝ ∗ Scr (F := Ideal) c G10 G11 G12 G13 G14 G15 G16 ∗ ∃ r, prngReg c r) from rfl,
    show (datsV m 0 c).Φ t.castSucc = iprop(∃ (G10 : Buf (Elt Ideal) ((c : Thread nD τ).loc cc0_scratch0)) (G11 : Buf (Elt Ideal) ((c : Thread nD τ).loc cc0_scratch1)) (G12 : Buf (Elt Ideal) ((c : Thread nD τ).loc cc0_scratch2)) (G13 : Buf (Elt Ideal) ((c : Thread nD τ).loc cc0_scratch3)) (G14 : Buf (Elt Ideal) ((c : Thread nD τ).loc cc0_scratch4)) (G15 : Buf (Elt Ideal) ((c : Thread nD τ).loc cc0_scratch5)) (G16 : Buf (Elt Ideal) ((c : Thread nD τ).loc cc0_scratch6)), ⌜Held (arrs m c) t.castSucc.val ((Memref.whole cc0_scratch0).view.read (Elt Ideal) G10) ((Memref.whole cc0_scratch1).view.read (Elt Ideal) G11) ((Memref.whole cc0_scratch2).view.read (Elt Ideal) G12)⌝ ∗ Scr (F := Ideal) c G10 G11 G12 G13 G14 G15 G16 ∗ ∃ r, prngReg c r) from rfl,
    show (datsV m 0 c).owesAt () t.succ = (datsV m 0 c).owesAt () t.castSucc from rfl, after0, after1, after2, after3, after4, after5, after6, after7]
  unfold owns
  iintro ⟨HΦ, Ho, ⟨%d0, %f0, %hf0, H2⟩, ⟨%d1, %f1, %hf1, H3⟩, ⟨%d2, %f2, %hf2, H4⟩, ⟨%d3, %f3, %hf3, H5⟩, ⟨%d4, %f4, %hf4, H6⟩, ⟨%d5, %f5, %hf5, H7⟩, ⟨%d6, %f6, -, H8⟩, ⟨%d7, %f7, -, H9⟩⟩
  icases HΦ with ⟨%G10, %G11, %G12, %G13, %G14, %G15, %G16, %hH, HS, Hr⟩
  unfold Scr
  icases HS with ⟨H10, H11, H12, H13, H14, H15, H16⟩
  have hp := point_eq t
  have hring : ∀ k : Fin 64, k.val + 1 = (iOf t).val → RingAt (arrs m c) (bOf t) k ((Memref.whole cc0_scratch0).view.read (Elt Ideal) G10) ((Memref.whole cc0_scratch1).view.read (Elt Ideal) G11) ((Memref.whole cc0_scratch2).view.read (Elt Ideal) G12) := by
    intro k hk
    have hl := (iOf t).isLt
    exact hH (bOf t) k (by omega) (by show t.val = _; omega)
  obtain ⟨Y8, Y9, Y10, Y11, Y12, Y13, Y14, Y15, Y16, ⟨v8, v9, v10⟩, run⟩ := stepV 𝒱₀ c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 f5 f6 f7 G10 G11 G12 G13 G14 G15 G16 (arrs m c) (bOf t) (iOf t) rfl (hxs c) (hR c)
    (hf0.trans (block0 m c t)) (hf1.trans (block1 m c t)) (hf2.trans (block2 m c t)) (hf3.trans (block3 m c t)) (hf4.trans (block4 m c t)) (hf5.trans (block5 m c t)) hring
  iapply (run Set.univ _)
  isplitr [Ho Hr]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro ⟨H2, H3, H4, H5, H6, H7, H8, H9, H10, H11, H12, H13, H14, H15, H16⟩
  isplitr [Ho H2 H3 H4 H5 H6 H7 H8 H9]
  · iexists Y10, Y11, Y12, Y13, Y14, Y15, Y16
    isplitr
    · ipureintro
      intro b i hi hn
      have hn' : t.val + 1 = 64 * b.val + i.val + 1 := hn
      have hl := (iOf t).isLt
      have eb : bOf t = b := Fin.ext (by omega)
      have ei : iOf t = i := Fin.ext (by omega)
      rw [← eb, ← ei]
      exact v10
    isplitr [Hr]
    · isplitl [H10]; · iexact H10
      isplitl [H11]; · iexact H11
      isplitl [H12]; · iexact H12
      isplitl [H13]; · iexact H13
      isplitl [H14]; · iexact H14
      isplitl [H15]; · iexact H15
      iexact H16
    iexact Hr
  isplitl [Ho]; · iexact Ho
  isplitl [H2]; · (iexists f0; isplitr; · (ipureintro; exact hf0)); iexact H2
  isplitl [H3]; · (iexists f1; isplitr; · (ipureintro; exact hf1)); iexact H3
  isplitl [H4]; · (iexists f2; isplitr; · (ipureintro; exact hf2)); iexact H4
  isplitl [H5]; · (iexists f3; isplitr; · (ipureintro; exact hf3)); iexact H5
  isplitl [H6]; · (iexists f4; isplitr; · (ipureintro; exact hf4)); iexact H6
  isplitl [H7]; · (iexists f5; isplitr; · (ipureintro; exact hf5)); iexact H7
  isplitl [H8]; · (iexists Y8; isplitr; · (ipureintro; exact v8)); iexact H8
  iexists Y9; isplitr; · (ipureintro; exact v9)
  iexact H9

theorem enter (c : Dev nD) : (ΦA spec0 c : sProp 𝕄) ⊢ (datsV m 0 c).Φ 0 := by
  rw [show (datsV m 0 c).Φ 0 = iprop(∃ (G10 : Buf (Elt Ideal) ((c : Thread nD τ).loc cc0_scratch0)) (G11 : Buf (Elt Ideal) ((c : Thread nD τ).loc cc0_scratch1)) (G12 : Buf (Elt Ideal) ((c : Thread nD τ).loc cc0_scratch2)) (G13 : Buf (Elt Ideal) ((c : Thread nD τ).loc cc0_scratch3)) (G14 : Buf (Elt Ideal) ((c : Thread nD τ).loc cc0_scratch4)) (G15 : Buf (Elt Ideal) ((c : Thread nD τ).loc cc0_scratch5)) (G16 : Buf (Elt Ideal) ((c : Thread nD τ).loc cc0_scratch6)), ⌜Held (arrs m c) (0 : Fin (cfg0.N + 1)).val ((Memref.whole cc0_scratch0).view.read (Elt Ideal) G10) ((Memref.whole cc0_scratch1).view.read (Elt Ideal) G11) ((Memref.whole cc0_scratch2).view.read (Elt Ideal) G12)⌝ ∗ Scr (F := Ideal) c G10 G11 G12 G13 G14 G15 G16 ∗ ∃ r, prngReg c r) from rfl]
  iintro HΦ
  ihave HΦ := open_rest c $$ HΦ
  icases HΦ with ⟨⟨%G10, %G11, %G12, %G13, %G14, %G15, %G16, HS⟩, Hr⟩
  iexists G10, G11, G12, G13, G14, G15, G16
  isplitr
  · ipureintro
    intro b i hi hn
    have h : 0 = 64 * b.val + i.val + 1 := hn
    omega
  isplitl [HS]; · iexact HS
  iexact Hr

theorem leave (c : Dev nD) : (datsV m 0 c).Φ (Fin.last cfg0.N) ⊢ (ΦA spec0 c : sProp 𝕄) := by
  rw [show (datsV m 0 c).Φ (Fin.last cfg0.N) = iprop(∃ (G10 : Buf (Elt Ideal) ((c : Thread nD τ).loc cc0_scratch0)) (G11 : Buf (Elt Ideal) ((c : Thread nD τ).loc cc0_scratch1)) (G12 : Buf (Elt Ideal) ((c : Thread nD τ).loc cc0_scratch2)) (G13 : Buf (Elt Ideal) ((c : Thread nD τ).loc cc0_scratch3)) (G14 : Buf (Elt Ideal) ((c : Thread nD τ).loc cc0_scratch4)) (G15 : Buf (Elt Ideal) ((c : Thread nD τ).loc cc0_scratch5)) (G16 : Buf (Elt Ideal) ((c : Thread nD τ).loc cc0_scratch6)), ⌜Held (arrs m c) (Fin.last cfg0.N).val ((Memref.whole cc0_scratch0).view.read (Elt Ideal) G10) ((Memref.whole cc0_scratch1).view.read (Elt Ideal) G11) ((Memref.whole cc0_scratch2).view.read (Elt Ideal) G12)⌝ ∗ Scr (F := Ideal) c G10 G11 G12 G13 G14 G15 G16 ∗ ∃ r, prngReg c r) from rfl]
  iintro ⟨%G10, %G11, %G12, %G13, %G14, %G15, %G16, -, HS, Hr⟩
  iapply (close_rest c G10 G11 G12 G13 G14 G15 G16)
  isplitl [HS]; · iexact HS
  iexact Hr

set_option backward.isDefEq.respectTransparency.types false in
theorem run_mainV (hxs : ∀ c y, 0 < (arrs m c).xs y) (hR : ∀ c b i q, ∃ x : ℝ, fill (arrs m c) b i q = (x : EReal) ∧ 0 ≤ x ∧ x < 2 ^ 126) :
    θ_run defs (onTc (τ := τ) (main (F := Ideal))) (s₀ m ρ) (Pipeline.FramePost cfgs (datsV m) 0 (V m)) :=
  Pipeline.θ_run_frame_track cfgs (datsV m) (0 : Fin 1) launch0 defs₀ 𝒱₀ m ρ main
    (hbody := fun c => (body_obligationV m hxs hR c).loose) (hshare := fun c => (datsV m 0 c).share_full fun _ => rfl)
    (howed := fun _ _ => rfl) (V := V m) (hmain := hmain m 𝒱₀) (hA := fun _ _ => rfl) (hin := fun c => enter m c) (hout := fun c => leave m c)

/-- The array of codes after the run. -/
theorem final6 (c : Dev nD) : (datsV m 0 c).arrAt 6 cfg0.N = kCodes (arrs m c) := by
  refine (datsV m 0 c).arrAt_eq_of_covers 6 _ (by decide +kernel) fun t hf y => ?_
  blk_simp
  rw [after6]
  refine congrArg (kCodes (arrs m c)) (a₁ := ValueIdx.ix3 (bOf t) (pos (iOf t) (y 1)) (y 2)) ?_
  have hy : (y 0).val < 1 := (y 0).isLt
  refine funext (three_coords (Fin.ext ?_) (Fin.ext ?_) (Fin.ext ?_))
  · show (grid0.coords t 0).val = (((win0_6.blk t).view.emb y 0 : Fin _) : ℕ)
    blk_simp [index6]
  · show 256 * (grid0.coords t 1).val + (y 1).val = (((win0_6.blk t).view.emb y 1 : Fin _) : ℕ)
    blk_simp [index6]
    omega
  · show (y 2).val = (((win0_6.blk t).view.emb y 2 : Fin _) : ℕ)
    blk_simp [index6]

/-- The array of scales after the run. -/
theorem final7 (c : Dev nD) : (datsV m 0 c).arrAt 7 cfg0.N = kScales (arrs m c) := by
  refine (datsV m 0 c).arrAt_eq_of_covers 7 _ (by decide +kernel) fun t hf y => ?_
  blk_simp
  rw [after7]
  refine congrArg (kScales (arrs m c)) (a₁ := ValueIdx.ix3 (bOf t) (0 : Fin 1) (pos (iOf t) (y 2))) ?_
  have hy : (y 0).val < 1 := (y 0).isLt
  have hy1 : (y 1).val < 1 := (y 1).isLt
  refine funext (three_coords (Fin.ext ?_) (Fin.ext ?_) (Fin.ext ?_))
  · show (grid0.coords t 0).val = (((win0_7.blk t).view.emb y 0 : Fin _) : ℕ)
    blk_simp [index7]
  · show 0 = (((win0_7.blk t).view.emb y 1 : Fin _) : ℕ)
    blk_simp [index7]
  · show 256 * (grid0.coords t 1).val + (y 2).val = (((win0_7.blk t).view.emb y 2 : Fin _) : ℕ)
    blk_simp [index7]
    omega

/-- The run, the two results named. -/
theorem run_values (hxs : ∀ c y, 0 < (arrs m c).xs y) (hR : ∀ c b i q, ∃ x : ℝ, fill (arrs m c) b i q = (x : EReal) ∧ 0 ≤ x ∧ x < 2 ^ 126) :
    θ_run defs (onTc (τ := τ) (main (F := Ideal))) ⟨m, fun _ => 0, ρ⟩ fun r => ∀ c : Dev nD,
      r.2.mem ((c : Thread nD τ).loc main_v1_0) = kCodes (arrs m c)
      ∧ r.2.mem ((c : Thread nD τ).loc main_v1_1) = kScales (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c), ((h c).1 7).trans (final7 m c),
    ((h c).1 0).trans (((datsV m 0 c).arrAt_in 0 rfl _).trans ((A_eqV m c 0).trans (V_main_arg0 m c))),
    ((h c).1 1).trans (((datsV m 0 c).arrAt_in 1 rfl _).trans ((A_eqV m c 1).trans (V_main_arg1 m c))),
    ((h c).1 2).trans (((datsV m 0 c).arrAt_in 2 rfl _).trans ((A_eqV m c 2).trans (V_main_arg2 m c))),
    ((h c).1 3).trans (((datsV m 0 c).arrAt_in 3 rfl _).trans ((A_eqV m c 3).trans (V_main_arg3 m c))),
    ((h c).2 main_arg4 (Pipeline.mem_restRefs_of main_arg4 (by decide) (by decide))).trans (V_main_arg4 m c),
    ((h c).1 5).trans (((datsV m 0 c).arrAt_in 5 rfl _).trans ((A_eqV m c 5).trans (V_main_arg5 m c)))⟩)
    (run_mainV m ρ hxs hR)

end Cert.KernelIdeal.Proof

end
-- ==== Proof.V.RefRead.lean ====
/- The reference's two results, element by element. -/
module

public import proofs.«01_k».proof.Proof.Gen.ReferenceIdeal.Value
public import proofs.«01_k».proof.Proof.V.Ring
public import Idealize.ShloMosaic.Lib.ValueIdx
public import Idealize.ShloMosaic.Lib.ValueLayout
public import Idealize.ShloMosaic.Lib.MatmulPlain
public import Idealize.ShloMosaic.PureOps.Ideal.Laws

@[expose] public section

set_option maxRecDepth 16384

noncomputable section

namespace Cert.ReferenceIdeal.Proof

open Cert.ReferenceIdeal Cert.ReferenceIdeal.Gen
open Cert.KernelIdeal.Proof (Arrays col headOf inHead neg_inf one_word select_ofBool)
open Idealize.ShloMosaic Idealize.ShloMosaic.TcCoe Idealize.ShloMosaic.ValueIdx

/-- The row of a batch and a head. -/
def row (b : Fin 4) (h : Fin 16) : Fin 64 := ⟨16 * b.val + h.val, by omega⟩

/-- The reciprocal of the square root of the head dimension. -/
def rsq : ℝ := (Real.sqrt 128)⁻¹

variable (D : Arrays)

/-- The score of a query and a key. -/
def rScore (b : Fin 4) (h : Fin 16) (q p : Fin 16384) : EReal :=
  (∑ e : Fin 128, D.x (ix3 b q (col h e)) * D.k (ix3 b p (col h e))) * (D.xs (ix3 b q h) * (rsq : EReal)) * D.ks (ix3 b p h)

/-- The same, minus infinity outside the window. -/
def rT (b : Fin 4) (h : Fin 16) (q p : Fin 16384) : EReal :=
  if p.val ≤ q.val ∧ q.val < 1000 + p.val then rScore D b h q p else ⊥

/-- The largest score of a query. -/
def rMax (b : Fin 4) (h : Fin 16) (q : Fin 16384) : EReal := Finset.univ.sup fun p => rT D b h q p

/-- A weight before the division. -/
def rE (b : Fin 4) (h : Fin 16) (q p : Fin 16384) : EReal := Ideal.exp (rT D b h q p - rMax D b h q)

/-- The sum of a query's weights. -/
def rSum (b : Fin 4) (h : Fin 16) (q : Fin 16384) : EReal := ∑ p, rE D b h q p

/-- The attention output. -/
def rO (b : Fin 4) (q : Fin 16384) (h : Fin 16) (c : Fin 128) : EReal :=
  ∑ p, (rE D b h q p * Ideal.div 1 (rSum D b h q) * D.vs (ix3 b p h)) * D.v (ix3 b p (col h c))

/-- A query's largest magnitude. -/
def rPeak (b : Fin 4) (q : Fin 16384) : EReal := Finset.univ.sup fun n : Fin 2048 => max (rO D b q (headOf n) (inHead n)) (-rO D b q (headOf n) (inHead n))

/-- The exponent of its scale. -/
def rExpo (b : Fin 4) (q : Fin 16384) : EReal :=
  if rPeak D b q = 0 then 0 else
    max (Ideal.liftRound Int.floor (Ideal.div (Ideal.log (rPeak D b q * Ideal.ofBits .f32 0x3B124925#32)) ((Real.log 2 : ℝ) : EReal)) + 1) ((-126 : ℝ) : EReal)

/-- The codes. -/
def rCodes : (⟨3, ![4, 16384, 2048]⟩ : Shape).Idx → EReal := fun y =>
  min ((448 : ℝ) : EReal) (max ((-448 : ℝ) : EReal) (rO D (y 0) (y 1) (headOf (y 2)) (inHead (y 2)) * Ideal.exp2 (0 - rExpo D (y 0) (y 1))))

/-- The scales. -/
def rScales : (⟨3, ![4, 1, 16384]⟩ : Shape).Idx → EReal := fun y => Ideal.exp2 (rExpo D (y 0) (y 2))

theorem byHead_apply {α : Type} (f : S4x16384x2048.Idx → α) (h1 h2 h3) (b : Fin 4) (h : Fin 16) (p : Fin 16384) (e : Fin 128) :
    shapeCast S64x16384x128 (transpose S4x16x16384x128 [0, 2, 1, 3] (shapeCast S4x16384x16x128 f h1) h2) h3 (ix3 (row b h) p e) = f (ix3 b p (col h e)) := by
  refine (shapeCast_apply _ _ _ (ix4 b h p e) ?_).trans ?_
  · rw [Shape.rowMajor_val_three, Shape.rowMajor_val_four]
    show ((b.val * 16 + h.val) * 16384 + p.val) * 128 + e.val = ((16 * b.val + h.val) * 16384 + p.val) * 128 + e.val
    omega
  refine (transpose_apply _ _ _ _ (ix4 b p h e) fun c => match c with | ⟨0, _⟩ => rfl | ⟨1, _⟩ => rfl | ⟨2, _⟩ => rfl | ⟨3, _⟩ => rfl).trans ?_
  refine shapeCast_apply _ _ _ _ ?_
  rw [Shape.rowMajor_val_three, Shape.rowMajor_val_four]
  show (b.val * 16384 + p.val) * 2048 + (128 * h.val + e.val) = ((b.val * 16384 + p.val) * 16 + h.val) * 128 + e.val
  omega

theorem scales_apply {α : Type} (f : S4x16384x16.Idx → α) (h2 h3) (b : Fin 4) (h : Fin 16) (p : Fin 16384) :
    shapeCast S64x16384 (transpose S4x16x16384 [0, 2, 1] f h2) h3 (ix2 (row b h) p) = f (ix3 b p h) := by
  refine (shapeCast_apply _ _ _ (ix3 b h p) ?_).trans ?_
  · rw [Shape.rowMajor_val_three, Shape.rowMajor_val_two]
    show (b.val * 16 + h.val) * 16384 + p.val = (16 * b.val + h.val) * 16384 + p.val
    omega
  exact transpose_ix3_021_apply _ _ _ _ _

theorem unhead_apply {α : Type} (f : S64x16384x128.Idx → α) (h1 h2 h3) (b : Fin 4) (p : Fin 16384) (n : Fin 2048) :
    shapeCast S4x16384x2048 (transpose S4x16384x16x128 [0, 2, 1, 3] (shapeCast S4x16x16384x128 f h1) h2) h3 (ix3 b p n)
      = f (ix3 (row b (headOf n)) p (inHead n)) := by
  refine (shapeCast_apply _ _ _ (ix4 b p (headOf n) (inHead n)) ?_).trans ?_
  · rw [Shape.rowMajor_val_three, Shape.rowMajor_val_four]
    show ((b.val * 16384 + p.val) * 16 + n.val / 128) * 128 + n.val % 128 = (b.val * 16384 + p.val) * 2048 + n.val
    omega
  refine (transpose_apply _ _ _ _ (ix4 b (headOf n) p (inHead n)) fun c => match c with | ⟨0, _⟩ => rfl | ⟨1, _⟩ => rfl | ⟨2, _⟩ => rfl | ⟨3, _⟩ => rfl).trans ?_
  refine shapeCast_apply _ _ _ _ ?_
  rw [Shape.rowMajor_val_three, Shape.rowMajor_val_four]
  show ((16 * b.val + n.val / 128) * 16384 + p.val) * 128 + n.val % 128 = ((b.val * 16 + n.val / 128) * 16384 + p.val) * 128 + n.val % 128
  omega

theorem alongRows_apply {α : Type} (f : S64x16384.Idx → α) (h1 h2) (g : Fin 64) (q p : Fin 16384) :
    broadcastTo S64x16384x16384 (shapeCast S64x16384x1 f h1) h2 (ix3 g q p) = f (ix2 g q) := by
  refine (broadcastTo_apply _ _ _ (ix3 g q (0 : Fin 1)) fun c => match c with | ⟨0, _⟩ => rfl | ⟨1, _⟩ => rfl | ⟨2, _⟩ => rfl).trans ?_
  refine shapeCast_apply _ _ _ _ ?_
  rw [Shape.rowMajor_val_three, Shape.rowMajor_val_two]
  show g.val * 16384 + q.val = (g.val * 16384 + q.val) * 1 + 0
  omega

theorem alongCols_apply {α : Type} (f : S64x16384.Idx → α) (h1 h2) (g : Fin 64) (q p : Fin 16384) :
    broadcastTo S64x16384x16384 (shapeCast S64x1x16384 f h1) h2 (ix3 g q p) = f (ix2 g p) := by
  refine (broadcastTo_apply _ _ _ (ix3 g (0 : Fin 1) p) fun c => match c with | ⟨0, _⟩ => rfl | ⟨1, _⟩ => rfl | ⟨2, _⟩ => rfl).trans ?_
  refine shapeCast_apply _ _ _ _ ?_
  rw [Shape.rowMajor_val_three, Shape.rowMajor_val_two]
  show g.val * 16384 + p.val = (g.val * 1 + 0) * 16384 + p.val
  omega

theorem scoreDot_apply {φ₁ φ₂ : FTy} (l : FVec Ideal S64x16384x128 φ₁) (r : FVec Ideal S64x16384x128 φ₂) (g : Fin 64) (q p : Fin 16384) :
    matmul dot_S64x16384x128_S64x16384x128_S64x16384x16384_2_2_1_1_0_0 none l r (constant (F := Ideal) S64x16384x16384 .f32 0x00000000#32) (ix3 g q p)
      = ∑ e : Fin 128, l (ix3 g q e) * r (ix3 g p e) := by
  let C := contrEquiv1 dot_S64x16384x128_S64x16384x128_S64x16384x16384_2_2_1_1_0_0 128 rfl rfl
  show FloatOps.matmul _ none l r _ (ix3 g q p) = _
  rw [Ideal.matmul_apply, constant_apply, Ideal.ofBits_zero_f32, zero_add, ← Equiv.sum_comp C.symm]
  refine Finset.sum_congr rfl fun e _ => ?_
  have he := contrEquiv1_symm_val dot_S64x16384x128_S64x16384x128_S64x16384x16384_2_2_1_1_0_0 128 rfl rfl e
  have el : dot_S64x16384x128_S64x16384x128_S64x16384x16384_2_2_1_1_0_0.lhsIdx (ix3 g q p) (C.symm e) = ix3 g q e := by
    funext a; apply Fin.ext
    match a with
    | ⟨0, _⟩ => rfl
    | ⟨1, _⟩ => rfl
    | ⟨2, _⟩ => exact he
  have er : dot_S64x16384x128_S64x16384x128_S64x16384x16384_2_2_1_1_0_0.rhsIdx (ix3 g q p) (C.symm e) = ix3 g p e := by
    funext a; apply Fin.ext
    match a with
    | ⟨0, _⟩ => rfl
    | ⟨1, _⟩ => rfl
    | ⟨2, _⟩ => exact he
  rw [el, er]

theorem outDot_apply {φ₁ φ₂ : FTy} (l : FVec Ideal S64x16384x16384 φ₁) (r : FVec Ideal S64x16384x128 φ₂) (g : Fin 64) (q : Fin 16384) (c : Fin 128) :
    matmul dot_S64x16384x16384_S64x16384x128_S64x16384x128_2_1_1_2_0_0 none l r (constant (F := Ideal) S64x16384x128 .f32 0x00000000#32) (ix3 g q c)
      = ∑ p : Fin 16384, l (ix3 g q p) * r (ix3 g p c) := by
  let C := contrEquiv1 dot_S64x16384x16384_S64x16384x128_S64x16384x128_2_1_1_2_0_0 16384 rfl rfl
  show FloatOps.matmul _ none l r _ (ix3 g q c) = _
  rw [Ideal.matmul_apply, constant_apply, Ideal.ofBits_zero_f32, zero_add, ← Equiv.sum_comp C.symm]
  refine Finset.sum_congr rfl fun p _ => ?_
  have he := contrEquiv1_symm_val dot_S64x16384x16384_S64x16384x128_S64x16384x128_2_1_1_2_0_0 16384 rfl rfl p
  have el : dot_S64x16384x16384_S64x16384x128_S64x16384x128_2_1_1_2_0_0.lhsIdx (ix3 g q c) (C.symm p) = ix3 g q p := by
    funext a; apply Fin.ext
    match a with
    | ⟨0, _⟩ => rfl
    | ⟨1, _⟩ => rfl
    | ⟨2, _⟩ => exact he
  have er : dot_S64x16384x16384_S64x16384x128_S64x16384x128_2_1_1_2_0_0.rhsIdx (ix3 g q c) (C.symm p) = ix3 g p c := by
    funext a; apply Fin.ext
    match a with
    | ⟨0, _⟩ => rfl
    | ⟨1, _⟩ => exact he
    | ⟨2, _⟩ => rfl
  rw [el, er]

theorem mask_apply (g : Fin 64) (q p : Fin 16384) :
    k0_pay5 (ix3 g q p) = BitVec.ofBool (decide (p.val ≤ q.val ∧ q.val < 1000 + p.val)) := by
  have i1 : iota .tc S64x16384x16384 32 [1] iota_S64x16384x16384_d1_w32 (ix3 g q p) = BitVec.ofNat 32 q.val := by
    simp [iota]
  have i2 : iota .tc S64x16384x16384 32 [2] iota_S64x16384x16384_d2_w32 (ix3 g q p) = BitVec.ofNat 32 p.val := by
    simp [iota]
  unfold k0_pay5
  show IntOp.andi (IntOp.cmpi .sle (iota .tc S64x16384x16384 32 [2] _ (ix3 g q p)) (iota .tc S64x16384x16384 32 [1] _ (ix3 g q p)))
    (IntOp.cmpi .sgt (iota .tc S64x16384x16384 32 [2] _ (ix3 g q p)) (iota .tc S64x16384x16384 32 [1] _ (ix3 g q p) - 1000#32)) = _
  rw [i1, i2]
  have e : ∀ n : Fin 16384, (BitVec.ofNat 32 n.val).toInt = n.val := by
    intro n
    have hm : n.val % 4294967296 = n.val := Nat.mod_eq_of_lt (by omega)
    rw [BitVec.toInt_eq_toNat_of_lt (by rw [BitVec.toNat_ofNat]; norm_num; omega), BitVec.toNat_ofNat]
    exact congrArg Nat.cast hm
  have hx : (BitVec.ofNat 32 q.val - 1000#32).toInt = (q.val : ℤ) - 1000 := by
    rw [BitVec.toInt_sub, e, show (1000#32).toInt = 1000 from rfl]
    exact Int.bmod_eq_of_le (by norm_num; omega) (by norm_num; omega)
  unfold IntOp.cmpi IntOp.andi
  simp only [BitVec.slt, BitVec.sle, hx, e]
  rw [BitVec.ofBool_and_ofBool]
  congr 1
  rw [← Bool.decide_and]
  apply decide_eq_decide.2
  omega

theorem score_apply (x k : FVec Ideal S4x16384x2048 .fp8e4m3) (xs ks : FVec Ideal S4x16384x16 .f32) (b : Fin 4) (h : Fin 16) (q p : Fin 16384) :
    (k0_pay4 (F := Ideal) x k xs ks (ix3 (row b h) q p) : EReal)
      = (∑ e : Fin 128, x (ix3 b q (col h e)) * k (ix3 b p (col h e))) * (xs (ix3 b q h) * (rsq : EReal)) * ks (ix3 b p h) := by
  unfold k0_pay4
  rw [mulf_apply, mulf_apply, alongRows_apply, alongCols_apply, scales_apply, scales_apply, scoreDot_apply, mulf_apply]
  have hn : ((Named.named κ "inv_sqrt_d" 0x3DB504F3#32 : Ideal .f32) : EReal) = (rsq : EReal) := IdealRules.named_const.ideal_named_scalar _ _ _ _ rfl
  refine congrArg (fun z : EReal => z * ks (ix3 b p h)) ?_
  refine congrArg₂ (fun y z : EReal => y * (xs (ix3 b q h) * z)) (Finset.sum_congr rfl fun e _ => ?_) hn
  rw [byHead_apply, byHead_apply]

theorem value_apply (v : FVec Ideal S4x16384x2048 .fp8e4m3) (b : Fin 4) (h : Fin 16) (p : Fin 16384) (e : Fin 128) :
    k0_pay2 (F := Ideal) v (ix3 (row b h) p e) = v (ix3 b p (col h e)) := by
  unfold k0_pay2
  rw [byHead_apply]
  exact shapeCast_apply _ _ _ _ rfl

theorem vscale_apply (vs : FVec Ideal S4x16384x16 .f32) (b : Fin 4) (h : Fin 16) (p : Fin 16384) :
    k0_pay3 (F := Ideal) vs (ix2 (row b h) p) = vs (ix3 b p h) := by
  unfold k0_pay3
  exact scales_apply _ _ _ _ _ _

theorem rowMax_apply (x : FVec Ideal S64x16384x16384 .f32) (h h1 h2) (g : Fin 64) (q : Fin 16384) :
    multiReduction .maximumf [2] S64x16384 x 0xFF800000#32 h h1 h2 (ix2 g q) = Finset.univ.sup fun p : Fin 16384 => x (ix3 g q p) := by
  refine (Ideal.multiReduction_maximumf_single _ _ _ _ _ _).trans ?_
  show Finset.fold max (Ideal.ofBits .f32 0xFF800000#32) _ _ = _
  rw [neg_inf]
  refine Finset.fold_congr fun p _ => ?_
  refine congrArg x (funext fun a => ?_)
  match a with
  | ⟨0, _⟩ => rfl
  | ⟨1, _⟩ => rfl
  | ⟨2, _⟩ => rfl

theorem rowSum_apply (x : FVec Ideal S64x16384x16384 .f32) (h h1 h2) (g : Fin 64) (q : Fin 16384) :
    multiReduction .add [2] S64x16384 x 0x00000000#32 h h1 h2 (ix2 g q) = ∑ p : Fin 16384, x (ix3 g q p) := by
  refine (Ideal.multiReduction_add_single _ _ _ _ _ _).trans ?_
  refine Finset.sum_congr rfl fun p _ => congrArg x (funext fun a => ?_)
  match a with
  | ⟨0, _⟩ => rfl
  | ⟨1, _⟩ => rfl
  | ⟨2, _⟩ => rfl

theorem weights_apply (s : FVec Ideal S64x16384x16384 .f32) (h h1 h2 h3 h4) (g : Fin 64) (q p : Fin 16384) :
    exp (subf s (broadcastTo S64x16384x16384 (shapeCast S64x16384x1 (multiReduction .maximumf [2] S64x16384 s 0xFF800000#32 h h1 h2) h3) h4)) (ix3 g q p)
      = Ideal.exp (s (ix3 g q p) - Finset.univ.sup fun p : Fin 16384 => s (ix3 g q p)) := by
  show Ideal.exp (s (ix3 g q p) - broadcastTo S64x16384x16384 _ _ (ix3 g q p)) = _
  rw [alongRows_apply]
  exact congrArg (fun z => Ideal.exp (s (ix3 g q p) - z)) (rowMax_apply s _ _ _ g q)

theorem recip_apply (y : FVec Ideal S64x16384 .f32) (h1 h2) (g : Fin 64) (q p : Fin 16384) :
    (broadcastTo S64x16384x16384 (divf (broadcast S64x16384x1 (Scalar.ofBits (F := Ideal) .f32 0x3F800000#32)) (shapeCast S64x16384x1 y h1)) h2 (ix3 g q p) : EReal)
      = Ideal.div 1 (y (ix2 g q)) := by
  refine (broadcastTo_apply _ _ _ (ix3 g q (0 : Fin 1)) fun c => match c with | ⟨0, _⟩ => rfl | ⟨1, _⟩ => rfl | ⟨2, _⟩ => rfl).trans ?_
  show Ideal.div (Ideal.ofBits .f32 0x3F800000#32) _ = _
  rw [one_word]
  refine congrArg (Ideal.div 1) (shapeCast_apply _ _ _ _ ?_)
  rw [Shape.rowMajor_val_three, Shape.rowMajor_val_two]
  show g.val * 16384 + q.val = (g.val * 16384 + q.val) * 1 + 0
  omega

theorem peakMax_apply (x : FVec Ideal S4x16384x2048 .f32) (h h1 h2) (b : Fin 4) (q : Fin 16384) :
    multiReduction .maximumf [2] S4x16384 x 0xFF800000#32 h h1 h2 (ix2 b q) = Finset.univ.sup fun n : Fin 2048 => x (ix3 b q n) := by
  refine (Ideal.multiReduction_maximumf_single _ _ _ _ _ _).trans ?_
  show Finset.fold max (Ideal.ofBits .f32 0xFF800000#32) _ _ = _
  rw [neg_inf]
  refine Finset.fold_congr fun p _ => ?_
  refine congrArg x (funext fun a => ?_)
  match a with
  | ⟨0, _⟩ => rfl
  | ⟨1, _⟩ => rfl
  | ⟨2, _⟩ => rfl

/-- The attention output as the reference computes it from the arrays. -/
def oVec : FVec Ideal S4x16384x2048 .f32 :=
  k0_pay6 (F := Ideal) (k0_pay2 D.v) (k0_pay3 D.vs) (k0_pay4 D.x D.k D.xs D.ks) k0_pay5 (Scalar.ofBits .f32 0xFF800000#32)

/-- The exponents as the reference computes them. -/
def eVec : FVec Ideal S4x16384 .f32 :=
  k0_pay7 (F := Ideal) (k0_pay2 D.v) (k0_pay3 D.vs) (k0_pay4 D.x D.k D.xs D.ks) k0_pay5 (Scalar.ofBits .f32 0xFF800000#32)

theorem masked_apply (b : Fin 4) (h : Fin 16) (q p : Fin 16384) :
    (select k0_pay5 (k0_pay4 (F := Ideal) D.x D.k D.xs D.ks) (broadcast S64x16384x16384 (Scalar.ofBits (F := Ideal) .f32 0xFF800000#32)) (ix3 (row b h) q p) : EReal)
      = rT D b h q p := by
  rw [select_apply, mask_apply, select_ofBool, score_apply]
  exact congrArg (fun z => if p.val ≤ q.val ∧ q.val < 1000 + p.val then rScore D b h q p else z) neg_inf

theorem o_apply (b : Fin 4) (q : Fin 16384) (n : Fin 2048) : oVec D (ix3 b q n) = rO D b q (headOf n) (inHead n) := by
  unfold oVec k0_pay6
  rw [unhead_apply, outDot_apply]
  unfold rO
  have hE : ∀ p, (exp (subf (select k0_pay5 (k0_pay4 (F := Ideal) D.x D.k D.xs D.ks) (broadcast S64x16384x16384 (Scalar.ofBits (F := Ideal) .f32 0xFF800000#32)))
      (broadcastTo S64x16384x16384 (shapeCast S64x16384x1 (multiReduction .maximumf [2] S64x16384
        (select k0_pay5 (k0_pay4 (F := Ideal) D.x D.k D.xs D.ks) (broadcast S64x16384x16384 (Scalar.ofBits (F := Ideal) .f32 0xFF800000#32)))
        0xFF800000#32 reduces_S64x16384x16384_S64x16384 (.inl rfl) rfl) shapeCasts_S64x16384_S64x16384x1) broadcasts_S64x16384x1_S64x16384x16384))
      (ix3 (row b (headOf n)) q p) : EReal) = rE D b (headOf n) q p := by
    intro p
    refine (weights_apply _ _ _ _ _ _ _ _ _).trans ?_
    unfold rE rMax
    simp only [masked_apply]
  refine Finset.sum_congr rfl fun p _ => ?_
  refine congrArg₂ (· * ·) ?_ (value_apply D.v b (headOf n) p (inHead n))
  show ((_ * _) * _ : EReal) = _
  rw [hE, recip_apply, alongCols_apply, vscale_apply]
  exact congrArg (fun z => rE D b (headOf n) q p * Ideal.div 1 z * D.vs (ix3 b p (headOf n)))
    ((rowSum_apply _ _ _ _ _ _).trans (Finset.sum_congr rfl fun p' _ => hE p'))

theorem expo_apply (a : FVec Ideal S4x16384 .f32) (y : S4x16384.Idx) :
    (select (cmpf .oeq a (broadcast S4x16384 (Scalar.ofBits (F := Ideal) .f32 0x00000000#32))) (broadcast S4x16384 (Scalar.ofBits (F := Ideal) .f32 0x00000000#32))
      (maximumf (addf (floor (divf (log (mulf a (broadcast S4x16384 (Scalar.ofBits (F := Ideal) .f32 0x3B124925#32))))
        (broadcast S4x16384 (Named.named κ "ln2" 0x3F317218#32 : Ideal .f32)))) (broadcast S4x16384 (Scalar.ofBits (F := Ideal) .f32 0x3F800000#32)))
        (broadcast S4x16384 (Scalar.ofBits (F := Ideal) .f32 0xC2FC0000#32))) y : EReal)
      = if a y = (0 : EReal) then 0 else
        max (Ideal.liftRound Int.floor (Ideal.div (Ideal.log (a y * Ideal.ofBits .f32 0x3B124925#32)) ((Real.log 2 : ℝ) : EReal)) + 1) ((-126 : ℝ) : EReal) := by
  have h2 : ((Named.named κ "ln2" 0x3F317218#32 : Ideal .f32) : EReal) = ((Real.log 2 : ℝ) : EReal) :=
    IdealRules.named_const.ideal_named_scalar _ _ _ _ rfl
  have h3 : Ideal.ofBits .f32 0xC2FC0000#32 = ((-126 : ℝ) : EReal) := by
    simp [Ideal.ofBits, Ideal.ieee, -EReal.coe_mul]; norm_num
  show Scalar.select (Ideal.cmp .oeq (a y) (Ideal.ofBits .f32 0x00000000#32)) (Ideal.ofBits .f32 0x00000000#32)
    (max (Ideal.liftRound Int.floor (Ideal.div (Ideal.log (a y * Ideal.ofBits .f32 0x3B124925#32)) ((Named.named κ "ln2" 0x3F317218#32 : Ideal .f32) : EReal))
      + Ideal.ofBits .f32 0x3F800000#32) (Ideal.ofBits .f32 0xC2FC0000#32)) = _
  rw [h2, h3, one_word, Ideal.ofBits_zero_f32]
  exact select_ofBool (a y = (0 : EReal)) _ _

theorem exp2_at {s : Shape} (v : FVec Ideal s .f32) (y : s.Idx) : (exp2 v y : EReal) = Ideal.exp2 (v y) := rfl

theorem zeroSub_at {s : Shape} (v : FVec Ideal s .f32) (y : s.Idx) :
    (subf (broadcast s (Scalar.ofBits (F := Ideal) .f32 0x00000000#32)) v y : EReal) = 0 - (v y : EReal) := by
  show Ideal.ofBits .f32 0x00000000#32 - v y = _
  rw [Ideal.ofBits_zero_f32]

section generic

variable (v12 : FVec Ideal S64x16384x128 .fp8e4m3) (v23 : FVec Ideal S64x16384 .f32) (v30 : FVec Ideal S64x16384x16384 .f32)
  (v37 : IVec S64x16384x16384 1) (z : Ideal .f32)

theorem pay7_apply (b : Fin 4) (q : Fin 16384) (a : EReal)
    (ha : (Finset.univ.sup fun n : Fin 2048 => max (k0_pay6 v12 v23 v30 v37 z (ix3 b q n) : EReal) (-(k0_pay6 v12 v23 v30 v37 z (ix3 b q n) : EReal))) = a) :
    (k0_pay7 v12 v23 v30 v37 z (ix2 b q) : EReal) = if a = 0 then 0 else
        max (Ideal.liftRound Int.floor (Ideal.div (Ideal.log (a * Ideal.ofBits .f32 0x3B124925#32)) ((Real.log 2 : ℝ) : EReal)) + 1) ((-126 : ℝ) : EReal) := by
  unfold k0_pay7
  refine (expo_apply _ _).trans ?_
  have h : (multiReduction .maximumf [2] S4x16384 (absf (k0_pay6 v12 v23 v30 v37 z)) 0xFF800000#32 reduces_S4x16384x2048_S4x16384 (.inl rfl) rfl (ix2 b q) : EReal)
      = a := (peakMax_apply _ _ _ _ _ _).trans ha
  rw [h]

theorem pay8_apply (b : Fin 4) (u : Fin 1) (q : Fin 16384) :
    (k0_pay8 v12 v23 v30 v37 z (ix3 b u q) : EReal) = Ideal.exp2 (k0_pay7 v12 v23 v30 v37 z (ix2 b q)) := by
  unfold k0_pay8
  refine (shapeCast_apply _ _ _ (ix2 b q) ?_).trans (exp2_at _ _)
  have hu : u.val = 0 := by omega
  rw [Shape.rowMajor_val_three, Shape.rowMajor_val_two]
  show b.val * 16384 + q.val = (b.val * 1 + u.val) * 16384 + q.val
  omega

theorem pay9_apply (y : S4x16384.Idx) :
    (k0_pay9 v12 v23 v30 v37 z y : EReal) = Ideal.exp2 (0 - k0_pay7 v12 v23 v30 v37 z y) := by
  unfold k0_pay9
  refine (exp2_at _ _).trans ?_
  rw [zeroSub_at]

theorem pay1_apply (o : FVec Ideal S4x16384x2048 .f32) (w : FVec Ideal S4x16384 .f32) (b : Fin 4) (q : Fin 16384) (n : Fin 2048) :
    (k0_pay1 o w (ix3 b q n) : EReal) = min ((448 : ℝ) : EReal) (max ((-448 : ℝ) : EReal) (o (ix3 b q n) * w (ix2 b q))) := by
  have h4 : Ideal.ofBits .f32 0xC3E00000#32 = ((-448 : ℝ) : EReal) := by
    simp [Ideal.ofBits, Ideal.ieee, -EReal.coe_mul]; norm_num
  have h5 : Ideal.ofBits .f32 0x43E00000#32 = ((448 : ℝ) : EReal) := by
    simp [Ideal.ofBits, Ideal.ieee, -EReal.coe_mul]; norm_num
  have h6 : broadcastTo S4x16384x2048 (shapeCast S4x16384x1 w shapeCasts_S4x16384_S4x16384x1) broadcasts_S4x16384x1_S4x16384x2048 (ix3 b q n) = w (ix2 b q) := by
    refine (broadcastTo_apply _ _ _ (ix3 b q (0 : Fin 1)) fun c => match c with | ⟨0, _⟩ => rfl | ⟨1, _⟩ => rfl | ⟨2, _⟩ => rfl).trans ?_
    refine shapeCast_apply _ _ _ _ ?_
    rw [Shape.rowMajor_val_three, Shape.rowMajor_val_two]
    show b.val * 16384 + q.val = (b.val * 16384 + q.val) * 1 + 0
    omega
  unfold k0_pay1
  show min (Ideal.ofBits .f32 0x43E00000#32) (max (Ideal.ofBits .f32 0xC3E00000#32) (o (ix3 b q n) * broadcastTo S4x16384x2048 _ _ (ix3 b q n))) = _
  rw [h4, h5, h6]

end generic

theorem e_apply (b : Fin 4) (q : Fin 16384) : eVec D (ix2 b q) = rExpo D b q := by
  unfold eVec rExpo
  refine pay7_apply _ _ _ _ _ b q (rPeak D b q) ?_
  unfold rPeak
  refine Finset.sup_congr rfl fun n _ => ?_
  have h := o_apply D b q n
  unfold oVec at h
  rw [h]

theorem codes_apply (y : S4x16384x2048.Idx) :
    (k0_pay1 (F := Ideal) (oVec D) (k0_pay9 (F := Ideal) (k0_pay2 D.v) (k0_pay3 D.vs) (k0_pay4 D.x D.k D.xs D.ks) k0_pay5 (Scalar.ofBits .f32 0xFF800000#32)) y : EReal)
      = rCodes D y := by
  obtain ⟨b, q, n, rfl⟩ : ∃ (b : Fin 4) (q : Fin 16384) (n : Fin 2048), y = ix3 b q n := ⟨y 0, y 1, y 2, eq_ix3 y⟩
  have h := e_apply D b q
  unfold eVec at h
  rw [pay1_apply, pay9_apply, h, o_apply]
  unfold rCodes
  rfl

theorem scales_out_apply (y : S4x1x16384.Idx) :
    (k0_pay8 (F := Ideal) (k0_pay2 D.v) (k0_pay3 D.vs) (k0_pay4 D.x D.k D.xs D.ks) k0_pay5 (Scalar.ofBits .f32 0xFF800000#32) y : EReal)
      = rScales D y := by
  obtain ⟨b, u, q, rfl⟩ : ∃ (b : Fin 4) (u : Fin 1) (q : Fin 16384), y = ix3 b u q := ⟨y 0, y 1, y 2, eq_ix3 y⟩
  have h := e_apply D b q
  unfold eVec at h
  rw [pay8_apply, h]
  unfold rScales
  rfl

end Cert.ReferenceIdeal.Proof

end
-- ==== Proof.V.Ref.lean ====
/- The reference's run, its two results named. -/
module

public import proofs.«01_k».proof.Proof.V.RefRead
public import Idealize.ShloMosaic.Lib.Pipeline.ValueKit

@[expose] public section

set_option maxRecDepth 16384

noncomputable section

namespace Cert.ReferenceIdeal.Proof

open Cert.ReferenceIdeal Cert.ReferenceIdeal.Gen
open Cert.KernelIdeal.Proof (Arrays col headOf inHead three_coords)
open Idealize.ShloMosaic Idealize.ShloMosaic.TcCoe Idealize.ShloMosaic.Tactic Idealize.SL.Sem

variable (m : (ℓ : Loc nD τ sig) → Buf (Elt Ideal) ℓ) (ρ : Dev nD → PrngReg)

/-- The six arrays as the call finds them. -/
def arrs (c : Dev nD) : Arrays where
  x := V m c main_arg0
  xs := V m c main_arg1
  k := V m c main_arg2
  ks := V m c main_arg3
  v := V m c main_v0
  vs := V m c main_arg5

theorem index0 : ∀ t : Fin cfg0.N, win0_0.index t = ![0, 0, 0] := (by decide +kernel : ∀ t : Fin grid0.N, win0_0.index t = ![0, 0, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0, 0] := (by decide +kernel : ∀ t : Fin grid0.N, win0_2.index t = ![0, 0, 0])
theorem index3 : ∀ t : Fin cfg0.N, win0_3.index t = ![0, 0, 0] := (by decide +kernel : ∀ t : Fin grid0.N, win0_3.index t = ![0, 0, 0])
theorem index4 : ∀ t : Fin cfg0.N, win0_4.index t = ![0, 0, 0] := (by decide +kernel : ∀ t : Fin grid0.N, win0_4.index t = ![0, 0, 0])
theorem index5 : ∀ t : Fin cfg0.N, win0_5.index t = ![0, 0, 0] := (by decide +kernel : ∀ t : Fin grid0.N, win0_5.index t = ![0, 0, 0])
theorem index6 : ∀ t : Fin cfg0.N, win0_6.index t = ![0, 0, 0] := (by decide +kernel : ∀ t : Fin grid0.N, win0_6.index t = ![0, 0, 0])
theorem index7 : ∀ t : Fin cfg0.N, win0_7.index t = ![0, 0, 0] := (by decide +kernel : ∀ t : Fin grid0.N, win0_7.index t = ![0, 0, 0])

theorem block0 (c : Dev nD) (t : Fin cfg0.N) : iblk m c 0 t = V m c main_arg0 := by
  funext y
  refine congrArg (V m c main_arg0) (a₂ := y) ?_
  refine funext (three_coords (Fin.ext ?_) (Fin.ext ?_) (Fin.ext ?_))
  · show (((win0_0.blk t).view.emb y 0 : Fin _) : ℕ) = (y 0).val
    blk_simp [index0]
  · show (((win0_0.blk t).view.emb y 1 : Fin _) : ℕ) = (y 1).val
    blk_simp [index0]
  · show (((win0_0.blk t).view.emb y 2 : Fin _) : ℕ) = (y 2).val
    blk_simp [index0]

theorem block1 (c : Dev nD) (t : Fin cfg0.N) : iblk m c 1 t = V m c main_arg1 := by
  funext y
  refine congrArg (V m c main_arg1) (a₂ := y) ?_
  refine funext (three_coords (Fin.ext ?_) (Fin.ext ?_) (Fin.ext ?_))
  · show (((win0_1.blk t).view.emb y 0 : Fin _) : ℕ) = (y 0).val
    blk_simp [index1]
  · show (((win0_1.blk t).view.emb y 1 : Fin _) : ℕ) = (y 1).val
    blk_simp [index1]
  · show (((win0_1.blk t).view.emb y 2 : Fin _) : ℕ) = (y 2).val
    blk_simp [index1]

theorem block2 (c : Dev nD) (t : Fin cfg0.N) : iblk m c 2 t = V m c main_arg2 := by
  funext y
  refine congrArg (V m c main_arg2) (a₂ := y) ?_
  refine funext (three_coords (Fin.ext ?_) (Fin.ext ?_) (Fin.ext ?_))
  · show (((win0_2.blk t).view.emb y 0 : Fin _) : ℕ) = (y 0).val
    blk_simp [index2]
  · show (((win0_2.blk t).view.emb y 1 : Fin _) : ℕ) = (y 1).val
    blk_simp [index2]
  · show (((win0_2.blk t).view.emb y 2 : Fin _) : ℕ) = (y 2).val
    blk_simp [index2]

theorem block3 (c : Dev nD) (t : Fin cfg0.N) : iblk m c 3 t = V m c main_arg3 := by
  funext y
  refine congrArg (V m c main_arg3) (a₂ := y) ?_
  refine funext (three_coords (Fin.ext ?_) (Fin.ext ?_) (Fin.ext ?_))
  · show (((win0_3.blk t).view.emb y 0 : Fin _) : ℕ) = (y 0).val
    blk_simp [index3]
  · show (((win0_3.blk t).view.emb y 1 : Fin _) : ℕ) = (y 1).val
    blk_simp [index3]
  · show (((win0_3.blk t).view.emb y 2 : Fin _) : ℕ) = (y 2).val
    blk_simp [index3]

theorem block4 (c : Dev nD) (t : Fin cfg0.N) : iblk m c 4 t = V m c main_v0 := by
  funext y
  refine congrArg (V m c main_v0) (a₂ := y) ?_
  refine funext (three_coords (Fin.ext ?_) (Fin.ext ?_) (Fin.ext ?_))
  · show (((win0_4.blk t).view.emb y 0 : Fin _) : ℕ) = (y 0).val
    blk_simp [index4]
  · show (((win0_4.blk t).view.emb y 1 : Fin _) : ℕ) = (y 1).val
    blk_simp [index4]
  · show (((win0_4.blk t).view.emb y 2 : Fin _) : ℕ) = (y 2).val
    blk_simp [index4]

theorem block5 (c : Dev nD) (t : Fin cfg0.N) : iblk m c 5 t = V m c main_arg5 := by
  funext y
  refine congrArg (V m c main_arg5) (a₂ := y) ?_
  refine funext (three_coords (Fin.ext ?_) (Fin.ext ?_) (Fin.ext ?_))
  · show (((win0_5.blk t).view.emb y 0 : Fin _) : ℕ) = (y 0).val
    blk_simp [index5]
  · show (((win0_5.blk t).view.emb y 1 : Fin _) : ℕ) = (y 1).val
    blk_simp [index5]
  · show (((win0_5.blk t).view.emb y 2 : Fin _) : ℕ) = (y 2).val
    blk_simp [index5]

theorem zero3 : (![0, 0, 0] : Fin 3 → ℕ) = fun _ => 0 := by
  funext a
  match a with
  | ⟨0, _⟩ => rfl
  | ⟨1, _⟩ => rfl
  | ⟨2, _⟩ => rfl

theorem out6 (D : Arrays) : out0_6 (F := Ideal) D.x D.xs D.k D.ks D.v D.vs = rCodes D := by
  unfold out0_6 k0_pay13 k0_pay12 k0_pay11 k0_pay10
  refine (View.canon_unit_zero zero3 _ _).trans ?_
  have w : ∀ f : S4x16384x2048.Idx → EReal, View.ld (Val := Elt Ideal) (e' := .fp8e4m3) f r0_0 = f :=
    fun f => View.ld_unit_zero (Val := Elt Ideal) (e := .fp8e4m3) (S := S4x16384x2048) zero3 inb_S4x16384x2048_S4x16384x2048_0_0_0 f
  have n : ∀ f : S4x16384x16.Idx → EReal, View.ld (Val := Elt Ideal) (e' := .f32) f r0_1 = f :=
    fun f => View.ld_unit_zero (Val := Elt Ideal) (e := .f32) (S := S4x16384x16) zero3 inb_S4x16384x16_S4x16384x16_0_0_0 f
  rw [w, w, w, n, n, n]
  exact funext fun y => codes_apply D y

theorem out7 (D : Arrays) : out0_7 (F := Ideal) D.x D.xs D.k D.ks D.v D.vs = rScales D := by
  unfold out0_7 k0_pay13 k0_pay12 k0_pay11 k0_pay10
  refine (View.canon_unit_zero zero3 _ _).trans ?_
  have w : ∀ f : S4x16384x2048.Idx → EReal, View.ld (Val := Elt Ideal) (e' := .fp8e4m3) f r0_0 = f :=
    fun f => View.ld_unit_zero (Val := Elt Ideal) (e := .fp8e4m3) (S := S4x16384x2048) zero3 inb_S4x16384x2048_S4x16384x2048_0_0_0 f
  have n : ∀ f : S4x16384x16.Idx → EReal, View.ld (Val := Elt Ideal) (e' := .f32) f r0_1 = f :=
    fun f => View.ld_unit_zero (Val := Elt Ideal) (e := .f32) (S := S4x16384x16) zero3 inb_S4x16384x16_S4x16384x16_0_0_0 f
  rw [w, w, w, n, n, n]
  exact funext fun y => scales_out_apply D y

theorem final6 (c : Dev nD) : (dats m 0 c).arrAt 6 cfg0.N = rCodes (arrs m c) := by
  refine (dats m 0 c).arrAt_eq_of_covers 6 _ (by decide +kernel) fun t hf y => ?_
  blk_simp
  rw [after0_6, block0, block1, block2, block3, block4, block5]
  refine (congrFun (out6 (arrs m c)) y).trans (congrArg (rCodes (arrs m c)) ?_)
  refine funext (three_coords (Fin.ext ?_) (Fin.ext ?_) (Fin.ext ?_))
  · show (y 0).val = (((win0_6.blk t).view.emb y 0 : Fin _) : ℕ)
    blk_simp [index6]
  · show (y 1).val = (((win0_6.blk t).view.emb y 1 : Fin _) : ℕ)
    blk_simp [index6]
  · show (y 2).val = (((win0_6.blk t).view.emb y 2 : Fin _) : ℕ)
    blk_simp [index6]

theorem final7 (c : Dev nD) : (dats m 0 c).arrAt 7 cfg0.N = rScales (arrs m c) := by
  refine (dats m 0 c).arrAt_eq_of_covers 7 _ (by decide +kernel) fun t hf y => ?_
  blk_simp
  rw [after0_7, block0, block1, block2, block3, block4, block5]
  refine (congrFun (out7 (arrs m c)) y).trans (congrArg (rScales (arrs m c)) ?_)
  refine funext (three_coords (Fin.ext ?_) (Fin.ext ?_) (Fin.ext ?_))
  · show (y 0).val = (((win0_7.blk t).view.emb y 0 : Fin _) : ℕ)
    blk_simp [index7]
  · show (y 1).val = (((win0_7.blk t).view.emb y 1 : Fin _) : ℕ)
    blk_simp [index7]
  · show (y 2).val = (((win0_7.blk t).view.emb y 2 : Fin _) : ℕ)
    blk_simp [index7]

/-- The run, the two results named. -/
theorem run_values : θ_run defs (onTc (τ := τ) (main (F := Ideal))) ⟨m, fun _ => 0, ρ⟩ fun r => ∀ c : Dev nD,
      r.2.mem ((c : Thread nD τ).loc main_v1_0) = rCodes (arrs m c)
      ∧ r.2.mem ((c : Thread nD τ).loc main_v1_1) = rScales (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.ReferenceIdeal.Proof

end
-- ==== Proof.V.Equal.lean ====
/- The kernel's blockwise attention is the reference's attention, and its magnitude is in the range of the exponent's
   search. -/
module

public import proofs.«01_k».proof.Proof.V.Values
public import proofs.«01_k».proof.Proof.V.RefRead

@[expose] public section

set_option maxRecDepth 16384

noncomputable section

namespace Cert.KernelIdeal.Proof

open Cert.KernelIdeal.Gen
open Cert.ReferenceIdeal.Proof (rsq rScore rT rMax rE rSum rO rPeak rExpo rCodes rScales)
open Idealize.ShloMosaic Idealize.ShloMosaic.TcCoe Idealize.ShloMosaic.ValueIdx

/-- The key `p` is in the window of the query `q`. -/
def Vis (q p : Fin 16384) : Prop := p.val ≤ q.val ∧ q.val < 1000 + p.val

instance (q p : Fin 16384) : Decidable (Vis q p) := by unfold Vis; infer_instance

theorem sees_iff (i : Fin 64) (q p : Fin 256) (d : ℕ) (hd : d < seen i) : sees d p q ↔ Vis (pos i q) (pos (back i d) p) := by
  have hd' : d < min (i.val + 1) 5 := hd
  show (p.val ≤ 256 * d + q.val ∧ 256 * d + q.val < 1000 + p.val)
    ↔ (256 * (i.val - d) + p.val ≤ 256 * i.val + q.val ∧ 256 * i.val + q.val < 1000 + (256 * (i.val - d) + p.val))
  omega

/-- A key in the window lies in a block that the kernel sees. -/
theorem seen_of_vis (i : Fin 64) (q : Fin 256) (p : Fin 16384) (h : Vis (pos i q) p) :
    ∃ d, d < seen i ∧ pos (back i d) (inBlock p) = p := by
  have h1 : p.val ≤ 256 * i.val + q.val := h.1
  have h2 : 256 * i.val + q.val < 1000 + p.val := h.2
  refine ⟨i.val - p.val / 256, ?_, Fin.ext ?_⟩
  · show i.val - p.val / 256 < min (i.val + 1) 5
    omega
  · show 256 * (i.val - (i.val - p.val / 256)) + p.val % 256 = p.val
    omega

/-- A sum over the keys of the seen blocks is a sum over all keys, if the others' terms are zero. -/
theorem sum_seen (i : Fin 64) (q : Fin 256) (F : Fin 16384 → EReal) (hF : ∀ p, ¬ Vis (pos i q) p → F p = 0) :
    ∑ d ∈ Finset.range (seen i), ∑ p, F (pos (back i d) p) = ∑ p, F p := by
  rw [← Finset.sum_product']
  refine Finset.sum_of_injOn (fun x : ℕ × Fin 256 => pos (back i x.1) x.2) ?_ ?_ ?_ ?_
  · rintro ⟨d, p⟩ hx ⟨d', p'⟩ hx' e
    have hd : d < min (i.val + 1) 5 := Finset.mem_range.1 (Finset.mem_product.1 (Finset.mem_coe.1 hx)).1
    have hd' : d' < min (i.val + 1) 5 := Finset.mem_range.1 (Finset.mem_product.1 (Finset.mem_coe.1 hx')).1
    have e' : 256 * (i.val - d) + p.val = 256 * (i.val - d') + p'.val := congrArg Fin.val e
    have e1 : d = d' := by omega
    have e2 : p = p' := Fin.ext (by omega)
    rw [e1, e2]
  · exact fun x _ => Finset.mem_coe.2 (Finset.mem_univ _)
  · intro p _ hp
    refine hF p fun hv => hp ?_
    obtain ⟨d, hd, e⟩ := seen_of_vis i q p hv
    exact ⟨(d, inBlock p), Finset.mem_coe.2 (Finset.mem_product.2 ⟨Finset.mem_range.2 hd, Finset.mem_univ _⟩), e⟩
  · exact fun x _ => rfl

/-- The same of a largest value, if the others are minus infinity. -/
theorem sup_seen (i : Fin 64) (q : Fin 256) (F : Fin 16384 → EReal) (hF : ∀ p, ¬ Vis (pos i q) p → F p = ⊥) :
    ((Finset.range (seen i)).sup fun d => Finset.univ.sup fun p => F (pos (back i d) p)) = Finset.univ.sup F := by
  refine le_antisymm (Finset.sup_le fun d _ => Finset.sup_le fun p _ => Finset.le_sup (f := F) (Finset.mem_univ _)) (Finset.sup_le fun p _ => ?_)
  by_cases hv : Vis (pos i q) p
  · obtain ⟨d, hd, e⟩ := seen_of_vis i q p hv
    have h1 : F (pos (back i d) (inBlock p)) ≤ Finset.univ.sup fun p => F (pos (back i d) p) :=
      Finset.le_sup (f := fun p => F (pos (back i d) p)) (Finset.mem_univ _)
    have h2 := Finset.le_sup (f := fun d => Finset.univ.sup fun p => F (pos (back i d) p)) (Finset.mem_range.2 hd)
    rw [e] at h1
    exact h1.trans h2
  · rw [hF p hv]
    exact bot_le

/-- A positive real factor comes out of a largest value. -/
theorem sup_mul {ι : Type} (s : Finset ι) (f : ι → EReal) (a : ℝ) (ha : 0 < a) : (s.sup fun x => f x * (a : EReal)) = s.sup f * (a : EReal) := by
  have ha' : (0 : EReal) < (a : EReal) := EReal.coe_pos.2 ha
  refine (Finset.apply_sup_eq_sup_comp_of_linearOrder (fun y : EReal => y * (a : EReal)) ?_ ?_).symm
  · exact fun y z h => mul_le_mul_of_nonneg_right h ha'.le
  · exact EReal.bot_mul_of_pos ha'

/-- And of a difference. -/
theorem sub_mul_pos (x y : EReal) (a : ℝ) (ha : 0 < a) : x * (a : EReal) - y * (a : EReal) = (x - y) * (a : EReal) := by
  rw [sub_eq_add_neg, sub_eq_add_neg, EReal.right_distrib_of_nonneg_of_ne_top (EReal.coe_nonneg.2 ha.le) (EReal.coe_ne_top a), neg_mul]

/-- A power of two is an exponential. -/
theorem exp2_scale (w : EReal) (s : ℝ) (hs : 0 < s) :
    Ideal.exp2 (w * ((s : EReal) * (((Real.log 2)⁻¹ * (Real.sqrt 128)⁻¹ : ℝ) : EReal))) = Ideal.exp (w * ((s * rsq : ℝ) : EReal)) := by
  have hl : 0 < Real.log 2 := Real.log_pos (by norm_num)
  have hr : 0 < rsq := by unfold rsq; positivity
  have hC : 0 < s * ((Real.log 2)⁻¹ * (Real.sqrt 128)⁻¹) := by positivity
  rw [← EReal.coe_mul]
  induction w with
  | bot => rw [EReal.bot_mul_of_pos (EReal.coe_pos.2 hC), EReal.bot_mul_of_pos (EReal.coe_pos.2 (mul_pos hs hr))]; rfl
  | top => rw [EReal.top_mul_of_pos (EReal.coe_pos.2 hC), EReal.top_mul_of_pos (EReal.coe_pos.2 (mul_pos hs hr))]; rfl
  | coe w =>
    rw [← EReal.coe_mul, ← EReal.coe_mul]
    show ((Real.rpow 2 _ : ℝ) : EReal) = ((Real.exp _ : ℝ) : EReal)
    refine EReal.coe_eq_coe_iff.2 ?_
    show (2 : ℝ) ^ (w * (s * ((Real.log 2)⁻¹ * (Real.sqrt 128)⁻¹))) = _
    rw [Real.rpow_def_of_pos (by norm_num)]
    congr 1
    unfold rsq
    field_simp

section rows

variable (D : Arrays) (b : Fin 4) (h : Fin 16) (i : Fin 64) (q : Fin 256)

/-- The score of a query and a key, without the query's scale. -/
def bare (p : Fin 16384) : EReal :=
  if Vis (pos i q) p then (∑ e : Fin 128, D.k (ix3 b p (col h e)) * D.x (ix3 b (pos i q) (col h e))) * D.ks (ix3 b p h) else ⊥

theorem T_eq (p : Fin 256) (d : ℕ) (hd : d < seen i) : T (tiles D b i h) d p q = bare D b h i q (pos (back i d) p) := by
  have hk : (tiles D b i h).ks d (hi p) (ix4 (0 : Fin 1) (0 : Fin 1) (lo p) (lo q)) = D.ks (ix3 b (pos (back i d) p) h) :=
    congrArg (fun p' => D.ks (ix3 b (pos (back i d) p') h)) (part_hi_lo p)
  unfold T bare
  rw [hk]
  exact if_congr (sees_iff i q p d hd) rfl rfl

theorem M_eq : M (tiles D b i h) (seen i) q = Finset.univ.sup (bare D b h i q) := by
  rw [← sup_seen i q (bare D b h i q) fun p hp => if_neg hp]
  exact Finset.sup_congr rfl fun d hd => Finset.sup_congr rfl fun p _ => T_eq D b h i q p d (Finset.mem_range.1 hd)

variable (s : ℝ) (hs : 0 < s) (hx : D.xs (ix3 b (pos i q) h) = (s : EReal))

include hs hx

theorem rT_eq (p : Fin 16384) : rT D b h (pos i q) p = bare D b h i q p * ((s * rsq : ℝ) : EReal) := by
  unfold rT bare
  by_cases hv : Vis (pos i q) p
  · refine (if_pos hv).trans ?_
    rw [if_pos hv]
    unfold rScore
    rw [hx, ← EReal.coe_mul, mul_right_comm]
    refine congrArg (fun z => z * D.ks (ix3 b p h) * ((s * rsq : ℝ) : EReal)) (Finset.sum_congr rfl fun e _ => mul_comm _ _)
  · refine (if_neg hv).trans ?_
    rw [if_neg hv]
    exact (EReal.bot_mul_of_pos (EReal.coe_pos.2 (mul_pos hs (by unfold rsq; positivity)))).symm

theorem rMax_eq : rMax D b h (pos i q) = Finset.univ.sup (bare D b h i q) * ((s * rsq : ℝ) : EReal) := by
  unfold rMax
  rw [← sup_mul _ _ _ (mul_pos hs (by unfold rsq; positivity))]
  exact Finset.sup_congr rfl fun p _ => rT_eq D b h i q s hs hx p

theorem rE_eq (p : Fin 16384) :
    rE D b h (pos i q) p = Ideal.exp ((bare D b h i q p - Finset.univ.sup (bare D b h i q)) * ((s * rsq : ℝ) : EReal)) := by
  unfold rE
  rw [rT_eq D b h i q s hs hx, rMax_eq D b h i q s hs hx, sub_mul_pos _ _ _ (mul_pos hs (by unfold rsq; positivity))]

/-- A key outside the window has no weight. -/
theorem rE_unseen (p : Fin 16384) (hp : ¬ Vis (pos i q) p) : rE D b h (pos i q) p = 0 := by
  rw [rE_eq D b h i q s hs hx]
  have e : bare D b h i q p = ⊥ := if_neg hp
  rw [e, EReal.bot_sub, EReal.bot_mul_of_pos (EReal.coe_pos.2 (mul_pos hs (by unfold rsq; positivity)))]
  rfl

theorem P_eq (p : Fin 256) (d : ℕ) (hd : d < seen i) : P (tiles D b i h) (seen i) d p q = rE D b h (pos i q) (pos (back i d) p) := by
  have hA : A (tiles D b i h) q = (s : EReal) * (((Real.log 2)⁻¹ * (Real.sqrt 128)⁻¹ : ℝ) : EReal) := by
    rw [← hx]
    exact congrArg (fun q' => D.xs (ix3 b (pos i q') h) * (((Real.log 2)⁻¹ * (Real.sqrt 128)⁻¹ : ℝ) : EReal)) (part_hi_lo q)
  unfold P
  rw [hA, T_eq D b h i q p d hd, M_eq, exp2_scale _ s hs, rE_eq D b h i q s hs hx]

theorem L_eq : L (tiles D b i h) (seen i) q = rSum D b h (pos i q) := by
  unfold L rSum
  rw [← sum_seen i q (fun p => rE D b h (pos i q) p) (rE_unseen D b h i q s hs hx)]
  exact Finset.sum_congr rfl fun d hd => Finset.sum_congr rfl fun p _ => P_eq D b h i q s hs hx p d (Finset.mem_range.1 hd)

/-- The attention of the kernel is the attention of the reference. -/
theorem attn_eq (c : Fin 128) : attn D b i q h c = rO D b (pos i q) h c := by
  unfold attn O rO
  rw [L_eq D b h i q s hs hx, ← sum_seen i q _ fun p hp => ?_]
  · refine Finset.sum_congr rfl fun d hd => Finset.sum_congr rfl fun p _ => ?_
    rw [P_eq D b h i q s hs hx p d (Finset.mem_range.1 hd)]
    show D.v (ix3 b (pos (back i d) p) (col h c)) * D.vs (ix3 b (pos (back i d) p) h) * _ = _
    rw [mul_comm, mul_comm (D.v _), mul_assoc, mul_assoc, mul_assoc]
  · rw [rE_unseen D b h i q s hs hx p hp, zero_mul, zero_mul, zero_mul]

end rows

end Cert.KernelIdeal.Proof
-- ==== Proof.V.Bound.lean ====
/- The attention is bounded by the values it averages, so the magnitude is in the range of the exponent's search; and the
   kernel's two result arrays are the reference's. -/
module

public import proofs.«01_k».proof.Proof.V.Equal

@[expose] public section

set_option maxRecDepth 16384

noncomputable section

namespace Cert.KernelIdeal.Proof

open Cert.KernelIdeal.Gen
open Cert.ReferenceIdeal.Proof (rsq rScore rT rMax rE rSum rO rPeak rExpo rCodes rScales)
open Idealize.ShloMosaic Idealize.ShloMosaic.TcCoe Idealize.ShloMosaic.ValueIdx

theorem coe_sum {ι : Type} (s : Finset ι) (f : ι → ℝ) : ((∑ x ∈ s, f x : ℝ) : EReal) = ∑ x ∈ s, (f x : EReal) := by
  classical
  induction s using Finset.induction with
  | empty => rfl
  | insert a s ha ih => rw [Finset.sum_insert ha, Finset.sum_insert ha, EReal.coe_add, ih]

/-- The exponential of what is at most zero is a real number. -/
theorem exp_real (x : EReal) (hx : x ≤ 0) : ∃ e : ℝ, 0 ≤ e ∧ Ideal.exp x = (e : EReal) := by
  induction x with
  | bot => exact ⟨0, le_refl 0, rfl⟩
  | top => exact absurd hx (by simp)
  | coe x => exact ⟨Real.exp x, (Real.exp_pos x).le, rfl⟩

/-- Real weights over their sum are nonnegative and add up to at most one. -/
theorem normal {ι : Type} [Fintype ι] (E : ι → EReal) (hE : ∀ p, ∃ e : ℝ, 0 ≤ e ∧ E p = (e : EReal)) :
    ∃ w : ι → ℝ, (∀ p, 0 ≤ w p) ∧ ∑ p, w p ≤ 1 ∧ ∀ p, E p * Ideal.div 1 (∑ p, E p) = (w p : EReal) := by
  choose e he h using hE
  have hs : ∑ p, E p = ((∑ p, e p : ℝ) : EReal) := by
    rw [coe_sum]
    exact Finset.sum_congr rfl fun p _ => h p
  by_cases h0 : ∑ p, e p = 0
  · refine ⟨fun _ => 0, fun _ => le_refl 0, by simp, fun p => ?_⟩
    have hp := (Finset.sum_eq_zero_iff_of_nonneg fun p _ => he p).1 h0 p (Finset.mem_univ _)
    rw [h, hp, EReal.coe_zero, zero_mul]
  · refine ⟨fun p => e p * (∑ p, e p)⁻¹, fun p => mul_nonneg (he p) (inv_nonneg.2 (Finset.sum_nonneg fun p _ => he p)), ?_, fun p => ?_⟩
    · rw [← Finset.sum_mul, mul_inv_cancel₀ h0]
    · rw [hs, h]
      unfold Ideal.div
      rw [if_neg (by exact_mod_cast h0), one_mul, ← EReal.coe_inv, ← EReal.coe_mul]

/-- A largest of real numbers between zero and a bound is one. -/
theorem sup_real {ι : Type} [Fintype ι] [Nonempty ι] (f : ι → EReal) (B : ℝ) (hf : ∀ x, ∃ r : ℝ, f x = (r : EReal) ∧ 0 ≤ r ∧ r ≤ B) :
    ∃ r : ℝ, Finset.univ.sup f = (r : EReal) ∧ 0 ≤ r ∧ r ≤ B := by
  obtain ⟨x, -, e⟩ := Finset.exists_mem_eq_sup Finset.univ Finset.univ_nonempty f
  rw [e]
  exact hf x

/-- The word of `1/448`. -/
theorem word_448 : Ideal.ofBits .f32 0x3B124925#32 = ((9586981 / 2 ^ 32 : ℝ) : EReal) := by
  simp [Ideal.ofBits, Ideal.ieee, -EReal.coe_mul]
  norm_num

/-- What the arrays satisfy: the scales of the queries are positive and real, the values and their scales real and bounded. -/
structure Fine (D : Arrays) : Prop where
  xs : ∀ y, ∃ r : ℝ, 0 < r ∧ D.xs y = (r : EReal)
  v : ∀ y, ∃ r : ℝ, |r| ≤ 448 ∧ D.v y = (r : EReal)
  vs : ∀ y, ∃ r : ℝ, |r| ≤ 2 ^ 125 ∧ D.vs y = (r : EReal)

section fine

variable (D : Arrays) (hD : Fine D)

include hD

theorem attn_fine (b : Fin 4) (i : Fin 64) (q : Fin 256) (h : Fin 16) (c : Fin 128) : attn D b i q h c = rO D b (pos i q) h c := by
  obtain ⟨s, hs, hx⟩ := hD.xs (ix3 b (pos i q) h)
  exact attn_eq D b h i q s hs hx c

theorem weights_fine (b : Fin 4) (i : Fin 64) (q : Fin 256) (h : Fin 16) :
    ∃ w : Fin 16384 → ℝ, (∀ p, 0 ≤ w p) ∧ ∑ p, w p ≤ 1 ∧ ∀ p, rE D b h (pos i q) p * Ideal.div 1 (rSum D b h (pos i q)) = (w p : EReal) := by
  obtain ⟨s, hs, hx⟩ := hD.xs (ix3 b (pos i q) h)
  refine normal (fun p => rE D b h (pos i q) p) fun p => ?_
  rw [rE_eq D b h i q s hs hx]
  have h1 : bare D b h i q p ≤ Finset.univ.sup (bare D b h i q) := Finset.le_sup (Finset.mem_univ p)
  exact exp_real _ (mul_nonpos_of_nonpos_of_nonneg (EReal.sub_nonpos.2 h1) (EReal.coe_nonneg.2 (mul_pos hs (by unfold rsq; positivity)).le))

/-- The attention is real and bounded. -/
theorem attn_real (b : Fin 4) (i : Fin 64) (q : Fin 256) (h : Fin 16) (c : Fin 128) :
    ∃ r : ℝ, attn D b i q h c = (r : EReal) ∧ |r| ≤ 448 * 2 ^ 125 := by
  obtain ⟨w, hw, hw1, e⟩ := weights_fine D hD b i q h
  choose v hv ev using hD.v
  choose vs hvs evs using hD.vs
  refine ⟨∑ p, w p * vs (ix3 b p h) * v (ix3 b p (col h c)), ?_, ?_⟩
  · rw [attn_fine D hD, coe_sum]
    refine Finset.sum_congr rfl fun p _ => ?_
    rw [e, ev, evs, EReal.coe_mul, EReal.coe_mul]
  · refine (Finset.abs_sum_le_sum_abs _ _).trans ?_
    have hp : ∀ p ∈ Finset.univ, |w p * vs (ix3 b p h) * v (ix3 b p (col h c))| ≤ w p * (448 * 2 ^ 125) := fun p _ => by
      rw [abs_mul, abs_mul, abs_of_nonneg (hw p), mul_assoc]
      refine mul_le_mul_of_nonneg_left ?_ (hw p)
      rw [mul_comm]
      exact mul_le_mul (hv _) (hvs _) (abs_nonneg _) (by norm_num)
    refine (Finset.sum_le_sum hp).trans ?_
    rw [← Finset.sum_mul]
    exact mul_le_of_le_one_left (by positivity) hw1

/-- The largest magnitude over `448` is in the range of the search. -/
theorem fill_range (b : Fin 4) (i : Fin 64) (q : Fin 256) : ∃ x : ℝ, fill D b i q = (x : EReal) ∧ 0 ≤ x ∧ x < 2 ^ 126 := by
  obtain ⟨r, e, h0, h1⟩ := sup_real (fun h : Fin 16 => Finset.univ.sup fun c : Fin 128 => max (attn D b i q h c) (-attn D b i q h c)) (448 * 2 ^ 125)
    fun h => sup_real (fun c : Fin 128 => max (attn D b i q h c) (-attn D b i q h c)) (448 * 2 ^ 125) fun c => by
      obtain ⟨r, e, hr⟩ := attn_real D hD b i q h c
      refine ⟨|r|, ?_, abs_nonneg r, hr⟩
      rw [e, ← EReal.coe_neg, abs_eq_max_neg]
      exact (EReal.coe_strictMono.monotone.map_max).symm
  refine ⟨r * (9586981 / 2 ^ 32), ?_, by positivity, ?_⟩
  · unfold fill
    rw [e, word_448, ← EReal.coe_mul]
  · calc r * (9586981 / 2 ^ 32) ≤ 448 * 2 ^ 125 * (9586981 / 2 ^ 32) := mul_le_mul_of_nonneg_right h1 (by positivity)
      _ < 2 ^ 126 := by norm_num

/-- The exponents of the two programs. -/
theorem expo_fill (b : Fin 4) (i : Fin 64) (q : Fin 256) : expo (fill D b i q) = rExpo D b (pos i q) := by
  have hp : (Finset.univ.sup fun h : Fin 16 => Finset.univ.sup fun c : Fin 128 => max (attn D b i q h c) (-attn D b i q h c)) = rPeak D b (pos i q) := by
    unfold rPeak
    simp only [attn_fine D hD]
    refine le_antisymm (Finset.sup_le fun h _ => Finset.sup_le fun c _ => ?_) (Finset.sup_le fun n _ => ?_)
    · have := Finset.le_sup (f := fun n : Fin 2048 => max (rO D b (pos i q) (headOf n) (inHead n)) (-rO D b (pos i q) (headOf n) (inHead n)))
        (Finset.mem_univ (col h c))
      have hc : inHead (col h c) = c := Fin.ext (by show (128 * h.val + c.val) % 128 = c.val; omega)
      simpa only [headOf_col, hc] using this
    · exact (Finset.le_sup (f := fun c => max (rO D b (pos i q) (headOf n) c) (-rO D b (pos i q) (headOf n) c)) (Finset.mem_univ (inHead n))).trans
        (Finset.le_sup (f := fun h => Finset.univ.sup fun c => max (rO D b (pos i q) h c) (-rO D b (pos i q) h c)) (Finset.mem_univ (headOf n)))
  unfold expo fill rExpo
  rw [hp]
  refine if_congr ?_ rfl rfl
  rw [word_448, mul_eq_zero, or_iff_left]
  exact_mod_cast (by norm_num : (9586981 / 2 ^ 32 : ℝ) ≠ 0)

theorem expo_same (b : Fin 4) (t : Fin 16384) : expo (fill D b (blockOf t) (inBlock t)) = rExpo D b t := by
  rw [expo_fill D hD, pos_blockOf]

theorem attn_same (b : Fin 4) (t : Fin 16384) (h : Fin 16) (c : Fin 128) : attn D b (blockOf t) (inBlock t) h c = rO D b t h c := by
  rw [attn_fine D hD, pos_blockOf]

/-- The codes of the two programs. -/
theorem codes_same : kCodes D = rCodes D :=
  funext fun y => congrArg₂ (fun o e : EReal => min ((448 : ℝ) : EReal) (max ((-448 : ℝ) : EReal) (o * Ideal.exp2 (0 - e))))
    (attn_same D hD (y 0) (y 1) (headOf (y 2)) (inHead (y 2))) (expo_same D hD (y 0) (y 1))

/-- Their scales. -/
theorem scales_same : kScales D = rScales D := funext fun y => congrArg Ideal.exp2 (expo_same D hD (y 0) (y 2))

end fine

end Cert.KernelIdeal.Proof
-- ==== Proof.V.Pre.lean ====
/- What the precondition says of the six arrays. -/
module

public import proofs.«01_k».proof.Pre_finite
public import proofs.«01_k».proof.Proof.Gen.Pre_finite
public import proofs.«01_k».proof.Proof.V.Bound
public import Idealize.ShloMosaic.Lib.ReduceAll

@[expose] public section

set_option maxRecDepth 16384

noncomputable section

namespace Cert.KernelIdeal.Proof

open Idealize.ShloMosaic

theorem bits_nan : ∀ b : BitVec 8, (b.extractLsb' 3 4).toNat = 15 ∧ (b.extractLsb' 0 3).toNat = 7 → b = 127#8 ∨ b = 255#8 := by decide +kernel

/-- A code that is not one of the two patterns without a value denotes a real number of magnitude at most `448`. -/
theorem code_real (b : BitVec 8) (h1 : b ≠ 127#8) (h2 : b ≠ 255#8) : ∃ r : ℝ, |r| ≤ 448 ∧ (Ideal.ofBits .fp8e4m3 b : EReal) = (r : EReal) := by
  have hn : ¬ ((b.extractLsb' 3 4).toNat = 15 ∧ (b.extractLsb' 0 3).toNat = 7) := fun h => (bits_nan b h).elim h1 h2
  have hex : (b.extractLsb' 3 4).toNat < 16 := (b.extractLsb' 3 4).isLt
  have hfr : (b.extractLsb' 0 3).toNat < 8 := (b.extractLsb' 0 3).isLt
  have hsg : |(if (b.extractLsb' 7 1 == 1#1) = true then -1 else 1 : ℝ)| = 1 := by split_ifs <;> simp
  show ∃ r : ℝ, |r| ≤ 448 ∧ Ideal.e4m3fn b = (r : EReal)
  unfold Ideal.e4m3fn
  simp only []
  generalize (b.extractLsb' 3 4).toNat = ex at *
  generalize (b.extractLsb' 0 3).toNat = fr at *
  generalize (if (b.extractLsb' 7 1 == 1#1) = true then -1 else 1 : ℝ) = sg at *
  rw [if_neg hn]
  by_cases h0 : ex = 0
  · rw [if_pos h0]
    refine ⟨_, ?_, rfl⟩
    rw [abs_mul, abs_mul, hsg, one_mul, Nat.abs_cast, abs_of_pos (by positivity : (0 : ℝ) < 2 ^ (-9 : ℤ))]
    have : (fr : ℝ) ≤ 8 := by exact_mod_cast hfr.le
    calc (fr : ℝ) * 2 ^ (-9 : ℤ) ≤ 8 * 2 ^ (-9 : ℤ) := mul_le_mul_of_nonneg_right this (by positivity)
      _ ≤ 448 := by norm_num
  · rw [if_neg h0]
    refine ⟨_, ?_, rfl⟩
    rw [abs_mul, abs_mul, hsg, one_mul, Nat.abs_cast, abs_of_pos (by positivity : (0 : ℝ) < 2 ^ ((ex : ℤ) - 10))]
    by_cases h15 : ex = 15
    · have : ((8 + fr : ℕ) : ℝ) ≤ 14 := by exact_mod_cast (by omega : 8 + fr ≤ 14)
      calc ((8 + fr : ℕ) : ℝ) * 2 ^ ((ex : ℤ) - 10) ≤ 14 * 2 ^ ((ex : ℤ) - 10) := mul_le_mul_of_nonneg_right this (by positivity)
        _ ≤ 448 := by rw [h15]; norm_num
    · have h8 : ((8 + fr : ℕ) : ℝ) ≤ 16 := by exact_mod_cast (by omega : 8 + fr ≤ 16)
      have h4 : (2 : ℝ) ^ ((ex : ℤ) - 10) ≤ 2 ^ (4 : ℤ) := zpow_le_zpow_right₀ (by norm_num) (by omega)
      calc ((8 + fr : ℕ) : ℝ) * 2 ^ ((ex : ℤ) - 10) ≤ 16 * 2 ^ (4 : ℤ) := mul_le_mul h8 h4 (by positivity) (by norm_num)
        _ ≤ 448 := by norm_num

theorem word_zero : (Ideal.ofBits .f32 0x00000000#32 : EReal) = 0 := by
  simp [Ideal.ofBits, Ideal.ieee]

theorem word_inf : (Ideal.ofBits .f32 0x7F800000#32 : EReal) = ⊤ := by
  simp [Ideal.ofBits, Ideal.ieee]

theorem word_125 : (Ideal.ofBits .f32 0x7E000000#32 : EReal) = ((2 ^ 125 : ℝ) : EReal) := by
  have h : (Ideal.ofBits .f32 0x7E000000#32 : EReal) = ((42535295865117307932921825928971026432 : ℝ) : EReal) := by
    simp [Ideal.ofBits, Ideal.ieee, -EReal.coe_mul]
    norm_num
  rw [h]
  exact EReal.coe_eq_coe_iff.2 (by norm_num)

theorem bool_one (b : Bool) : BitVec.ofBool b = 1#1 ↔ b = true := by cases b <;> decide

instance : Subsingleton Cert.Pre_finite.S_.Idx := ⟨fun _ _ => funext fun d => d.elim0⟩

theorem pos_real (z : EReal) (h0 : 0 < z) (h1 : z < ⊤) : ∃ r : ℝ, 0 < r ∧ z = (r : EReal) := by
  induction z with
  | bot => exact absurd h0 (by simp)
  | top => exact absurd h1 (lt_irrefl _)
  | coe r => exact ⟨r, EReal.coe_pos.1 h0, rfl⟩

theorem abs_real (z : EReal) (B : ℝ) (h0 : z ≤ (B : EReal)) (h1 : -z ≤ (B : EReal)) : ∃ r : ℝ, |r| ≤ B ∧ z = (r : EReal) := by
  induction z with
  | bot => exact absurd h1 (by simp)
  | top => exact absurd h0 (by simp)
  | coe r =>
    rw [← EReal.coe_neg] at h1
    exact ⟨r, abs_le'.2 ⟨EReal.coe_le_coe_iff.1 h0, EReal.coe_le_coe_iff.1 h1⟩, rfl⟩

/-- The precondition, read element by element. -/
theorem pre_read (x k : FVec Ideal Cert.Pre_finite.S4x16384x2048 .fp8e4m3) (xs ks vs : FVec Ideal Cert.Pre_finite.S4x16384x16 .f32)
    (v : IVec Cert.Pre_finite.S4x16384x2048 8) (h : Cert.Pre_finite.fn (F := Ideal) x xs k ks v vs = fun _ => 1#1) :
    (∀ y, ∃ r : ℝ, 0 < r ∧ (xs y : EReal) = (r : EReal)) ∧ (∀ y, v y ≠ 127#8 ∧ v y ≠ 255#8)
      ∧ ∀ y, ∃ r : ℝ, |r| ≤ 2 ^ 125 ∧ (vs y : EReal) = (r : EReal) := by
  have h0 := congrFun h (fun d => d.elim0)
  obtain ⟨h12, h3⟩ := IntOp.andi_eq_one.1 h0
  obtain ⟨h1, h2⟩ := IntOp.andi_eq_one.1 h12
  refine ⟨fun y => ?_, fun y => ?_, fun y => ?_⟩
  · obtain ⟨e1, e2⟩ := IntOp.andi_eq_one.1 (Host.reduce_andi_all _ _ _ _ _ h1 y)
    have e1' : BitVec.ofBool (decide ((Ideal.ofBits .f32 0x00000000#32 : EReal) < xs y)) = 1#1 := e1
    have e2' : BitVec.ofBool (decide ((xs y : EReal) < (Ideal.ofBits .f32 0x7F800000#32 : EReal))) = 1#1 := e2
    rw [bool_one, decide_eq_true_eq, word_zero] at e1'
    rw [bool_one, decide_eq_true_eq, word_inf] at e2'
    exact pos_real _ e1' e2'
  · obtain ⟨e1, e2⟩ := IntOp.andi_eq_one.1 (Host.reduce_andi_all _ _ _ _ _ h2 y)
    exact ⟨IntOp.cmpi_ne.1 e1, IntOp.cmpi_ne.1 e2⟩
  · have e := Host.reduce_andi_all _ _ _ _ _ h3 y
    have e' : BitVec.ofBool (decide (max (vs y : EReal) (-(vs y : EReal)) ≤ (Ideal.ofBits .f32 0x7E000000#32 : EReal))) = 1#1 := e
    rw [bool_one, decide_eq_true_eq, word_125, max_le_iff] at e'
    exact abs_real _ _ e'.1 e'.2

end Cert.KernelIdeal.Proof
-- ==== Proof.V.Main.lean ====
/- The two programs end with the same results. -/
module

public import proofs.«01_k».proof.Defs
public import proofs.«01_k».proof.Proof.V.Kernel
public import proofs.«01_k».proof.Proof.V.Ref
public import proofs.«01_k».proof.Proof.V.Pre

@[expose] public section

set_option maxRecDepth 16384

noncomputable section

namespace Cert.KernelIdeal.Proof

open Idealize.ShloMosaic Idealize.ShloMosaic.TcCoe Idealize.SL.Sem

theorem arrays_ext {D E : Arrays} (h0 : D.x = E.x) (h1 : D.xs = E.xs) (h2 : D.k = E.k) (h3 : D.ks = E.ks) (h4 : D.v = E.v) (h5 : D.vs = E.vs) : D = E := by
  cases D
  cases E
  cases h0
  cases h1
  cases h2
  cases h3
  cases h4
  cases h5
  rfl

/-- The numbers that eight-bit codes denote. -/
def decode (v : IVec Cert.Pre_finite.S4x16384x2048 8) : Cert.Pre_finite.S4x16384x2048.Idx → EReal := bitcastToFloat (F := Ideal) .fp8e4m3 v

/-- The values as the kernel's call finds them. -/
theorem V_v0 (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0
      = decode (m ((c.tc : Thread Cert.KernelIdeal.nD Cert.KernelIdeal.τ).loc Cert.KernelIdeal.main_arg4)) := by
  unfold Cert.KernelIdeal.Gen.V Cert.KernelIdeal.Gen.hostOps0
  rw [StableHlo.after_cons, StableHlo.after_nil]
  exact StableHlo.unary_result ..

/-- The values as the reference's call finds them. -/
theorem V_v0' (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v0
      = decode (m ((c.tc : Thread Cert.ReferenceIdeal.nD Cert.ReferenceIdeal.τ).loc Cert.ReferenceIdeal.main_arg4)) := by
  unfold Cert.ReferenceIdeal.Gen.V Cert.ReferenceIdeal.Gen.hostOps0
  rw [StableHlo.after_cons, StableHlo.after_nil]
  exact StableHlo.unary_result ..

/-- From equal arguments the two calls find the same arrays. -/
theorem arrs_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Proof.arrs m' c = arrs m c := by
  have e0 := (Cert.ReferenceIdeal.Gen.V_main_arg0 m' c).trans (h0.trans (Cert.KernelIdeal.Gen.V_main_arg0 m c).symm)
  have e1 := (Cert.ReferenceIdeal.Gen.V_main_arg1 m' c).trans (h1.trans (Cert.KernelIdeal.Gen.V_main_arg1 m c).symm)
  have e2 := (Cert.ReferenceIdeal.Gen.V_main_arg2 m' c).trans (h2.trans (Cert.KernelIdeal.Gen.V_main_arg2 m c).symm)
  have e3 := (Cert.ReferenceIdeal.Gen.V_main_arg3 m' c).trans (h3.trans (Cert.KernelIdeal.Gen.V_main_arg3 m c).symm)
  have e4 := (V_v0' m' c).trans ((congrArg decode h4).trans (V_v0 m c).symm)
  have e5 := (Cert.ReferenceIdeal.Gen.V_main_arg5 m' c).trans (h5.trans (Cert.KernelIdeal.Gen.V_main_arg5 m c).symm)
  exact arrays_ext e0 e1 e2 e3 e4 e5

/-- The precondition makes the arrays fine. -/
theorem fine (m : (ℓ : Loc Cert.KernelIdeal.nD Cert.KernelIdeal.τ Cert.KernelIdeal.sig) → Buf (Elt Ideal) ℓ) (hm : Cert.Pre_KernelIdeal_finite m)
    (c : Dev Cert.KernelIdeal.nD) : Fine (arrs m c) := by
  obtain ⟨h1, h2, h3⟩ := pre_read _ _ _ _ _ _ (hm c)
  have e1 : (arrs m c).xs = m ((c.tc : Thread Cert.KernelIdeal.nD Cert.KernelIdeal.τ).loc Cert.KernelIdeal.main_arg1) := Cert.KernelIdeal.Gen.V_main_arg1 m c
  have e4 : (arrs m c).v = decode (m ((c.tc : Thread Cert.KernelIdeal.nD Cert.KernelIdeal.τ).loc Cert.KernelIdeal.main_arg4)) := V_v0 m c
  have e5 : (arrs m c).vs = m ((c.tc : Thread Cert.KernelIdeal.nD Cert.KernelIdeal.τ).loc Cert.KernelIdeal.main_arg5) := Cert.KernelIdeal.Gen.V_main_arg5 m c
  refine ⟨fun y => ?_, fun y => ?_, fun y => ?_⟩
  · rw [e1]
    exact h1 y
  · rw [e4]
    exact code_real _ (h2 y).1 (h2 y).2
  · rw [e5]
    exact h3 y

/-- The kernel over the extended reals and the reference over them end with the same two arrays. -/
theorem algebraic : Cert.algebraic_KernelIdeal_ReferenceIdeal_pre_finite := by
  intro m g m' g' hm hargs
  have hD := fine m hm
  refine ⟨fun c => kCodes (arrs m c), fun c => kScales (arrs m c), ?_, ?_⟩
  · refine run_values m g (fun c y => ?_) fun c => fill_range (arrs m c) (hD c)
    obtain ⟨r, hr, e⟩ := (hD c).xs y
    rw [e]
    exact EReal.coe_pos.2 hr
  · refine (θ_run _ _ _).mono (fun r h c => ?_) (Cert.ReferenceIdeal.Proof.run_values m' g')
    obtain ⟨a0, a1, a2, a3, a4, a5⟩ := hargs c
    have e := arrs_same m m' c a0 a1 a2 a3 a4 a5
    obtain ⟨r0, r1, rest⟩ := h c
    refine ⟨r0.trans ?_, r1.trans ?_, rest⟩
    · rw [e]
      exact (codes_same (arrs m c) (hD c)).symm
    · rw [e]
      exact (scales_same (arrs m c) (hD c)).symm

end Cert.KernelIdeal.Proof
-- ==== Proof.lean ====
/- The certificate: memory safety of the kernel, of the kernel over the extended reals and of the reference, the named
   constant, and that the kernel and the reference, both over the extended reals, give the same results. -/
module

public import proofs.«01_k».proof.Defs
public import proofs.«01_k».proof.Proof.K.Frame
public import proofs.«01_k».proof.Proof.KI.Frame
public import proofs.«01_k».proof.Proof.Gen.ReferenceIdeal.Frame
public import proofs.«01_k».proof.Proof.Gen.ReferenceIdeal.Value
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.V.Main

open Idealize.ShloMosaic

public section

theorem Cert.Proof.claim : Cert.Claim :=
  ⟨Cert.Kernel.Gen.facts, Cert.KernelIdeal.Gen.facts, Cert.ReferenceIdeal.Gen.facts, Cert.Pre_finite.Gen.facts,
    fun m g _ => Cert.Kernel.Proof.quiescent m g,
    fun m g _ => Cert.KernelIdeal.Proof.quiescent m g,
    fun m g _ => Cert.KernelIdeal.Proof.quiescent m g,
    fun m g _ => Cert.ReferenceIdeal.Gen.frame m g,
    fun m g _ => Cert.ReferenceIdeal.Gen.frame m g,
    IdealRules.named_const.statement Cert.KernelIdeal.κ "log2e_inv_sqrt_d" .f32 0x3E0293EE#32 _ rfl,
    Cert.KernelIdeal.Proof.algebraic⟩
